-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S_ : Shape := ⟨0, ![]⟩
abbrev S1 : Shape := ⟨1, ![1]⟩
abbrev S2 : Shape := ⟨1, ![2]⟩
abbrev S54 : Shape := ⟨1, ![54]⟩
abbrev S54x1 : Shape := ⟨2, ![54, 1]⟩
abbrev S54x2 : Shape := ⟨2, ![54, 2]⟩
abbrev S16384x512 : Shape := ⟨2, ![16384, 512]⟩
abbrev S16384x1 : Shape := ⟨2, ![16384, 1]⟩
abbrev S16384 : Shape := ⟨1, ![16384]⟩
abbrev S1024x128 : Shape := ⟨2, ![1024, 128]⟩
abbrev S1024x512 : Shape := ⟨2, ![1024, 512]⟩
abbrev S1024x1 : Shape := ⟨2, ![1024, 1]⟩
abbrev S1024 : Shape := ⟨1, ![1024]⟩
abbrev S1x1 : Shape := ⟨2, ![1, 1]⟩
abbrev S1x1024x1 : Shape := ⟨3, ![1, 1024, 1]⟩
abbrev S1x1x1 : Shape := ⟨3, ![1, 1, 1]⟩

abbrev nBuf : Space → Nat
  | .hbm => 288
  | .vmem => 14
  | .smem => 2
  | _ => 0

abbrev hbmTy0_0 (i : Nat) : BufTy := match i % 128 with
  | 0 => ⟨S16384x128, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S54, .i64⟩
  | 16 => ⟨S_, .i64⟩
  | 17 => ⟨S54, .i64⟩
  | 18 => ⟨S54, .i64⟩
  | 19 => ⟨S_, .i64⟩
  | 20 => ⟨S54, .i64⟩
  | 21 => ⟨S54, .i64⟩
  | 22 => ⟨S54, .i32⟩
  | 23 => ⟨S54, .i32⟩
  | 24 => ⟨S_, .i32⟩
  | 25 => ⟨S_, .i32⟩
  | 26 => ⟨S_, .i32⟩
  | 27 => ⟨S54, .i32⟩
  | 28 => ⟨S54, .i32⟩
  | 29 => ⟨S54, .i32⟩
  | 30 => ⟨S54, .i32⟩
  | 31 => ⟨S54, .i32⟩
  | 32 => ⟨S_, .i32⟩
  | 33 => ⟨S54, .i32⟩
  | 34 => ⟨S54, .i32⟩
  | 35 => ⟨S_, .i32⟩
  | 36 => ⟨S54, .i32⟩
  | 37 => ⟨S54, .i32⟩
  | 38 => ⟨S54, .i32⟩
  | 39 => ⟨S54, .i32⟩
  | 40 => ⟨S54, .i32⟩
  | 41 => ⟨S_, .i32⟩
  | 42 => ⟨S54, .i32⟩
  | 43 => ⟨S54, .i32⟩
  | 44 => ⟨S_, .i32⟩
  | 45 => ⟨S54, .i32⟩
  | 46 => ⟨S54, .i32⟩
  | 47 => ⟨S54, .i32⟩
  | 48 => ⟨S54, .i32⟩
  | 49 => ⟨S54, .i32⟩
  | 50 => ⟨S_, .i32⟩
  | 51 => ⟨S54, .i32⟩
  | 52 => ⟨S54, .i32⟩
  | 53 => ⟨S_, .i32⟩
  | 54 => ⟨S54, .i32⟩
  | 55 => ⟨S54, .i32⟩
  | 56 => ⟨S54, .i32⟩
  | 57 => ⟨S54, .i32⟩
  | 58 => ⟨S54, .i32⟩
  | 59 => ⟨S_, .i32⟩
  | 60 => ⟨S54, .i32⟩
  | 61 => ⟨S54, .i32⟩
  | 62 => ⟨S_, .i32⟩
  | 63 => ⟨S54, .i32⟩
  | 64 => ⟨S54, .i32⟩
  | 65 => ⟨S54, .i32⟩
  | 66 => ⟨S54, .i32⟩
  | 67 => ⟨S54, .i32⟩
  | 68 => ⟨S54, .i32⟩
  | 69 => ⟨S54, .i32⟩
  | 70 => ⟨S54, .i32⟩
  | 71 => ⟨S_, .i32⟩
  | 72 => ⟨S54, .i32⟩
  | 73 => ⟨S54, .i32⟩
  | 74 => ⟨S54, .i32⟩
  | 75 => ⟨S_, .i32⟩
  | 76 => ⟨S54, .i32⟩
  | 77 => ⟨S54, .i32⟩
  | 78 => ⟨S_, .i32⟩
  | 79 => ⟨S54, .i32⟩
  | 80 => ⟨S54, .i32⟩
  | 81 => ⟨S54, .i32⟩
  | 82 => ⟨S54, .i32⟩
  | 83 => ⟨S54, .i32⟩
  | 84 => ⟨S_, .i32⟩
  | 85 => ⟨S54, .i32⟩
  | 86 => ⟨S54, .i32⟩
  | 87 => ⟨S_, .i32⟩
  | 88 => ⟨S54, .i32⟩
  | 89 => ⟨S54, .i32⟩
  | 90 => ⟨S54, .i32⟩
  | 91 => ⟨S54, .i32⟩
  | 92 => ⟨S54, .i32⟩
  | 93 => ⟨S_, .i32⟩
  | 94 => ⟨S54, .i32⟩
  | 95 => ⟨S54, .i32⟩
  | 96 => ⟨S_, .i32⟩
  | 97 => ⟨S54, .i32⟩
  | 98 => ⟨S54, .i32⟩
  | 99 => ⟨S54, .i32⟩
  | 100 => ⟨S54, .i32⟩
  | 101 => ⟨S54, .i32⟩
  | 102 => ⟨S_, .i32⟩
  | 103 => ⟨S54, .i32⟩
  | 104 => ⟨S54, .i32⟩
  | 105 => ⟨S_, .i32⟩
  | 106 => ⟨S54, .i32⟩
  | 107 => ⟨S54, .i32⟩
  | 108 => ⟨S54, .i32⟩
  | 109 => ⟨S54, .i32⟩
  | 110 => ⟨S54, .i32⟩
  | 111 => ⟨S54, .i32⟩
  | 112 => ⟨S54, .i32⟩
  | 113 => ⟨S54, .i32⟩
  | 114 => ⟨S_, .i32⟩
  | 115 => ⟨S54, .i32⟩
  | 116 => ⟨S54, .i32⟩
  | 117 => ⟨S54, .i32⟩
  | 118 => ⟨S_, .i32⟩
  | 119 => ⟨S54, .i32⟩
  | 120 => ⟨S54, .i32⟩
  | 121 => ⟨S_, .i32⟩
  | 122 => ⟨S54, .i32⟩
  | 123 => ⟨S54, .i32⟩
  | 124 => ⟨S54, .i32⟩
  | 125 => ⟨S54, .i32⟩
  | 126 => ⟨S54, .i32⟩
  | 127 => ⟨S_, .i32⟩
  | _ => ⟨S16384x128, .f32⟩

abbrev hbmTy0_1 (i : Nat) : BufTy := match i % 128 with
  | 0 => ⟨S54, .i32⟩
  | 1 => ⟨S54, .i32⟩
  | 2 => ⟨S_, .i32⟩
  | 3 => ⟨S54, .i32⟩
  | 4 => ⟨S54, .i32⟩
  | 5 => ⟨S54, .i32⟩
  | 6 => ⟨S54, .i32⟩
  | 7 => ⟨S54, .i32⟩
  | 8 => ⟨S_, .i32⟩
  | 9 => ⟨S54, .i32⟩
  | 10 => ⟨S54, .i32⟩
  | 11 => ⟨S_, .i32⟩
  | 12 => ⟨S54, .i32⟩
  | 13 => ⟨S54, .i32⟩
  | 14 => ⟨S54, .i32⟩
  | 15 => ⟨S54, .i32⟩
  | 16 => ⟨S54, .i32⟩
  | 17 => ⟨S_, .i32⟩
  | 18 => ⟨S54, .i32⟩
  | 19 => ⟨S54, .i32⟩
  | 20 => ⟨S_, .i32⟩
  | 21 => ⟨S54, .i32⟩
  | 22 => ⟨S54, .i32⟩
  | 23 => ⟨S54, .i32⟩
  | 24 => ⟨S54, .i32⟩
  | 25 => ⟨S54, .i32⟩
  | 26 => ⟨S54, .i32⟩
  | 27 => ⟨S54, .i32⟩
  | 28 => ⟨S54, .i32⟩
  | 29 => ⟨S_, .i32⟩
  | 30 => ⟨S54, .i32⟩
  | 31 => ⟨S54, .i32⟩
  | 32 => ⟨S54, .i32⟩
  | 33 => ⟨S_, .i32⟩
  | 34 => ⟨S54, .i32⟩
  | 35 => ⟨S54, .i32⟩
  | 36 => ⟨S_, .i32⟩
  | 37 => ⟨S54, .i32⟩
  | 38 => ⟨S54, .i32⟩
  | 39 => ⟨S54, .i32⟩
  | 40 => ⟨S54, .i32⟩
  | 41 => ⟨S54, .i32⟩
  | 42 => ⟨S_, .i32⟩
  | 43 => ⟨S54, .i32⟩
  | 44 => ⟨S54, .i32⟩
  | 45 => ⟨S_, .i32⟩
  | 46 => ⟨S54, .i32⟩
  | 47 => ⟨S54, .i32⟩
  | 48 => ⟨S54, .i32⟩
  | 49 => ⟨S54, .i32⟩
  | 50 => ⟨S54, .i32⟩
  | 51 => ⟨S_, .i32⟩
  | 52 => ⟨S54, .i32⟩
  | 53 => ⟨S54, .i32⟩
  | 54 => ⟨S_, .i32⟩
  | 55 => ⟨S54, .i32⟩
  | 56 => ⟨S54, .i32⟩
  | 57 => ⟨S54, .i32⟩
  | 58 => ⟨S54, .i32⟩
  | 59 => ⟨S54, .i32⟩
  | 60 => ⟨S_, .i32⟩
  | 61 => ⟨S54, .i32⟩
  | 62 => ⟨S54, .i32⟩
  | 63 => ⟨S_, .i32⟩
  | 64 => ⟨S54, .i32⟩
  | 65 => ⟨S54, .i32⟩
  | 66 => ⟨S54, .i32⟩
  | 67 => ⟨S54, .i32⟩
  | 68 => ⟨S54, .i32⟩
  | 69 => ⟨S54, .i32⟩
  | 70 => ⟨S54, .i32⟩
  | 71 => ⟨S54, .i32⟩
  | 72 => ⟨S_, .i32⟩
  | 73 => ⟨S54, .i32⟩
  | 74 => ⟨S54, .i32⟩
  | 75 => ⟨S54, .i32⟩
  | 76 => ⟨S_, .i32⟩
  | 77 => ⟨S54, .i32⟩
  | 78 => ⟨S54, .i32⟩
  | 79 => ⟨S_, .i32⟩
  | 80 => ⟨S54, .i32⟩
  | 81 => ⟨S54, .i32⟩
  | 82 => ⟨S54, .i32⟩
  | 83 => ⟨S54, .i32⟩
  | 84 => ⟨S54, .i32⟩
  | 85 => ⟨S_, .i32⟩
  | 86 => ⟨S54, .i32⟩
  | 87 => ⟨S54, .i32⟩
  | 88 => ⟨S_, .i32⟩
  | 89 => ⟨S54, .i32⟩
  | 90 => ⟨S54, .i32⟩
  | 91 => ⟨S54, .i32⟩
  | 92 => ⟨S54, .i32⟩
  | 93 => ⟨S54, .i32⟩
  | 94 => ⟨S_, .i32⟩
  | 95 => ⟨S54, .i32⟩
  | 96 => ⟨S54, .i32⟩
  | 97 => ⟨S_, .i32⟩
  | 98 => ⟨S54, .i32⟩
  | 99 => ⟨S54, .i32⟩
  | 100 => ⟨S54, .i32⟩
  | 101 => ⟨S54, .i32⟩
  | 102 => ⟨S54, .i32⟩
  | 103 => ⟨S_, .i32⟩
  | 104 => ⟨S54, .i32⟩
  | 105 => ⟨S54, .i32⟩
  | 106 => ⟨S_, .i32⟩
  | 107 => ⟨S54, .i32⟩
  | 108 => ⟨S54, .i32⟩
  | 109 => ⟨S54, .i32⟩
  | 110 => ⟨S54, .i32⟩
  | 111 => ⟨S54, .i32⟩
  | 112 => ⟨S54, .i32⟩
  | 113 => ⟨S54, .i32⟩
  | 114 => ⟨S54, .i32⟩
  | 115 => ⟨S_, .i32⟩
  | 116 => ⟨S54, .i32⟩
  | 117 => ⟨S54, .i32⟩
  | 118 => ⟨S54x1, .i32⟩
  | 119 => ⟨S54x1, .i32⟩
  | 120 => ⟨S54x2, .i32⟩
  | 121 => ⟨S16384x512, .f32⟩
  | 122 => ⟨S16384x1, .f32⟩
  | 123 => ⟨S16384, .f32⟩
  | 124 => ⟨S16384, .f32⟩
  | 125 => ⟨S16384, .i32⟩
  | 126 => ⟨S16384, .f32⟩
  | 127 => ⟨S16384, .i32⟩
  | _ => ⟨S16384x128, .f32⟩

abbrev hbmTy0_2 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x512, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x1, .f32⟩
  | 21 => ⟨S16384x1, .i32⟩
  | 22 => ⟨S16384x128, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384x128, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x512, .f32⟩
  | .local _ .vmem, ⟨7, _⟩ => ⟨S1024x512, .f32⟩
  | .local _ .vmem, ⟨8, _⟩ => ⟨S1024x1, .f32⟩
  | .local _ .vmem, ⟨9, _⟩ => ⟨S1024x1, .f32⟩
  | .local _ .vmem, ⟨10, _⟩ => ⟨S1024x1, .i32⟩
  | .local _ .vmem, ⟨11, _⟩ => ⟨S1024x1, .i32⟩
  | .local _ .vmem, ⟨12, _⟩ => ⟨S1024x128, .f32⟩
  | .local _ .vmem, ⟨13, _⟩ => ⟨S1024x128, .f32⟩
  | .local _ .smem, ⟨0, _⟩ => ⟨S54x2, .i32⟩
  | .local _ .smem, ⟨1, _⟩ => ⟨S54x2, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c_1 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_c : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_c_0 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_call0_v0 : Ref sig .tc := ⟨.hbm, 24, rfl⟩
abbrev main_call0_call0_call0_c : Ref sig .tc := ⟨.hbm, 25, rfl⟩
abbrev main_call0_call0_call0_v1 : Ref sig .tc := ⟨.hbm, 26, rfl⟩
abbrev main_call0_call0_call0_v2 : Ref sig .tc := ⟨.hbm, 27, rfl⟩
abbrev main_call0_call0_call0_v3 : Ref sig .tc := ⟨.hbm, 28, rfl⟩
abbrev main_call0_call0_call0_v4 : Ref sig .tc := ⟨.hbm, 29, rfl⟩
abbrev main_call0_call0_call0_v5 : Ref sig .tc := ⟨.hbm, 30, rfl⟩
abbrev main_call0_call0_call0_v6 : Ref sig .tc := ⟨.hbm, 31, rfl⟩
abbrev main_call0_call0_call0_c_0 : Ref sig .tc := ⟨.hbm, 32, rfl⟩
abbrev main_call0_call0_call0_v7 : Ref sig .tc := ⟨.hbm, 33, rfl⟩
abbrev main_call0_call0_call0_v8 : Ref sig .tc := ⟨.hbm, 34, rfl⟩
abbrev main_call0_call0_call0_c_1 : Ref sig .tc := ⟨.hbm, 35, rfl⟩
abbrev main_call0_call0_call0_v9 : Ref sig .tc := ⟨.hbm, 36, rfl⟩
abbrev main_call0_call0_call0_v10 : Ref sig .tc := ⟨.hbm, 37, rfl⟩
abbrev main_call0_call0_call0_v11 : Ref sig .tc := ⟨.hbm, 38, rfl⟩
abbrev main_call0_call0_call0_v12 : Ref sig .tc := ⟨.hbm, 39, rfl⟩
abbrev main_call0_call0_call0_v13 : Ref sig .tc := ⟨.hbm, 40, rfl⟩
abbrev main_call0_call0_call0_c_2 : Ref sig .tc := ⟨.hbm, 41, rfl⟩
abbrev main_call0_call0_call0_v14 : Ref sig .tc := ⟨.hbm, 42, rfl⟩
abbrev main_call0_call0_call0_v15 : Ref sig .tc := ⟨.hbm, 43, rfl⟩
abbrev main_call0_call0_call0_c_3 : Ref sig .tc := ⟨.hbm, 44, rfl⟩
abbrev main_call0_call0_call0_v16 : Ref sig .tc := ⟨.hbm, 45, rfl⟩
abbrev main_call0_call0_call0_v17 : Ref sig .tc := ⟨.hbm, 46, rfl⟩
abbrev main_call0_call0_call0_v18 : Ref sig .tc := ⟨.hbm, 47, rfl⟩
abbrev main_call0_call0_call0_v19 : Ref sig .tc := ⟨.hbm, 48, rfl⟩
abbrev main_call0_call0_call0_v20 : Ref sig .tc := ⟨.hbm, 49, rfl⟩
abbrev main_call0_call0_call0_c_4 : Ref sig .tc := ⟨.hbm, 50, rfl⟩
abbrev main_call0_call0_call0_v21 : Ref sig .tc := ⟨.hbm, 51, rfl⟩
abbrev main_call0_call0_call0_v22 : Ref sig .tc := ⟨.hbm, 52, rfl⟩
abbrev main_call0_call0_call0_c_5 : Ref sig .tc := ⟨.hbm, 53, rfl⟩
abbrev main_call0_call0_call0_v23 : Ref sig .tc := ⟨.hbm, 54, rfl⟩
abbrev main_call0_call0_call0_v24 : Ref sig .tc := ⟨.hbm, 55, rfl⟩
abbrev main_call0_call0_call0_v25 : Ref sig .tc := ⟨.hbm, 56, rfl⟩
abbrev main_call0_call0_call0_v26 : Ref sig .tc := ⟨.hbm, 57, rfl⟩
abbrev main_call0_call0_call0_v27 : Ref sig .tc := ⟨.hbm, 58, rfl⟩
abbrev main_call0_call0_call0_c_6 : Ref sig .tc := ⟨.hbm, 59, rfl⟩
abbrev main_call0_call0_call0_v28 : Ref sig .tc := ⟨.hbm, 60, rfl⟩
abbrev main_call0_call0_call0_v29 : Ref sig .tc := ⟨.hbm, 61, rfl⟩
abbrev main_call0_call0_call0_c_7 : Ref sig .tc := ⟨.hbm, 62, rfl⟩
abbrev main_call0_call0_call0_v30 : Ref sig .tc := ⟨.hbm, 63, rfl⟩
abbrev main_call0_call0_call0_v31 : Ref sig .tc := ⟨.hbm, 64, rfl⟩
abbrev main_call0_call0_call0_v32 : Ref sig .tc := ⟨.hbm, 65, rfl⟩
abbrev main_call0_call0_call0_v33 : Ref sig .tc := ⟨.hbm, 66, rfl⟩
abbrev main_call0_call0_call0_v34 : Ref sig .tc := ⟨.hbm, 67, rfl⟩
abbrev main_call0_call0_call0_v35 : Ref sig .tc := ⟨.hbm, 68, rfl⟩
abbrev main_call0_call0_call0_v36 : Ref sig .tc := ⟨.hbm, 69, rfl⟩
abbrev main_call0_call0_call0_v37 : Ref sig .tc := ⟨.hbm, 70, rfl⟩
abbrev main_call0_call0_call0_c_8 : Ref sig .tc := ⟨.hbm, 71, rfl⟩
abbrev main_call0_call0_call0_v38 : Ref sig .tc := ⟨.hbm, 72, rfl⟩
abbrev main_call0_call0_call0_v39 : Ref sig .tc := ⟨.hbm, 73, rfl⟩
abbrev main_call0_call0_call0_v40 : Ref sig .tc := ⟨.hbm, 74, rfl⟩
abbrev main_call0_call0_call0_c_9 : Ref sig .tc := ⟨.hbm, 75, rfl⟩
abbrev main_call0_call0_call0_v41 : Ref sig .tc := ⟨.hbm, 76, rfl⟩
abbrev main_call0_call0_call0_v42 : Ref sig .tc := ⟨.hbm, 77, rfl⟩
abbrev main_call0_call0_call0_c_10 : Ref sig .tc := ⟨.hbm, 78, rfl⟩
abbrev main_call0_call0_call0_v43 : Ref sig .tc := ⟨.hbm, 79, rfl⟩
abbrev main_call0_call0_call0_v44 : Ref sig .tc := ⟨.hbm, 80, rfl⟩
abbrev main_call0_call0_call0_v45 : Ref sig .tc := ⟨.hbm, 81, rfl⟩
abbrev main_call0_call0_call0_v46 : Ref sig .tc := ⟨.hbm, 82, rfl⟩
abbrev main_call0_call0_call0_v47 : Ref sig .tc := ⟨.hbm, 83, rfl⟩
abbrev main_call0_call0_call0_c_11 : Ref sig .tc := ⟨.hbm, 84, rfl⟩
abbrev main_call0_call0_call0_v48 : Ref sig .tc := ⟨.hbm, 85, rfl⟩
abbrev main_call0_call0_call0_v49 : Ref sig .tc := ⟨.hbm, 86, rfl⟩
abbrev main_call0_call0_call0_c_12 : Ref sig .tc := ⟨.hbm, 87, rfl⟩
abbrev main_call0_call0_call0_v50 : Ref sig .tc := ⟨.hbm, 88, rfl⟩
abbrev main_call0_call0_call0_v51 : Ref sig .tc := ⟨.hbm, 89, rfl⟩
abbrev main_call0_call0_call0_v52 : Ref sig .tc := ⟨.hbm, 90, rfl⟩
abbrev main_call0_call0_call0_v53 : Ref sig .tc := ⟨.hbm, 91, rfl⟩
abbrev main_call0_call0_call0_v54 : Ref sig .tc := ⟨.hbm, 92, rfl⟩
abbrev main_call0_call0_call0_c_13 : Ref sig .tc := ⟨.hbm, 93, rfl⟩
abbrev main_call0_call0_call0_v55 : Ref sig .tc := ⟨.hbm, 94, rfl⟩
abbrev main_call0_call0_call0_v56 : Ref sig .tc := ⟨.hbm, 95, rfl⟩
abbrev main_call0_call0_call0_c_14 : Ref sig .tc := ⟨.hbm, 96, rfl⟩
abbrev main_call0_call0_call0_v57 : Ref sig .tc := ⟨.hbm, 97, rfl⟩
abbrev main_call0_call0_call0_v58 : Ref sig .tc := ⟨.hbm, 98, rfl⟩
abbrev main_call0_call0_call0_v59 : Ref sig .tc := ⟨.hbm, 99, rfl⟩
abbrev main_call0_call0_call0_v60 : Ref sig .tc := ⟨.hbm, 100, rfl⟩
abbrev main_call0_call0_call0_v61 : Ref sig .tc := ⟨.hbm, 101, rfl⟩
abbrev main_call0_call0_call0_c_15 : Ref sig .tc := ⟨.hbm, 102, rfl⟩
abbrev main_call0_call0_call0_v62 : Ref sig .tc := ⟨.hbm, 103, rfl⟩
abbrev main_call0_call0_call0_v63 : Ref sig .tc := ⟨.hbm, 104, rfl⟩
abbrev main_call0_call0_call0_c_16 : Ref sig .tc := ⟨.hbm, 105, rfl⟩
abbrev main_call0_call0_call0_v64 : Ref sig .tc := ⟨.hbm, 106, rfl⟩
abbrev main_call0_call0_call0_v65 : Ref sig .tc := ⟨.hbm, 107, rfl⟩
abbrev main_call0_call0_call0_v66 : Ref sig .tc := ⟨.hbm, 108, rfl⟩
abbrev main_call0_call0_call0_v67 : Ref sig .tc := ⟨.hbm, 109, rfl⟩
abbrev main_call0_call0_call0_v68 : Ref sig .tc := ⟨.hbm, 110, rfl⟩
abbrev main_call0_call0_call0_v69 : Ref sig .tc := ⟨.hbm, 111, rfl⟩
abbrev main_call0_call0_call0_v70 : Ref sig .tc := ⟨.hbm, 112, rfl⟩
abbrev main_call0_call0_call0_v71 : Ref sig .tc := ⟨.hbm, 113, rfl⟩
abbrev main_call0_call0_call0_c_17 : Ref sig .tc := ⟨.hbm, 114, rfl⟩
abbrev main_call0_call0_call0_v72 : Ref sig .tc := ⟨.hbm, 115, rfl⟩
abbrev main_call0_call0_call0_v73 : Ref sig .tc := ⟨.hbm, 116, rfl⟩
abbrev main_call0_call0_call0_v74 : Ref sig .tc := ⟨.hbm, 117, rfl⟩
abbrev main_call0_call0_call0_c_18 : Ref sig .tc := ⟨.hbm, 118, rfl⟩
abbrev main_call0_call0_call0_v75 : Ref sig .tc := ⟨.hbm, 119, rfl⟩
abbrev main_call0_call0_call0_v76 : Ref sig .tc := ⟨.hbm, 120, rfl⟩
abbrev main_call0_call0_call0_c_19 : Ref sig .tc := ⟨.hbm, 121, rfl⟩
abbrev main_call0_call0_call0_v77 : Ref sig .tc := ⟨.hbm, 122, rfl⟩
abbrev main_call0_call0_call0_v78 : Ref sig .tc := ⟨.hbm, 123, rfl⟩
abbrev main_call0_call0_call0_v79 : Ref sig .tc := ⟨.hbm, 124, rfl⟩
abbrev main_call0_call0_call0_v80 : Ref sig .tc := ⟨.hbm, 125, rfl⟩
abbrev main_call0_call0_call0_v81 : Ref sig .tc := ⟨.hbm, 126, rfl⟩
abbrev main_call0_call0_call0_c_20 : Ref sig .tc := ⟨.hbm, 127, rfl⟩
abbrev main_call0_call0_call0_v82 : Ref sig .tc := ⟨.hbm, 128, rfl⟩
abbrev main_call0_call0_call0_v83 : Ref sig .tc := ⟨.hbm, 129, rfl⟩
abbrev main_call0_call0_call0_c_21 : Ref sig .tc := ⟨.hbm, 130, rfl⟩
abbrev main_call0_call0_call0_v84 : Ref sig .tc := ⟨.hbm, 131, rfl⟩
abbrev main_call0_call0_call0_v85 : Ref sig .tc := ⟨.hbm, 132, rfl⟩
abbrev main_call0_call0_call0_v86 : Ref sig .tc := ⟨.hbm, 133, rfl⟩
abbrev main_call0_call0_call0_v87 : Ref sig .tc := ⟨.hbm, 134, rfl⟩
abbrev main_call0_call0_call0_v88 : Ref sig .tc := ⟨.hbm, 135, rfl⟩
abbrev main_call0_call0_call0_c_22 : Ref sig .tc := ⟨.hbm, 136, rfl⟩
abbrev main_call0_call0_call0_v89 : Ref sig .tc := ⟨.hbm, 137, rfl⟩
abbrev main_call0_call0_call0_v90 : Ref sig .tc := ⟨.hbm, 138, rfl⟩
abbrev main_call0_call0_call0_c_23 : Ref sig .tc := ⟨.hbm, 139, rfl⟩
abbrev main_call0_call0_call0_v91 : Ref sig .tc := ⟨.hbm, 140, rfl⟩
abbrev main_call0_call0_call0_v92 : Ref sig .tc := ⟨.hbm, 141, rfl⟩
abbrev main_call0_call0_call0_v93 : Ref sig .tc := ⟨.hbm, 142, rfl⟩
abbrev main_call0_call0_call0_v94 : Ref sig .tc := ⟨.hbm, 143, rfl⟩
abbrev main_call0_call0_call0_v95 : Ref sig .tc := ⟨.hbm, 144, rfl⟩
abbrev main_call0_call0_call0_c_24 : Ref sig .tc := ⟨.hbm, 145, rfl⟩
abbrev main_call0_call0_call0_v96 : Ref sig .tc := ⟨.hbm, 146, rfl⟩
abbrev main_call0_call0_call0_v97 : Ref sig .tc := ⟨.hbm, 147, rfl⟩
abbrev main_call0_call0_call0_c_25 : Ref sig .tc := ⟨.hbm, 148, rfl⟩
abbrev main_call0_call0_call0_v98 : Ref sig .tc := ⟨.hbm, 149, rfl⟩
abbrev main_call0_call0_call0_v99 : Ref sig .tc := ⟨.hbm, 150, rfl⟩
abbrev main_call0_call0_call0_v100 : Ref sig .tc := ⟨.hbm, 151, rfl⟩
abbrev main_call0_call0_call0_v101 : Ref sig .tc := ⟨.hbm, 152, rfl⟩
abbrev main_call0_call0_call0_v102 : Ref sig .tc := ⟨.hbm, 153, rfl⟩
abbrev main_call0_call0_call0_v103 : Ref sig .tc := ⟨.hbm, 154, rfl⟩
abbrev main_call0_call0_call0_v104 : Ref sig .tc := ⟨.hbm, 155, rfl⟩
abbrev main_call0_call0_call0_v105 : Ref sig .tc := ⟨.hbm, 156, rfl⟩
abbrev main_call0_call0_call0_c_26 : Ref sig .tc := ⟨.hbm, 157, rfl⟩
abbrev main_call0_call0_call0_v106 : Ref sig .tc := ⟨.hbm, 158, rfl⟩
abbrev main_call0_call0_call0_v107 : Ref sig .tc := ⟨.hbm, 159, rfl⟩
abbrev main_call0_call0_call0_v108 : Ref sig .tc := ⟨.hbm, 160, rfl⟩
abbrev main_call0_call0_call0_c_27 : Ref sig .tc := ⟨.hbm, 161, rfl⟩
abbrev main_call0_call0_call0_v109 : Ref sig .tc := ⟨.hbm, 162, rfl⟩
abbrev main_call0_call0_call0_v110 : Ref sig .tc := ⟨.hbm, 163, rfl⟩
abbrev main_call0_call0_call0_c_28 : Ref sig .tc := ⟨.hbm, 164, rfl⟩
abbrev main_call0_call0_call0_v111 : Ref sig .tc := ⟨.hbm, 165, rfl⟩
abbrev main_call0_call0_call0_v112 : Ref sig .tc := ⟨.hbm, 166, rfl⟩
abbrev main_call0_call0_call0_v113 : Ref sig .tc := ⟨.hbm, 167, rfl⟩
abbrev main_call0_call0_call0_v114 : Ref sig .tc := ⟨.hbm, 168, rfl⟩
abbrev main_call0_call0_call0_v115 : Ref sig .tc := ⟨.hbm, 169, rfl⟩
abbrev main_call0_call0_call0_c_29 : Ref sig .tc := ⟨.hbm, 170, rfl⟩
abbrev main_call0_call0_call0_v116 : Ref sig .tc := ⟨.hbm, 171, rfl⟩
abbrev main_call0_call0_call0_v117 : Ref sig .tc := ⟨.hbm, 172, rfl⟩
abbrev main_call0_call0_call0_c_30 : Ref sig .tc := ⟨.hbm, 173, rfl⟩
abbrev main_call0_call0_call0_v118 : Ref sig .tc := ⟨.hbm, 174, rfl⟩
abbrev main_call0_call0_call0_v119 : Ref sig .tc := ⟨.hbm, 175, rfl⟩
abbrev main_call0_call0_call0_v120 : Ref sig .tc := ⟨.hbm, 176, rfl⟩
abbrev main_call0_call0_call0_v121 : Ref sig .tc := ⟨.hbm, 177, rfl⟩
abbrev main_call0_call0_call0_v122 : Ref sig .tc := ⟨.hbm, 178, rfl⟩
abbrev main_call0_call0_call0_c_31 : Ref sig .tc := ⟨.hbm, 179, rfl⟩
abbrev main_call0_call0_call0_v123 : Ref sig .tc := ⟨.hbm, 180, rfl⟩
abbrev main_call0_call0_call0_v124 : Ref sig .tc := ⟨.hbm, 181, rfl⟩
abbrev main_call0_call0_call0_c_32 : Ref sig .tc := ⟨.hbm, 182, rfl⟩
abbrev main_call0_call0_call0_v125 : Ref sig .tc := ⟨.hbm, 183, rfl⟩
abbrev main_call0_call0_call0_v126 : Ref sig .tc := ⟨.hbm, 184, rfl⟩
abbrev main_call0_call0_call0_v127 : Ref sig .tc := ⟨.hbm, 185, rfl⟩
abbrev main_call0_call0_call0_v128 : Ref sig .tc := ⟨.hbm, 186, rfl⟩
abbrev main_call0_call0_call0_v129 : Ref sig .tc := ⟨.hbm, 187, rfl⟩
abbrev main_call0_call0_call0_c_33 : Ref sig .tc := ⟨.hbm, 188, rfl⟩
abbrev main_call0_call0_call0_v130 : Ref sig .tc := ⟨.hbm, 189, rfl⟩
abbrev main_call0_call0_call0_v131 : Ref sig .tc := ⟨.hbm, 190, rfl⟩
abbrev main_call0_call0_call0_c_34 : Ref sig .tc := ⟨.hbm, 191, rfl⟩
abbrev main_call0_call0_call0_v132 : Ref sig .tc := ⟨.hbm, 192, rfl⟩
abbrev main_call0_call0_call0_v133 : Ref sig .tc := ⟨.hbm, 193, rfl⟩
abbrev main_call0_call0_call0_v134 : Ref sig .tc := ⟨.hbm, 194, rfl⟩
abbrev main_call0_call0_call0_v135 : Ref sig .tc := ⟨.hbm, 195, rfl⟩
abbrev main_call0_call0_call0_v136 : Ref sig .tc := ⟨.hbm, 196, rfl⟩
abbrev main_call0_call0_call0_v137 : Ref sig .tc := ⟨.hbm, 197, rfl⟩
abbrev main_call0_call0_call0_v138 : Ref sig .tc := ⟨.hbm, 198, rfl⟩
abbrev main_call0_call0_call0_v139 : Ref sig .tc := ⟨.hbm, 199, rfl⟩
abbrev main_call0_call0_call0_c_35 : Ref sig .tc := ⟨.hbm, 200, rfl⟩
abbrev main_call0_call0_call0_v140 : Ref sig .tc := ⟨.hbm, 201, rfl⟩
abbrev main_call0_call0_call0_v141 : Ref sig .tc := ⟨.hbm, 202, rfl⟩
abbrev main_call0_call0_call0_v142 : Ref sig .tc := ⟨.hbm, 203, rfl⟩
abbrev main_call0_call0_call0_c_36 : Ref sig .tc := ⟨.hbm, 204, rfl⟩
abbrev main_call0_call0_call0_v143 : Ref sig .tc := ⟨.hbm, 205, rfl⟩
abbrev main_call0_call0_call0_v144 : Ref sig .tc := ⟨.hbm, 206, rfl⟩
abbrev main_call0_call0_call0_c_37 : Ref sig .tc := ⟨.hbm, 207, rfl⟩
abbrev main_call0_call0_call0_v145 : Ref sig .tc := ⟨.hbm, 208, rfl⟩
abbrev main_call0_call0_call0_v146 : Ref sig .tc := ⟨.hbm, 209, rfl⟩
abbrev main_call0_call0_call0_v147 : Ref sig .tc := ⟨.hbm, 210, rfl⟩
abbrev main_call0_call0_call0_v148 : Ref sig .tc := ⟨.hbm, 211, rfl⟩
abbrev main_call0_call0_call0_v149 : Ref sig .tc := ⟨.hbm, 212, rfl⟩
abbrev main_call0_call0_call0_c_38 : Ref sig .tc := ⟨.hbm, 213, rfl⟩
abbrev main_call0_call0_call0_v150 : Ref sig .tc := ⟨.hbm, 214, rfl⟩
abbrev main_call0_call0_call0_v151 : Ref sig .tc := ⟨.hbm, 215, rfl⟩
abbrev main_call0_call0_call0_c_39 : Ref sig .tc := ⟨.hbm, 216, rfl⟩
abbrev main_call0_call0_call0_v152 : Ref sig .tc := ⟨.hbm, 217, rfl⟩
abbrev main_call0_call0_call0_v153 : Ref sig .tc := ⟨.hbm, 218, rfl⟩
abbrev main_call0_call0_call0_v154 : Ref sig .tc := ⟨.hbm, 219, rfl⟩
abbrev main_call0_call0_call0_v155 : Ref sig .tc := ⟨.hbm, 220, rfl⟩
abbrev main_call0_call0_call0_v156 : Ref sig .tc := ⟨.hbm, 221, rfl⟩
abbrev main_call0_call0_call0_c_40 : Ref sig .tc := ⟨.hbm, 222, rfl⟩
abbrev main_call0_call0_call0_v157 : Ref sig .tc := ⟨.hbm, 223, rfl⟩
abbrev main_call0_call0_call0_v158 : Ref sig .tc := ⟨.hbm, 224, rfl⟩
abbrev main_call0_call0_call0_c_41 : Ref sig .tc := ⟨.hbm, 225, rfl⟩
abbrev main_call0_call0_call0_v159 : Ref sig .tc := ⟨.hbm, 226, rfl⟩
abbrev main_call0_call0_call0_v160 : Ref sig .tc := ⟨.hbm, 227, rfl⟩
abbrev main_call0_call0_call0_v161 : Ref sig .tc := ⟨.hbm, 228, rfl⟩
abbrev main_call0_call0_call0_v162 : Ref sig .tc := ⟨.hbm, 229, rfl⟩
abbrev main_call0_call0_call0_v163 : Ref sig .tc := ⟨.hbm, 230, rfl⟩
abbrev main_call0_call0_call0_c_42 : Ref sig .tc := ⟨.hbm, 231, rfl⟩
abbrev main_call0_call0_call0_v164 : Ref sig .tc := ⟨.hbm, 232, rfl⟩
abbrev main_call0_call0_call0_v165 : Ref sig .tc := ⟨.hbm, 233, rfl⟩
abbrev main_call0_call0_call0_c_43 : Ref sig .tc := ⟨.hbm, 234, rfl⟩
abbrev main_call0_call0_call0_v166 : Ref sig .tc := ⟨.hbm, 235, rfl⟩
abbrev main_call0_call0_call0_v167 : Ref sig .tc := ⟨.hbm, 236, rfl⟩
abbrev main_call0_call0_call0_v168 : Ref sig .tc := ⟨.hbm, 237, rfl⟩
abbrev main_call0_call0_call0_v169 : Ref sig .tc := ⟨.hbm, 238, rfl⟩
abbrev main_call0_call0_call0_v170 : Ref sig .tc := ⟨.hbm, 239, rfl⟩
abbrev main_call0_call0_v11_0 : Ref sig .tc := ⟨.hbm, 240, rfl⟩
abbrev main_call0_call0_call0_v172 : Ref sig .tc := ⟨.hbm, 241, rfl⟩
abbrev main_call0_call0_call0_v173 : Ref sig .tc := ⟨.hbm, 242, rfl⟩
abbrev main_call0_call0_call0_c_44 : Ref sig .tc := ⟨.hbm, 243, rfl⟩
abbrev main_call0_call0_call0_v174 : Ref sig .tc := ⟨.hbm, 244, rfl⟩
abbrev main_call0_call0_v11_1 : Ref sig .tc := ⟨.hbm, 245, rfl⟩
abbrev main_call0_call0_v12 : Ref sig .tc := ⟨.hbm, 246, rfl⟩
abbrev main_call0_call0_v13 : Ref sig .tc := ⟨.hbm, 247, rfl⟩
abbrev main_call0_v7 : Ref sig .tc := ⟨.hbm, 248, rfl⟩
abbrev main_call0_v8_0 : Ref sig .tc := ⟨.hbm, 249, rfl⟩
abbrev main_call0_v8_1 : Ref sig .tc := ⟨.hbm, 250, rfl⟩
abbrev main_call0_v9 : Ref sig .tc := ⟨.hbm, 251, rfl⟩
abbrev main_call0_v10 : Ref sig .tc := ⟨.hbm, 252, rfl⟩
abbrev main_call0_call1_v0 : Ref sig .tc := ⟨.hbm, 253, rfl⟩
abbrev main_call0_call1_v1_0 : Ref sig .tc := ⟨.hbm, 254, rfl⟩
abbrev main_call0_v11 : Ref sig .tc := ⟨.hbm, 255, rfl⟩
abbrev main_call0_call2_v0 : Ref sig .tc := ⟨.hbm, 256, rfl⟩
abbrev main_call0_call2_v1_0 : Ref sig .tc := ⟨.hbm, 257, rfl⟩
abbrev main_call0_v12 : Ref sig .tc := ⟨.hbm, 258, rfl⟩
abbrev main_call0_c_2 : Ref sig .tc := ⟨.hbm, 259, rfl⟩
abbrev main_call0_v13 : Ref sig .tc := ⟨.hbm, 260, rfl⟩
abbrev main_call0_v14 : Ref sig .tc := ⟨.hbm, 261, rfl⟩
abbrev main_call0_c_3 : Ref sig .tc := ⟨.hbm, 262, rfl⟩
abbrev main_call0_v15 : Ref sig .tc := ⟨.hbm, 263, rfl⟩
abbrev main_call0_v16 : Ref sig .tc := ⟨.hbm, 264, rfl⟩
abbrev main_call0_v17 : Ref sig .tc := ⟨.hbm, 265, rfl⟩
abbrev main_call0_v18 : Ref sig .tc := ⟨.hbm, 266, rfl⟩
abbrev main_call0_v19 : Ref sig .tc := ⟨.hbm, 267, rfl⟩
abbrev main_call0_c_4 : Ref sig .tc := ⟨.hbm, 268, rfl⟩
abbrev main_call0_v20 : Ref sig .tc := ⟨.hbm, 269, rfl⟩
abbrev main_call0_v21 : Ref sig .tc := ⟨.hbm, 270, rfl⟩
abbrev main_call0_c_5 : Ref sig .tc := ⟨.hbm, 271, rfl⟩
abbrev main_call0_v22 : Ref sig .tc := ⟨.hbm, 272, rfl⟩
abbrev main_call0_v23 : Ref sig .tc := ⟨.hbm, 273, rfl⟩
abbrev main_call0_v24 : Ref sig .tc := ⟨.hbm, 274, rfl⟩
abbrev main_call0_v25 : Ref sig .tc := ⟨.hbm, 275, rfl⟩
abbrev main_call0_v26 : Ref sig .tc := ⟨.hbm, 276, rfl⟩
abbrev main_call0_v27 : Ref sig .tc := ⟨.hbm, 277, rfl⟩
abbrev main_call0_v28 : Ref sig .tc := ⟨.hbm, 278, rfl⟩
abbrev main_call0_c_6 : Ref sig .tc := ⟨.hbm, 279, rfl⟩
abbrev main_call0_v29 : Ref sig .tc := ⟨.hbm, 280, rfl⟩
abbrev main_call0_v30 : Ref sig .tc := ⟨.hbm, 281, rfl⟩
abbrev main_call0_c_7 : Ref sig .tc := ⟨.hbm, 282, rfl⟩
abbrev main_call0_v31 : Ref sig .tc := ⟨.hbm, 283, rfl⟩
abbrev main_call0_v32 : Ref sig .tc := ⟨.hbm, 284, rfl⟩
abbrev main_call0_v33 : Ref sig .tc := ⟨.hbm, 285, rfl⟩
abbrev main_call0_v34 : Ref sig .tc := ⟨.hbm, 286, rfl⟩
abbrev main_v0 : Ref sig .tc := ⟨.hbm, 287, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S54x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_off1 (arg6 : BitVec 32) : Fin 2 → Nat :=
  let c4_i32_48 : BitVec 32 := 4#32
  let v225 : BitVec 32 := Scalar.addi c4_i32_48 arg6
  let v226 : Index := Scalar.indexCast v225
  let c0_49 : Index := 0#32
  ![v226.toNat, 0]

def k1_off2 (arg6 : BitVec 32) : Fin 2 → Nat :=
  let c4_i32_50 : BitVec 32 := 4#32
  let v228 : BitVec 32 := Scalar.addi c4_i32_50 arg6
  let v229 : Index := Scalar.indexCast v228
  let c1_51 : Index := 1#32
  ![v229.toNat, 1]
def k1_off3 (arg6 : BitVec 32) : Fin 2 → Nat :=
  let c4_i32_109 : BitVec 32 := 4#32
  let c1_i32_106 : BitVec 32 := 1#32
  let v432 : BitVec 32 := Scalar.addi arg6 c1_i32_106
  let v443 : BitVec 32 := Scalar.addi c4_i32_109 v432
  let v444 : Index := Scalar.indexCast v443
  let c0_110 : Index := 0#32
  ![v444.toNat, 0]
def k1_off4 (arg6 : BitVec 32) : Fin 2 → Nat :=
  let c4_i32_111 : BitVec 32 := 4#32
  let c1_i32_106 : BitVec 32 := 1#32
  let v432 : BitVec 32 := Scalar.addi arg6 c1_i32_106
  let v446 : BitVec 32 := Scalar.addi c4_i32_111 v432
  let v447 : Index := Scalar.indexCast v446
  let c1_112 : Index := 1#32
  ![v447.toNat, 1]

def k1_chk1 (arg6 : BitVec 32) : Prop :=
  (∀ a, (k1_off1 arg6) a + S1x1.size a ≤ S54x2.size a) ∧
  (∀ a, (k1_off2 arg6) a + S1x1.size a ≤ S54x2.size a) ∧
  (∀ a, (k1_off3 arg6) a + S1x1.size a ≤ S54x2.size a) ∧
  (∀ a, (k1_off4 arg6) a + S1x1.size a ≤ S54x2.size a)
theorem k1_off1_inb : ∀ (arg6 : BitVec 32) (k1_hw1 : k1_chk1 arg6), ∀ a, (k1_off1 arg6) a + S1x1.size a ≤ S54x2.size a := fun arg6 k1_hw1 => k1_hw1.1
theorem k1_off2_inb : ∀ (arg6 : BitVec 32) (k1_hw1 : k1_chk1 arg6), ∀ a, (k1_off2 arg6) a + S1x1.size a ≤ S54x2.size a := fun arg6 k1_hw1 => k1_hw1.2.1
theorem k1_off3_inb : ∀ (arg6 : BitVec 32) (k1_hw1 : k1_chk1 arg6), ∀ a, (k1_off3 arg6) a + S1x1.size a ≤ S54x2.size a := fun arg6 k1_hw1 => k1_hw1.2.2.1
theorem k1_off4_inb : ∀ (arg6 : BitVec 32) (k1_hw1 : k1_chk1 arg6), ∀ a, (k1_off4 arg6) a + S1x1.size a ≤ S54x2.size a := fun arg6 k1_hw1 => k1_hw1.2.2.2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S54x2 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16384x128 : Shape := ⟨2, ![16384, 128]⟩
abbrev S_ : Shape := ⟨0, ![]⟩
abbrev S1 : Shape := ⟨1, ![1]⟩
abbrev S2 : Shape := ⟨1, ![2]⟩
abbrev S54 : Shape := ⟨1, ![54]⟩
abbrev S54x1 : Shape := ⟨2, ![54, 1]⟩
abbrev S54x2 : Shape := ⟨2, ![54, 2]⟩
abbrev S16384 : Shape := ⟨1, ![16384]⟩
abbrev S1x2 : Shape := ⟨2, ![1, 2]⟩
abbrev S1x1 : Shape := ⟨2, ![1, 1]⟩
abbrev S16384x1 : Shape := ⟨2, ![16384, 1]⟩

abbrev nBuf : Space → Nat
  | .hbm => 1697
  | .vmem => 0
  | .smem => 0
  | _ => 0

abbrev hbmTy0_0 (i : Nat) : BufTy := match i % 128 with
  | 0 => ⟨S16384x128, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S54, .i64⟩
  | 16 => ⟨S_, .i64⟩
  | 17 => ⟨S54, .i64⟩
  | 18 => ⟨S54, .i64⟩
  | 19 => ⟨S_, .i64⟩
  | 20 => ⟨S54, .i64⟩
  | 21 => ⟨S54, .i64⟩
  | 22 => ⟨S54, .i32⟩
  | 23 => ⟨S54, .i32⟩
  | 24 => ⟨S_, .i32⟩
  | 25 => ⟨S_, .i32⟩
  | 26 => ⟨S_, .i32⟩
  | 27 => ⟨S54, .i32⟩
  | 28 => ⟨S54, .i32⟩
  | 29 => ⟨S54, .i32⟩
  | 30 => ⟨S54, .i32⟩
  | 31 => ⟨S54, .i32⟩
  | 32 => ⟨S_, .i32⟩
  | 33 => ⟨S54, .i32⟩
  | 34 => ⟨S54, .i32⟩
  | 35 => ⟨S_, .i32⟩
  | 36 => ⟨S54, .i32⟩
  | 37 => ⟨S54, .i32⟩
  | 38 => ⟨S54, .i32⟩
  | 39 => ⟨S54, .i32⟩
  | 40 => ⟨S54, .i32⟩
  | 41 => ⟨S_, .i32⟩
  | 42 => ⟨S54, .i32⟩
  | 43 => ⟨S54, .i32⟩
  | 44 => ⟨S_, .i32⟩
  | 45 => ⟨S54, .i32⟩
  | 46 => ⟨S54, .i32⟩
  | 47 => ⟨S54, .i32⟩
  | 48 => ⟨S54, .i32⟩
  | 49 => ⟨S54, .i32⟩
  | 50 => ⟨S_, .i32⟩
  | 51 => ⟨S54, .i32⟩
  | 52 => ⟨S54, .i32⟩
  | 53 => ⟨S_, .i32⟩
  | 54 => ⟨S54, .i32⟩
  | 55 => ⟨S54, .i32⟩
  | 56 => ⟨S54, .i32⟩
  | 57 => ⟨S54, .i32⟩
  | 58 => ⟨S54, .i32⟩
  | 59 => ⟨S_, .i32⟩
  | 60 => ⟨S54, .i32⟩
  | 61 => ⟨S54, .i32⟩
  | 62 => ⟨S_, .i32⟩
  | 63 => ⟨S54, .i32⟩
  | 64 => ⟨S54, .i32⟩
  | 65 => ⟨S54, .i32⟩
  | 66 => ⟨S54, .i32⟩
  | 67 => ⟨S54, .i32⟩
  | 68 => ⟨S54, .i32⟩
  | 69 => ⟨S54, .i32⟩
  | 70 => ⟨S54, .i32⟩
  | 71 => ⟨S_, .i32⟩
  | 72 => ⟨S54, .i32⟩
  | 73 => ⟨S54, .i32⟩
  | 74 => ⟨S54, .i32⟩
  | 75 => ⟨S_, .i32⟩
  | 76 => ⟨S54, .i32⟩
  | 77 => ⟨S54, .i32⟩
  | 78 => ⟨S_, .i32⟩
  | 79 => ⟨S54, .i32⟩
  | 80 => ⟨S54, .i32⟩
  | 81 => ⟨S54, .i32⟩
  | 82 => ⟨S54, .i32⟩
  | 83 => ⟨S54, .i32⟩
  | 84 => ⟨S_, .i32⟩
  | 85 => ⟨S54, .i32⟩
  | 86 => ⟨S54, .i32⟩
  | 87 => ⟨S_, .i32⟩
  | 88 => ⟨S54, .i32⟩
  | 89 => ⟨S54, .i32⟩
  | 90 => ⟨S54, .i32⟩
  | 91 => ⟨S54, .i32⟩
  | 92 => ⟨S54, .i32⟩
  | 93 => ⟨S_, .i32⟩
  | 94 => ⟨S54, .i32⟩
  | 95 => ⟨S54, .i32⟩
  | 96 => ⟨S_, .i32⟩
  | 97 => ⟨S54, .i32⟩
  | 98 => ⟨S54, .i32⟩
  | 99 => ⟨S54, .i32⟩
  | 100 => ⟨S54, .i32⟩
  | 101 => ⟨S54, .i32⟩
  | 102 => ⟨S_, .i32⟩
  | 103 => ⟨S54, .i32⟩
  | 104 => ⟨S54, .i32⟩
  | 105 => ⟨S_, .i32⟩
  | 106 => ⟨S54, .i32⟩
  | 107 => ⟨S54, .i32⟩
  | 108 => ⟨S54, .i32⟩
  | 109 => ⟨S54, .i32⟩
  | 110 => ⟨S54, .i32⟩
  | 111 => ⟨S54, .i32⟩
  | 112 => ⟨S54, .i32⟩
  | 113 => ⟨S54, .i32⟩
  | 114 => ⟨S_, .i32⟩
  | 115 => ⟨S54, .i32⟩
  | 116 => ⟨S54, .i32⟩
  | 117 => ⟨S54, .i32⟩
  | 118 => ⟨S_, .i32⟩
  | 119 => ⟨S54, .i32⟩
  | 120 => ⟨S54, .i32⟩
  | 121 => ⟨S_, .i32⟩
  | 122 => ⟨S54, .i32⟩
  | 123 => ⟨S54, .i32⟩
  | 124 => ⟨S54, .i32⟩
  | 125 => ⟨S54, .i32⟩
  | 126 => ⟨S54, .i32⟩
  | 127 => ⟨S_, .i32⟩
  | _ => ⟨S16384x128, .f32⟩

abbrev hbmTy0_1 (i : Nat) : BufTy := match i % 128 with
  | 0 => ⟨S54, .i32⟩
  | 1 => ⟨S54, .i32⟩
  | 2 => ⟨S_, .i32⟩
  | 3 => ⟨S54, .i32⟩
  | 4 => ⟨S54, .i32⟩
  | 5 => ⟨S54, .i32⟩
  | 6 => ⟨S54, .i32⟩
  | 7 => ⟨S54, .i32⟩
  | 8 => ⟨S_, .i32⟩
  | 9 => ⟨S54, .i32⟩
  | 10 => ⟨S54, .i32⟩
  | 11 => ⟨S_, .i32⟩
  | 12 => ⟨S54, .i32⟩
  | 13 => ⟨S54, .i32⟩
  | 14 => ⟨S54, .i32⟩
  | 15 => ⟨S54, .i32⟩
  | 16 => ⟨S54, .i32⟩
  | 17 => ⟨S_, .i32⟩
  | 18 => ⟨S54, .i32⟩
  | 19 => ⟨S54, .i32⟩
  | 20 => ⟨S_, .i32⟩
  | 21 => ⟨S54, .i32⟩
  | 22 => ⟨S54, .i32⟩
  | 23 => ⟨S54, .i32⟩
  | 24 => ⟨S54, .i32⟩
  | 25 => ⟨S54, .i32⟩
  | 26 => ⟨S54, .i32⟩
  | 27 => ⟨S54, .i32⟩
  | 28 => ⟨S54, .i32⟩
  | 29 => ⟨S_, .i32⟩
  | 30 => ⟨S54, .i32⟩
  | 31 => ⟨S54, .i32⟩
  | 32 => ⟨S54, .i32⟩
  | 33 => ⟨S_, .i32⟩
  | 34 => ⟨S54, .i32⟩
  | 35 => ⟨S54, .i32⟩
  | 36 => ⟨S_, .i32⟩
  | 37 => ⟨S54, .i32⟩
  | 38 => ⟨S54, .i32⟩
  | 39 => ⟨S54, .i32⟩
  | 40 => ⟨S54, .i32⟩
  | 41 => ⟨S54, .i32⟩
  | 42 => ⟨S_, .i32⟩
  | 43 => ⟨S54, .i32⟩
  | 44 => ⟨S54, .i32⟩
  | 45 => ⟨S_, .i32⟩
  | 46 => ⟨S54, .i32⟩
  | 47 => ⟨S54, .i32⟩
  | 48 => ⟨S54, .i32⟩
  | 49 => ⟨S54, .i32⟩
  | 50 => ⟨S54, .i32⟩
  | 51 => ⟨S_, .i32⟩
  | 52 => ⟨S54, .i32⟩
  | 53 => ⟨S54, .i32⟩
  | 54 => ⟨S_, .i32⟩
  | 55 => ⟨S54, .i32⟩
  | 56 => ⟨S54, .i32⟩
  | 57 => ⟨S54, .i32⟩
  | 58 => ⟨S54, .i32⟩
  | 59 => ⟨S54, .i32⟩
  | 60 => ⟨S_, .i32⟩
  | 61 => ⟨S54, .i32⟩
  | 62 => ⟨S54, .i32⟩
  | 63 => ⟨S_, .i32⟩
  | 64 => ⟨S54, .i32⟩
  | 65 => ⟨S54, .i32⟩
  | 66 => ⟨S54, .i32⟩
  | 67 => ⟨S54, .i32⟩
  | 68 => ⟨S54, .i32⟩
  | 69 => ⟨S54, .i32⟩
  | 70 => ⟨S54, .i32⟩
  | 71 => ⟨S54, .i32⟩
  | 72 => ⟨S_, .i32⟩
  | 73 => ⟨S54, .i32⟩
  | 74 => ⟨S54, .i32⟩
  | 75 => ⟨S54, .i32⟩
  | 76 => ⟨S_, .i32⟩
  | 77 => ⟨S54, .i32⟩
  | 78 => ⟨S54, .i32⟩
  | 79 => ⟨S_, .i32⟩
  | 80 => ⟨S54, .i32⟩
  | 81 => ⟨S54, .i32⟩
  | 82 => ⟨S54, .i32⟩
  | 83 => ⟨S54, .i32⟩
  | 84 => ⟨S54, .i32⟩
  | 85 => ⟨S_, .i32⟩
  | 86 => ⟨S54, .i32⟩
  | 87 => ⟨S54, .i32⟩
  | 88 => ⟨S_, .i32⟩
  | 89 => ⟨S54, .i32⟩
  | 90 => ⟨S54, .i32⟩
  | 91 => ⟨S54, .i32⟩
  | 92 => ⟨S54, .i32⟩
  | 93 => ⟨S54, .i32⟩
  | 94 => ⟨S_, .i32⟩
  | 95 => ⟨S54, .i32⟩
  | 96 => ⟨S54, .i32⟩
  | 97 => ⟨S_, .i32⟩
  | 98 => ⟨S54, .i32⟩
  | 99 => ⟨S54, .i32⟩
  | 100 => ⟨S54, .i32⟩
  | 101 => ⟨S54, .i32⟩
  | 102 => ⟨S54, .i32⟩
  | 103 => ⟨S_, .i32⟩
  | 104 => ⟨S54, .i32⟩
  | 105 => ⟨S54, .i32⟩
  | 106 => ⟨S_, .i32⟩
  | 107 => ⟨S54, .i32⟩
  | 108 => ⟨S54, .i32⟩
  | 109 => ⟨S54, .i32⟩
  | 110 => ⟨S54, .i32⟩
  | 111 => ⟨S54, .i32⟩
  | 112 => ⟨S54, .i32⟩
  | 113 => ⟨S54, .i32⟩
  | 114 => ⟨S54, .i32⟩
  | 115 => ⟨S_, .i32⟩
  | 116 => ⟨S54, .i32⟩
  | 117 => ⟨S54, .i32⟩
  | 118 => ⟨S54x1, .i32⟩
  | 119 => ⟨S54x1, .i32⟩
  | 120 => ⟨S54x2, .i32⟩
  | 121 => ⟨S16384x128, .f32⟩
  | 122 => ⟨S_, .f32⟩
  | 123 => ⟨S16384, .f32⟩
  | 124 => ⟨S_, .f32⟩
  | 125 => ⟨S16384, .f32⟩
  | 126 => ⟨S16384, .f32⟩
  | 127 => ⟨S_, .f32⟩
  | _ => ⟨S16384x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S16384, .f32⟩
  | 5 => ⟨S16384, .f32⟩
  | 6 => ⟨S1x2, .i32⟩
  | 7 => ⟨S2, .i32⟩
  | 8 => ⟨S_, .f32⟩
  | 9 => ⟨S_, .f32⟩
  | 10 => ⟨S_, .f32⟩
  | 11 => ⟨S_, .f32⟩
  | 12 => ⟨S1, .f32⟩
  | 13 => ⟨S1, .f32⟩
  | 14 => ⟨S1, .i32⟩
  | 15 => ⟨S_, .i32⟩
  | 16 => ⟨S1, .i32⟩
  | 17 => ⟨S_, .i32⟩
  | 18 => ⟨S16384, .i64⟩
  | 19 => ⟨S_, .i64⟩
  | 20 => ⟨S16384, .i64⟩
  | 21 => ⟨S16384, .i64⟩
  | 22 => ⟨S_, .i64⟩
  | 23 => ⟨S16384, .i64⟩
  | 24 => ⟨S16384, .i64⟩
  | 25 => ⟨S16384, .i32⟩
  | 26 => ⟨S16384, .i32⟩
  | 27 => ⟨S_, .i32⟩
  | 28 => ⟨S_, .i32⟩
  | 29 => ⟨S_, .i32⟩
  | 30 => ⟨S16384, .i32⟩
  | 31 => ⟨S16384, .i32⟩
  | 32 => ⟨S16384, .i32⟩
  | 33 => ⟨S16384, .i32⟩
  | 34 => ⟨S16384, .i32⟩
  | 35 => ⟨S_, .i32⟩
  | 36 => ⟨S16384, .i32⟩
  | 37 => ⟨S16384, .i32⟩
  | 38 => ⟨S_, .i32⟩
  | 39 => ⟨S16384, .i32⟩
  | 40 => ⟨S16384, .i32⟩
  | 41 => ⟨S16384, .i32⟩
  | 42 => ⟨S16384, .i32⟩
  | 43 => ⟨S16384, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S16384, .i32⟩
  | 60 => ⟨S16384, .i32⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i32⟩
  | 68 => ⟨S16384, .i32⟩
  | 69 => ⟨S16384, .i32⟩
  | 70 => ⟨S16384, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i32⟩
  | 77 => ⟨S16384, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i32⟩
  | 90 => ⟨S_, .i32⟩
  | 91 => ⟨S16384, .i32⟩
  | 92 => ⟨S16384, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S16384, .i32⟩
  | 103 => ⟨S16384, .i32⟩
  | 104 => ⟨S16384, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i32⟩
  | 111 => ⟨S16384, .i32⟩
  | 112 => ⟨S16384, .i32⟩
  | 113 => ⟨S16384, .i32⟩
  | 114 => ⟨S16384, .i32⟩
  | 115 => ⟨S16384, .i32⟩
  | 116 => ⟨S16384, .i32⟩
  | 117 => ⟨S_, .i32⟩
  | 118 => ⟨S16384, .i32⟩
  | 119 => ⟨S16384, .i32⟩
  | 120 => ⟨S16384, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S16384, .i32⟩
  | _ => ⟨S16384x128, .f32⟩

abbrev hbmTy0_3 (i : Nat) : BufTy := match i % 128 with
  | 0 => ⟨S16384, .i32⟩
  | 1 => ⟨S16384, .i32⟩
  | 2 => ⟨S_, .i32⟩
  | 3 => ⟨S16384, .i32⟩
  | 4 => ⟨S16384, .i32⟩
  | 5 => ⟨S_, .i32⟩
  | 6 => ⟨S16384, .i32⟩
  | 7 => ⟨S16384, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i32⟩
  | 17 => ⟨S16384, .i32⟩
  | 18 => ⟨S16384, .i32⟩
  | 19 => ⟨S16384, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S16384, .i32⟩
  | 27 => ⟨S16384, .i32⟩
  | 28 => ⟨S16384, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S16384, .i32⟩
  | 43 => ⟨S16384, .i32⟩
  | 44 => ⟨S16384, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i32⟩
  | 51 => ⟨S16384, .i32⟩
  | 52 => ⟨S16384, .i32⟩
  | 53 => ⟨S16384, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i32⟩
  | 60 => ⟨S16384, .i32⟩
  | 61 => ⟨S16384, .i32⟩
  | 62 => ⟨S16384, .i32⟩
  | 63 => ⟨S_, .i32⟩
  | 64 => ⟨S16384, .i32⟩
  | 65 => ⟨S16384, .i32⟩
  | 66 => ⟨S_, .i32⟩
  | 67 => ⟨S16384, .i32⟩
  | 68 => ⟨S16384, .i32⟩
  | 69 => ⟨S16384, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .i32⟩
  | 86 => ⟨S16384, .i32⟩
  | 87 => ⟨S16384, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S16384, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S16384, .i32⟩
  | 113 => ⟨S16384, .i32⟩
  | 114 => ⟨S16384, .i32⟩
  | 115 => ⟨S16384, .i32⟩
  | 116 => ⟨S16384, .i32⟩
  | 117 => ⟨S16384, .i32⟩
  | 118 => ⟨S_, .i32⟩
  | 119 => ⟨S16384, .i32⟩
  | 120 => ⟨S16384, .i32⟩
  | 121 => ⟨S16384, .i32⟩
  | 122 => ⟨S_, .i32⟩
  | 123 => ⟨S16384, .i32⟩
  | 124 => ⟨S16384, .i32⟩
  | 125 => ⟨S_, .i32⟩
  | 126 => ⟨S16384, .i32⟩
  | 127 => ⟨S16384, .i32⟩
  | _ => ⟨S16384x128, .f32⟩

abbrev hbmTy0_4 (i : Nat) : BufTy := match i % 128 with
  | 0 => ⟨S16384, .f32⟩
  | 1 => ⟨S_, .f32⟩
  | 2 => ⟨S16384, .f32⟩
  | 3 => ⟨S16384, .f32⟩
  | 4 => ⟨S1, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S_, .f32⟩
  | 12 => ⟨S16384, .f32⟩
  | 13 => ⟨S16384, .f32⟩
  | 14 => ⟨S16384, .f32⟩
  | 15 => ⟨S16384, .f32⟩
  | 16 => ⟨S_, .f32⟩
  | 17 => ⟨S1, .f32⟩
  | 18 => ⟨S1x2, .i32⟩
  | 19 => ⟨S2, .i32⟩
  | 20 => ⟨S_, .f32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S16384x128, .i64⟩
  | 31 => ⟨S16384x128, .i64⟩
  | 32 => ⟨S_, .i64⟩
  | 33 => ⟨S16384x128, .i64⟩
  | 34 => ⟨S16384x128, .i64⟩
  | 35 => ⟨S_, .i64⟩
  | 36 => ⟨S16384x128, .i64⟩
  | 37 => ⟨S16384x128, .i64⟩
  | 38 => ⟨S16384x128, .i64⟩
  | 39 => ⟨S_, .i64⟩
  | 40 => ⟨S16384x128, .i64⟩
  | 41 => ⟨S16384x128, .i64⟩
  | 42 => ⟨S16384x128, .i32⟩
  | 43 => ⟨S16384x128, .i32⟩
  | 44 => ⟨S_, .i32⟩
  | 45 => ⟨S_, .i32⟩
  | 46 => ⟨S_, .i32⟩
  | 47 => ⟨S16384x128, .i32⟩
  | 48 => ⟨S16384x128, .i32⟩
  | 49 => ⟨S16384x128, .i32⟩
  | 50 => ⟨S16384x128, .i32⟩
  | 51 => ⟨S16384x128, .i32⟩
  | 52 => ⟨S_, .i32⟩
  | 53 => ⟨S16384x128, .i32⟩
  | 54 => ⟨S16384x128, .i32⟩
  | 55 => ⟨S_, .i32⟩
  | 56 => ⟨S16384x128, .i32⟩
  | 57 => ⟨S16384x128, .i32⟩
  | 58 => ⟨S16384x128, .i32⟩
  | 59 => ⟨S16384x128, .i32⟩
  | 60 => ⟨S16384x128, .i32⟩
  | 61 => ⟨S_, .i32⟩
  | 62 => ⟨S16384x128, .i32⟩
  | 63 => ⟨S16384x128, .i32⟩
  | 64 => ⟨S_, .i32⟩
  | 65 => ⟨S16384x128, .i32⟩
  | 66 => ⟨S16384x128, .i32⟩
  | 67 => ⟨S16384x128, .i32⟩
  | 68 => ⟨S16384x128, .i32⟩
  | 69 => ⟨S16384x128, .i32⟩
  | 70 => ⟨S_, .i32⟩
  | 71 => ⟨S16384x128, .i32⟩
  | 72 => ⟨S16384x128, .i32⟩
  | 73 => ⟨S_, .i32⟩
  | 74 => ⟨S16384x128, .i32⟩
  | 75 => ⟨S16384x128, .i32⟩
  | 76 => ⟨S16384x128, .i32⟩
  | 77 => ⟨S16384x128, .i32⟩
  | 78 => ⟨S16384x128, .i32⟩
  | 79 => ⟨S_, .i32⟩
  | 80 => ⟨S16384x128, .i32⟩
  | 81 => ⟨S16384x128, .i32⟩
  | 82 => ⟨S_, .i32⟩
  | 83 => ⟨S16384x128, .i32⟩
  | 84 => ⟨S16384x128, .i32⟩
  | 85 => ⟨S16384x128, .i32⟩
  | 86 => ⟨S16384x128, .i32⟩
  | 87 => ⟨S16384x128, .i32⟩
  | 88 => ⟨S16384x128, .i32⟩
  | 89 => ⟨S16384x128, .i32⟩
  | 90 => ⟨S16384x128, .i32⟩
  | 91 => ⟨S_, .i32⟩
  | 92 => ⟨S16384x128, .i32⟩
  | 93 => ⟨S16384x128, .i32⟩
  | 94 => ⟨S16384x128, .i32⟩
  | 95 => ⟨S_, .i32⟩
  | 96 => ⟨S16384x128, .i32⟩
  | 97 => ⟨S16384x128, .i32⟩
  | 98 => ⟨S_, .i32⟩
  | 99 => ⟨S16384x128, .i32⟩
  | 100 => ⟨S16384x128, .i32⟩
  | 101 => ⟨S16384x128, .i32⟩
  | 102 => ⟨S16384x128, .i32⟩
  | 103 => ⟨S16384x128, .i32⟩
  | 104 => ⟨S_, .i32⟩
  | 105 => ⟨S16384x128, .i32⟩
  | 106 => ⟨S16384x128, .i32⟩
  | 107 => ⟨S_, .i32⟩
  | 108 => ⟨S16384x128, .i32⟩
  | 109 => ⟨S16384x128, .i32⟩
  | 110 => ⟨S16384x128, .i32⟩
  | 111 => ⟨S16384x128, .i32⟩
  | 112 => ⟨S16384x128, .i32⟩
  | 113 => ⟨S_, .i32⟩
  | 114 => ⟨S16384x128, .i32⟩
  | 115 => ⟨S16384x128, .i32⟩
  | 116 => ⟨S_, .i32⟩
  | 117 => ⟨S16384x128, .i32⟩
  | 118 => ⟨S16384x128, .i32⟩
  | 119 => ⟨S16384x128, .i32⟩
  | 120 => ⟨S16384x128, .i32⟩
  | 121 => ⟨S16384x128, .i32⟩
  | 122 => ⟨S_, .i32⟩
  | 123 => ⟨S16384x128, .i32⟩
  | 124 => ⟨S16384x128, .i32⟩
  | 125 => ⟨S_, .i32⟩
  | 126 => ⟨S16384x128, .i32⟩
  | 127 => ⟨S16384x128, .i32⟩
  | _ => ⟨S16384x128, .f32⟩

abbrev hbmTy0_5 (i : Nat) : BufTy := match i % 128 with
  | 0 => ⟨S16384x128, .i32⟩
  | 1 => ⟨S16384x128, .i32⟩
  | 2 => ⟨S16384x128, .i32⟩
  | 3 => ⟨S16384x128, .i32⟩
  | 4 => ⟨S16384x128, .i32⟩
  | 5 => ⟨S16384x128, .i32⟩
  | 6 => ⟨S_, .i32⟩
  | 7 => ⟨S16384x128, .i32⟩
  | 8 => ⟨S16384x128, .i32⟩
  | 9 => ⟨S16384x128, .i32⟩
  | 10 => ⟨S_, .i32⟩
  | 11 => ⟨S16384x128, .i32⟩
  | 12 => ⟨S16384x128, .i32⟩
  | 13 => ⟨S_, .i32⟩
  | 14 => ⟨S16384x128, .i32⟩
  | 15 => ⟨S16384x128, .i32⟩
  | 16 => ⟨S16384x128, .i32⟩
  | 17 => ⟨S16384x128, .i32⟩
  | 18 => ⟨S16384x128, .i32⟩
  | 19 => ⟨S_, .i32⟩
  | 20 => ⟨S16384x128, .i32⟩
  | 21 => ⟨S16384x128, .i32⟩
  | 22 => ⟨S_, .i32⟩
  | 23 => ⟨S16384x128, .i32⟩
  | 24 => ⟨S16384x128, .i32⟩
  | 25 => ⟨S16384x128, .i32⟩
  | 26 => ⟨S16384x128, .i32⟩
  | 27 => ⟨S16384x128, .i32⟩
  | 28 => ⟨S_, .i32⟩
  | 29 => ⟨S16384x128, .i32⟩
  | 30 => ⟨S16384x128, .i32⟩
  | 31 => ⟨S_, .i32⟩
  | 32 => ⟨S16384x128, .i32⟩
  | 33 => ⟨S16384x128, .i32⟩
  | 34 => ⟨S16384x128, .i32⟩
  | 35 => ⟨S16384x128, .i32⟩
  | 36 => ⟨S16384x128, .i32⟩
  | 37 => ⟨S_, .i32⟩
  | 38 => ⟨S16384x128, .i32⟩
  | 39 => ⟨S16384x128, .i32⟩
  | 40 => ⟨S_, .i32⟩
  | 41 => ⟨S16384x128, .i32⟩
  | 42 => ⟨S16384x128, .i32⟩
  | 43 => ⟨S16384x128, .i32⟩
  | 44 => ⟨S16384x128, .i32⟩
  | 45 => ⟨S16384x128, .i32⟩
  | 46 => ⟨S16384x128, .i32⟩
  | 47 => ⟨S16384x128, .i32⟩
  | 48 => ⟨S16384x128, .i32⟩
  | 49 => ⟨S_, .i32⟩
  | 50 => ⟨S16384x128, .i32⟩
  | 51 => ⟨S16384x128, .i32⟩
  | 52 => ⟨S16384x128, .i32⟩
  | 53 => ⟨S_, .i32⟩
  | 54 => ⟨S16384x128, .i32⟩
  | 55 => ⟨S16384x128, .i32⟩
  | 56 => ⟨S_, .i32⟩
  | 57 => ⟨S16384x128, .i32⟩
  | 58 => ⟨S16384x128, .i32⟩
  | 59 => ⟨S16384x128, .i32⟩
  | 60 => ⟨S16384x128, .i32⟩
  | 61 => ⟨S16384x128, .i32⟩
  | 62 => ⟨S_, .i32⟩
  | 63 => ⟨S16384x128, .i32⟩
  | 64 => ⟨S16384x128, .i32⟩
  | 65 => ⟨S_, .i32⟩
  | 66 => ⟨S16384x128, .i32⟩
  | 67 => ⟨S16384x128, .i32⟩
  | 68 => ⟨S16384x128, .i32⟩
  | 69 => ⟨S16384x128, .i32⟩
  | 70 => ⟨S16384x128, .i32⟩
  | 71 => ⟨S_, .i32⟩
  | 72 => ⟨S16384x128, .i32⟩
  | 73 => ⟨S16384x128, .i32⟩
  | 74 => ⟨S_, .i32⟩
  | 75 => ⟨S16384x128, .i32⟩
  | 76 => ⟨S16384x128, .i32⟩
  | 77 => ⟨S16384x128, .i32⟩
  | 78 => ⟨S16384x128, .i32⟩
  | 79 => ⟨S16384x128, .i32⟩
  | 80 => ⟨S_, .i32⟩
  | 81 => ⟨S16384x128, .i32⟩
  | 82 => ⟨S16384x128, .i32⟩
  | 83 => ⟨S_, .i32⟩
  | 84 => ⟨S16384x128, .i32⟩
  | 85 => ⟨S16384x128, .i32⟩
  | 86 => ⟨S16384x128, .i32⟩
  | 87 => ⟨S16384x128, .i32⟩
  | 88 => ⟨S16384x128, .i32⟩
  | 89 => ⟨S16384x128, .i32⟩
  | 90 => ⟨S16384x128, .i32⟩
  | 91 => ⟨S16384x128, .i32⟩
  | 92 => ⟨S_, .i32⟩
  | 93 => ⟨S16384x128, .i32⟩
  | 94 => ⟨S16384x128, .i32⟩
  | 95 => ⟨S16384x128, .i32⟩
  | 96 => ⟨S_, .i32⟩
  | 97 => ⟨S16384x128, .i32⟩
  | 98 => ⟨S16384x128, .i32⟩
  | 99 => ⟨S_, .i32⟩
  | 100 => ⟨S16384x128, .i32⟩
  | 101 => ⟨S16384x128, .i32⟩
  | 102 => ⟨S16384x128, .i32⟩
  | 103 => ⟨S16384x128, .i32⟩
  | 104 => ⟨S16384x128, .i32⟩
  | 105 => ⟨S_, .i32⟩
  | 106 => ⟨S16384x128, .i32⟩
  | 107 => ⟨S16384x128, .i32⟩
  | 108 => ⟨S_, .i32⟩
  | 109 => ⟨S16384x128, .i32⟩
  | 110 => ⟨S16384x128, .i32⟩
  | 111 => ⟨S16384x128, .i32⟩
  | 112 => ⟨S16384x128, .i32⟩
  | 113 => ⟨S16384x128, .i32⟩
  | 114 => ⟨S_, .i32⟩
  | 115 => ⟨S16384x128, .i32⟩
  | 116 => ⟨S16384x128, .i32⟩
  | 117 => ⟨S_, .i32⟩
  | 118 => ⟨S16384x128, .i32⟩
  | 119 => ⟨S16384x128, .i32⟩
  | 120 => ⟨S16384x128, .i32⟩
  | 121 => ⟨S16384x128, .i32⟩
  | 122 => ⟨S16384x128, .i32⟩
  | 123 => ⟨S_, .i32⟩
  | 124 => ⟨S16384x128, .i32⟩
  | 125 => ⟨S16384x128, .i32⟩
  | 126 => ⟨S_, .i32⟩
  | 127 => ⟨S16384x128, .i32⟩
  | _ => ⟨S16384x128, .f32⟩

abbrev hbmTy0_6 (i : Nat) : BufTy := match i % 128 with
  | 0 => ⟨S16384x128, .i32⟩
  | 1 => ⟨S16384x128, .i32⟩
  | 2 => ⟨S16384x128, .i32⟩
  | 3 => ⟨S16384x128, .i32⟩
  | 4 => ⟨S16384x128, .i32⟩
  | 5 => ⟨S16384x128, .i32⟩
  | 6 => ⟨S16384x128, .i32⟩
  | 7 => ⟨S_, .i32⟩
  | 8 => ⟨S16384x128, .i32⟩
  | 9 => ⟨S16384x128, .i32⟩
  | 10 => ⟨S16384x128, .i32⟩
  | 11 => ⟨S_, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S16384x128, .f32⟩
  | 18 => ⟨S_, .f32⟩
  | 19 => ⟨S16384x128, .f32⟩
  | 20 => ⟨S16384x128, .f32⟩
  | 21 => ⟨S1x1, .f32⟩
  | 22 => ⟨S16384x128, .f32⟩
  | 23 => ⟨S16384x128, .f32⟩
  | 24 => ⟨S16384x128, .f32⟩
  | 25 => ⟨S16384x128, .f32⟩
  | 26 => ⟨S16384x128, .f32⟩
  | 27 => ⟨S16384x128, .f32⟩
  | 28 => ⟨S1x1, .f32⟩
  | 29 => ⟨S16384x128, .f32⟩
  | 30 => ⟨S16384x128, .f32⟩
  | 31 => ⟨S_, .f32⟩
  | 32 => ⟨S1, .f32⟩
  | 33 => ⟨S1, .f32⟩
  | 34 => ⟨S1x1, .f32⟩
  | 35 => ⟨S16384x128, .f32⟩
  | 36 => ⟨S16384x128, .f32⟩
  | 37 => ⟨S16384x128, .f32⟩
  | 38 => ⟨S16384x128, .f32⟩
  | 39 => ⟨S16384x128, .f32⟩
  | 40 => ⟨S_, .f32⟩
  | 41 => ⟨S16384x128, .f32⟩
  | 42 => ⟨S16384x128, .f32⟩
  | 43 => ⟨S1x2, .i32⟩
  | 44 => ⟨S2, .i32⟩
  | 45 => ⟨S_, .f32⟩
  | 46 => ⟨S_, .f32⟩
  | 47 => ⟨S_, .f32⟩
  | 48 => ⟨S_, .f32⟩
  | 49 => ⟨S1x1, .f32⟩
  | 50 => ⟨S1x1, .f32⟩
  | 51 => ⟨S1, .i32⟩
  | 52 => ⟨S_, .i32⟩
  | 53 => ⟨S1, .i32⟩
  | 54 => ⟨S_, .i32⟩
  | 55 => ⟨S16384x128, .i64⟩
  | 56 => ⟨S16384x128, .i64⟩
  | 57 => ⟨S_, .i64⟩
  | 58 => ⟨S16384x128, .i64⟩
  | 59 => ⟨S16384x128, .i64⟩
  | 60 => ⟨S_, .i64⟩
  | 61 => ⟨S16384x128, .i64⟩
  | 62 => ⟨S16384x128, .i64⟩
  | 63 => ⟨S16384x128, .i64⟩
  | 64 => ⟨S_, .i64⟩
  | 65 => ⟨S16384x128, .i64⟩
  | 66 => ⟨S16384x128, .i64⟩
  | 67 => ⟨S16384x128, .i32⟩
  | 68 => ⟨S16384x128, .i32⟩
  | 69 => ⟨S_, .i32⟩
  | 70 => ⟨S_, .i32⟩
  | 71 => ⟨S_, .i32⟩
  | 72 => ⟨S16384x128, .i32⟩
  | 73 => ⟨S16384x128, .i32⟩
  | 74 => ⟨S16384x128, .i32⟩
  | 75 => ⟨S16384x128, .i32⟩
  | 76 => ⟨S16384x128, .i32⟩
  | 77 => ⟨S_, .i32⟩
  | 78 => ⟨S16384x128, .i32⟩
  | 79 => ⟨S16384x128, .i32⟩
  | 80 => ⟨S_, .i32⟩
  | 81 => ⟨S16384x128, .i32⟩
  | 82 => ⟨S16384x128, .i32⟩
  | 83 => ⟨S16384x128, .i32⟩
  | 84 => ⟨S16384x128, .i32⟩
  | 85 => ⟨S16384x128, .i32⟩
  | 86 => ⟨S_, .i32⟩
  | 87 => ⟨S16384x128, .i32⟩
  | 88 => ⟨S16384x128, .i32⟩
  | 89 => ⟨S_, .i32⟩
  | 90 => ⟨S16384x128, .i32⟩
  | 91 => ⟨S16384x128, .i32⟩
  | 92 => ⟨S16384x128, .i32⟩
  | 93 => ⟨S16384x128, .i32⟩
  | 94 => ⟨S16384x128, .i32⟩
  | 95 => ⟨S_, .i32⟩
  | 96 => ⟨S16384x128, .i32⟩
  | 97 => ⟨S16384x128, .i32⟩
  | 98 => ⟨S_, .i32⟩
  | 99 => ⟨S16384x128, .i32⟩
  | 100 => ⟨S16384x128, .i32⟩
  | 101 => ⟨S16384x128, .i32⟩
  | 102 => ⟨S16384x128, .i32⟩
  | 103 => ⟨S16384x128, .i32⟩
  | 104 => ⟨S_, .i32⟩
  | 105 => ⟨S16384x128, .i32⟩
  | 106 => ⟨S16384x128, .i32⟩
  | 107 => ⟨S_, .i32⟩
  | 108 => ⟨S16384x128, .i32⟩
  | 109 => ⟨S16384x128, .i32⟩
  | 110 => ⟨S16384x128, .i32⟩
  | 111 => ⟨S16384x128, .i32⟩
  | 112 => ⟨S16384x128, .i32⟩
  | 113 => ⟨S16384x128, .i32⟩
  | 114 => ⟨S16384x128, .i32⟩
  | 115 => ⟨S16384x128, .i32⟩
  | 116 => ⟨S_, .i32⟩
  | 117 => ⟨S16384x128, .i32⟩
  | 118 => ⟨S16384x128, .i32⟩
  | 119 => ⟨S16384x128, .i32⟩
  | 120 => ⟨S_, .i32⟩
  | 121 => ⟨S16384x128, .i32⟩
  | 122 => ⟨S16384x128, .i32⟩
  | 123 => ⟨S_, .i32⟩
  | 124 => ⟨S16384x128, .i32⟩
  | 125 => ⟨S16384x128, .i32⟩
  | 126 => ⟨S16384x128, .i32⟩
  | 127 => ⟨S16384x128, .i32⟩
  | _ => ⟨S16384x128, .f32⟩

abbrev hbmTy0_7 (i : Nat) : BufTy := match i % 128 with
  | 0 => ⟨S16384x128, .i32⟩
  | 1 => ⟨S_, .i32⟩
  | 2 => ⟨S16384x128, .i32⟩
  | 3 => ⟨S16384x128, .i32⟩
  | 4 => ⟨S_, .i32⟩
  | 5 => ⟨S16384x128, .i32⟩
  | 6 => ⟨S16384x128, .i32⟩
  | 7 => ⟨S16384x128, .i32⟩
  | 8 => ⟨S16384x128, .i32⟩
  | 9 => ⟨S16384x128, .i32⟩
  | 10 => ⟨S_, .i32⟩
  | 11 => ⟨S16384x128, .i32⟩
  | 12 => ⟨S16384x128, .i32⟩
  | 13 => ⟨S_, .i32⟩
  | 14 => ⟨S16384x128, .i32⟩
  | 15 => ⟨S16384x128, .i32⟩
  | 16 => ⟨S16384x128, .i32⟩
  | 17 => ⟨S16384x128, .i32⟩
  | 18 => ⟨S16384x128, .i32⟩
  | 19 => ⟨S_, .i32⟩
  | 20 => ⟨S16384x128, .i32⟩
  | 21 => ⟨S16384x128, .i32⟩
  | 22 => ⟨S_, .i32⟩
  | 23 => ⟨S16384x128, .i32⟩
  | 24 => ⟨S16384x128, .i32⟩
  | 25 => ⟨S16384x128, .i32⟩
  | 26 => ⟨S16384x128, .i32⟩
  | 27 => ⟨S16384x128, .i32⟩
  | 28 => ⟨S16384x128, .i32⟩
  | 29 => ⟨S16384x128, .i32⟩
  | 30 => ⟨S16384x128, .i32⟩
  | 31 => ⟨S_, .i32⟩
  | 32 => ⟨S16384x128, .i32⟩
  | 33 => ⟨S16384x128, .i32⟩
  | 34 => ⟨S16384x128, .i32⟩
  | 35 => ⟨S_, .i32⟩
  | 36 => ⟨S16384x128, .i32⟩
  | 37 => ⟨S16384x128, .i32⟩
  | 38 => ⟨S_, .i32⟩
  | 39 => ⟨S16384x128, .i32⟩
  | 40 => ⟨S16384x128, .i32⟩
  | 41 => ⟨S16384x128, .i32⟩
  | 42 => ⟨S16384x128, .i32⟩
  | 43 => ⟨S16384x128, .i32⟩
  | 44 => ⟨S_, .i32⟩
  | 45 => ⟨S16384x128, .i32⟩
  | 46 => ⟨S16384x128, .i32⟩
  | 47 => ⟨S_, .i32⟩
  | 48 => ⟨S16384x128, .i32⟩
  | 49 => ⟨S16384x128, .i32⟩
  | 50 => ⟨S16384x128, .i32⟩
  | 51 => ⟨S16384x128, .i32⟩
  | 52 => ⟨S16384x128, .i32⟩
  | 53 => ⟨S_, .i32⟩
  | 54 => ⟨S16384x128, .i32⟩
  | 55 => ⟨S16384x128, .i32⟩
  | 56 => ⟨S_, .i32⟩
  | 57 => ⟨S16384x128, .i32⟩
  | 58 => ⟨S16384x128, .i32⟩
  | 59 => ⟨S16384x128, .i32⟩
  | 60 => ⟨S16384x128, .i32⟩
  | 61 => ⟨S16384x128, .i32⟩
  | 62 => ⟨S_, .i32⟩
  | 63 => ⟨S16384x128, .i32⟩
  | 64 => ⟨S16384x128, .i32⟩
  | 65 => ⟨S_, .i32⟩
  | 66 => ⟨S16384x128, .i32⟩
  | 67 => ⟨S16384x128, .i32⟩
  | 68 => ⟨S16384x128, .i32⟩
  | 69 => ⟨S16384x128, .i32⟩
  | 70 => ⟨S16384x128, .i32⟩
  | 71 => ⟨S16384x128, .i32⟩
  | 72 => ⟨S16384x128, .i32⟩
  | 73 => ⟨S16384x128, .i32⟩
  | 74 => ⟨S_, .i32⟩
  | 75 => ⟨S16384x128, .i32⟩
  | 76 => ⟨S16384x128, .i32⟩
  | 77 => ⟨S16384x128, .i32⟩
  | 78 => ⟨S_, .i32⟩
  | 79 => ⟨S16384x128, .i32⟩
  | 80 => ⟨S16384x128, .i32⟩
  | 81 => ⟨S_, .i32⟩
  | 82 => ⟨S16384x128, .i32⟩
  | 83 => ⟨S16384x128, .i32⟩
  | 84 => ⟨S16384x128, .i32⟩
  | 85 => ⟨S16384x128, .i32⟩
  | 86 => ⟨S16384x128, .i32⟩
  | 87 => ⟨S_, .i32⟩
  | 88 => ⟨S16384x128, .i32⟩
  | 89 => ⟨S16384x128, .i32⟩
  | 90 => ⟨S_, .i32⟩
  | 91 => ⟨S16384x128, .i32⟩
  | 92 => ⟨S16384x128, .i32⟩
  | 93 => ⟨S16384x128, .i32⟩
  | 94 => ⟨S16384x128, .i32⟩
  | 95 => ⟨S16384x128, .i32⟩
  | 96 => ⟨S_, .i32⟩
  | 97 => ⟨S16384x128, .i32⟩
  | 98 => ⟨S16384x128, .i32⟩
  | 99 => ⟨S_, .i32⟩
  | 100 => ⟨S16384x128, .i32⟩
  | 101 => ⟨S16384x128, .i32⟩
  | 102 => ⟨S16384x128, .i32⟩
  | 103 => ⟨S16384x128, .i32⟩
  | 104 => ⟨S16384x128, .i32⟩
  | 105 => ⟨S_, .i32⟩
  | 106 => ⟨S16384x128, .i32⟩
  | 107 => ⟨S16384x128, .i32⟩
  | 108 => ⟨S_, .i32⟩
  | 109 => ⟨S16384x128, .i32⟩
  | 110 => ⟨S16384x128, .i32⟩
  | 111 => ⟨S16384x128, .i32⟩
  | 112 => ⟨S16384x128, .i32⟩
  | 113 => ⟨S16384x128, .i32⟩
  | 114 => ⟨S16384x128, .i32⟩
  | 115 => ⟨S16384x128, .i32⟩
  | 116 => ⟨S16384x128, .i32⟩
  | 117 => ⟨S_, .i32⟩
  | 118 => ⟨S16384x128, .i32⟩
  | 119 => ⟨S16384x128, .i32⟩
  | 120 => ⟨S16384x128, .i32⟩
  | 121 => ⟨S_, .i32⟩
  | 122 => ⟨S16384x128, .i32⟩
  | 123 => ⟨S16384x128, .i32⟩
  | 124 => ⟨S_, .i32⟩
  | 125 => ⟨S16384x128, .i32⟩
  | 126 => ⟨S16384x128, .i32⟩
  | 127 => ⟨S16384x128, .i32⟩
  | _ => ⟨S16384x128, .f32⟩

abbrev hbmTy0_8 (i : Nat) : BufTy := match i % 128 with
  | 0 => ⟨S16384x128, .i32⟩
  | 1 => ⟨S16384x128, .i32⟩
  | 2 => ⟨S_, .i32⟩
  | 3 => ⟨S16384x128, .i32⟩
  | 4 => ⟨S16384x128, .i32⟩
  | 5 => ⟨S_, .i32⟩
  | 6 => ⟨S16384x128, .i32⟩
  | 7 => ⟨S16384x128, .i32⟩
  | 8 => ⟨S16384x128, .i32⟩
  | 9 => ⟨S16384x128, .i32⟩
  | 10 => ⟨S16384x128, .i32⟩
  | 11 => ⟨S_, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S16384x128, .i32⟩
  | 18 => ⟨S16384x128, .i32⟩
  | 19 => ⟨S16384x128, .i32⟩
  | 20 => ⟨S_, .i32⟩
  | 21 => ⟨S16384x128, .i32⟩
  | 22 => ⟨S16384x128, .i32⟩
  | 23 => ⟨S_, .i32⟩
  | 24 => ⟨S16384x128, .i32⟩
  | 25 => ⟨S16384x128, .i32⟩
  | 26 => ⟨S16384x128, .i32⟩
  | 27 => ⟨S16384x128, .i32⟩
  | 28 => ⟨S16384x128, .i32⟩
  | 29 => ⟨S16384x128, .i32⟩
  | 30 => ⟨S16384x128, .i32⟩
  | 31 => ⟨S16384x128, .i32⟩
  | 32 => ⟨S_, .i32⟩
  | 33 => ⟨S16384x128, .i32⟩
  | 34 => ⟨S16384x128, .i32⟩
  | 35 => ⟨S16384x128, .i32⟩
  | 36 => ⟨S_, .i32⟩
  | 37 => ⟨S16384x128, .i32⟩
  | 38 => ⟨S16384x128, .i32⟩
  | 39 => ⟨S_, .i32⟩
  | 40 => ⟨S16384x128, .i32⟩
  | 41 => ⟨S16384x128, .i32⟩
  | 42 => ⟨S16384x128, .f32⟩
  | 43 => ⟨S_, .f32⟩
  | 44 => ⟨S16384x128, .f32⟩
  | 45 => ⟨S16384x128, .f32⟩
  | 46 => ⟨S1x1, .f32⟩
  | 47 => ⟨S16384x128, .f32⟩
  | 48 => ⟨S16384x128, .f32⟩
  | 49 => ⟨S16384x128, .f32⟩
  | 50 => ⟨S16384x128, .f32⟩
  | 51 => ⟨S16384x128, .f32⟩
  | 52 => ⟨S16384x128, .f32⟩
  | 53 => ⟨S_, .f32⟩
  | 54 => ⟨S16384x128, .f32⟩
  | 55 => ⟨S16384x128, .f32⟩
  | 56 => ⟨S16384x128, .f32⟩
  | 57 => ⟨S_, .f32⟩
  | 58 => ⟨S16384x128, .f32⟩
  | 59 => ⟨S16384x128, .f32⟩
  | 60 => ⟨S16384x128, .f32⟩
  | 61 => ⟨S_, .f32⟩
  | 62 => ⟨S16384x128, .f32⟩
  | 63 => ⟨S16384x128, .f32⟩
  | 64 => ⟨S16384x128, .f32⟩
  | 65 => ⟨S_, .f32⟩
  | 66 => ⟨S16384x128, .f32⟩
  | 67 => ⟨S16384x128, .f32⟩
  | 68 => ⟨S16384x128, .f32⟩
  | 69 => ⟨S1x2, .i32⟩
  | 70 => ⟨S2, .i32⟩
  | 71 => ⟨S_, .f32⟩
  | 72 => ⟨S_, .f32⟩
  | 73 => ⟨S_, .f32⟩
  | 74 => ⟨S_, .f32⟩
  | 75 => ⟨S1x1, .f32⟩
  | 76 => ⟨S1x1, .f32⟩
  | 77 => ⟨S1, .i32⟩
  | 78 => ⟨S_, .i32⟩
  | 79 => ⟨S1, .i32⟩
  | 80 => ⟨S_, .i32⟩
  | 81 => ⟨S16384x128, .i64⟩
  | 82 => ⟨S16384x128, .i64⟩
  | 83 => ⟨S_, .i64⟩
  | 84 => ⟨S16384x128, .i64⟩
  | 85 => ⟨S16384x128, .i64⟩
  | 86 => ⟨S_, .i64⟩
  | 87 => ⟨S16384x128, .i64⟩
  | 88 => ⟨S16384x128, .i64⟩
  | 89 => ⟨S16384x128, .i64⟩
  | 90 => ⟨S_, .i64⟩
  | 91 => ⟨S16384x128, .i64⟩
  | 92 => ⟨S16384x128, .i64⟩
  | 93 => ⟨S16384x128, .i32⟩
  | 94 => ⟨S16384x128, .i32⟩
  | 95 => ⟨S_, .i32⟩
  | 96 => ⟨S_, .i32⟩
  | 97 => ⟨S_, .i32⟩
  | 98 => ⟨S16384x128, .i32⟩
  | 99 => ⟨S16384x128, .i32⟩
  | 100 => ⟨S16384x128, .i32⟩
  | 101 => ⟨S16384x128, .i32⟩
  | 102 => ⟨S16384x128, .i32⟩
  | 103 => ⟨S_, .i32⟩
  | 104 => ⟨S16384x128, .i32⟩
  | 105 => ⟨S16384x128, .i32⟩
  | 106 => ⟨S_, .i32⟩
  | 107 => ⟨S16384x128, .i32⟩
  | 108 => ⟨S16384x128, .i32⟩
  | 109 => ⟨S16384x128, .i32⟩
  | 110 => ⟨S16384x128, .i32⟩
  | 111 => ⟨S16384x128, .i32⟩
  | 112 => ⟨S_, .i32⟩
  | 113 => ⟨S16384x128, .i32⟩
  | 114 => ⟨S16384x128, .i32⟩
  | 115 => ⟨S_, .i32⟩
  | 116 => ⟨S16384x128, .i32⟩
  | 117 => ⟨S16384x128, .i32⟩
  | 118 => ⟨S16384x128, .i32⟩
  | 119 => ⟨S16384x128, .i32⟩
  | 120 => ⟨S16384x128, .i32⟩
  | 121 => ⟨S_, .i32⟩
  | 122 => ⟨S16384x128, .i32⟩
  | 123 => ⟨S16384x128, .i32⟩
  | 124 => ⟨S_, .i32⟩
  | 125 => ⟨S16384x128, .i32⟩
  | 126 => ⟨S16384x128, .i32⟩
  | 127 => ⟨S16384x128, .i32⟩
  | _ => ⟨S16384x128, .f32⟩

abbrev hbmTy0_9 (i : Nat) : BufTy := match i % 128 with
  | 0 => ⟨S16384x128, .i32⟩
  | 1 => ⟨S16384x128, .i32⟩
  | 2 => ⟨S_, .i32⟩
  | 3 => ⟨S16384x128, .i32⟩
  | 4 => ⟨S16384x128, .i32⟩
  | 5 => ⟨S_, .i32⟩
  | 6 => ⟨S16384x128, .i32⟩
  | 7 => ⟨S16384x128, .i32⟩
  | 8 => ⟨S16384x128, .i32⟩
  | 9 => ⟨S16384x128, .i32⟩
  | 10 => ⟨S16384x128, .i32⟩
  | 11 => ⟨S16384x128, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S16384x128, .i32⟩
  | 18 => ⟨S_, .i32⟩
  | 19 => ⟨S16384x128, .i32⟩
  | 20 => ⟨S16384x128, .i32⟩
  | 21 => ⟨S_, .i32⟩
  | 22 => ⟨S16384x128, .i32⟩
  | 23 => ⟨S16384x128, .i32⟩
  | 24 => ⟨S16384x128, .i32⟩
  | 25 => ⟨S16384x128, .i32⟩
  | 26 => ⟨S16384x128, .i32⟩
  | 27 => ⟨S_, .i32⟩
  | 28 => ⟨S16384x128, .i32⟩
  | 29 => ⟨S16384x128, .i32⟩
  | 30 => ⟨S_, .i32⟩
  | 31 => ⟨S16384x128, .i32⟩
  | 32 => ⟨S16384x128, .i32⟩
  | 33 => ⟨S16384x128, .i32⟩
  | 34 => ⟨S16384x128, .i32⟩
  | 35 => ⟨S16384x128, .i32⟩
  | 36 => ⟨S_, .i32⟩
  | 37 => ⟨S16384x128, .i32⟩
  | 38 => ⟨S16384x128, .i32⟩
  | 39 => ⟨S_, .i32⟩
  | 40 => ⟨S16384x128, .i32⟩
  | 41 => ⟨S16384x128, .i32⟩
  | 42 => ⟨S16384x128, .i32⟩
  | 43 => ⟨S16384x128, .i32⟩
  | 44 => ⟨S16384x128, .i32⟩
  | 45 => ⟨S_, .i32⟩
  | 46 => ⟨S16384x128, .i32⟩
  | 47 => ⟨S16384x128, .i32⟩
  | 48 => ⟨S_, .i32⟩
  | 49 => ⟨S16384x128, .i32⟩
  | 50 => ⟨S16384x128, .i32⟩
  | 51 => ⟨S16384x128, .i32⟩
  | 52 => ⟨S16384x128, .i32⟩
  | 53 => ⟨S16384x128, .i32⟩
  | 54 => ⟨S16384x128, .i32⟩
  | 55 => ⟨S16384x128, .i32⟩
  | 56 => ⟨S16384x128, .i32⟩
  | 57 => ⟨S_, .i32⟩
  | 58 => ⟨S16384x128, .i32⟩
  | 59 => ⟨S16384x128, .i32⟩
  | 60 => ⟨S16384x128, .i32⟩
  | 61 => ⟨S_, .i32⟩
  | 62 => ⟨S16384x128, .i32⟩
  | 63 => ⟨S16384x128, .i32⟩
  | 64 => ⟨S_, .i32⟩
  | 65 => ⟨S16384x128, .i32⟩
  | 66 => ⟨S16384x128, .i32⟩
  | 67 => ⟨S16384x128, .i32⟩
  | 68 => ⟨S16384x128, .i32⟩
  | 69 => ⟨S16384x128, .i32⟩
  | 70 => ⟨S_, .i32⟩
  | 71 => ⟨S16384x128, .i32⟩
  | 72 => ⟨S16384x128, .i32⟩
  | 73 => ⟨S_, .i32⟩
  | 74 => ⟨S16384x128, .i32⟩
  | 75 => ⟨S16384x128, .i32⟩
  | 76 => ⟨S16384x128, .i32⟩
  | 77 => ⟨S16384x128, .i32⟩
  | 78 => ⟨S16384x128, .i32⟩
  | 79 => ⟨S_, .i32⟩
  | 80 => ⟨S16384x128, .i32⟩
  | 81 => ⟨S16384x128, .i32⟩
  | 82 => ⟨S_, .i32⟩
  | 83 => ⟨S16384x128, .i32⟩
  | 84 => ⟨S16384x128, .i32⟩
  | 85 => ⟨S16384x128, .i32⟩
  | 86 => ⟨S16384x128, .i32⟩
  | 87 => ⟨S16384x128, .i32⟩
  | 88 => ⟨S_, .i32⟩
  | 89 => ⟨S16384x128, .i32⟩
  | 90 => ⟨S16384x128, .i32⟩
  | 91 => ⟨S_, .i32⟩
  | 92 => ⟨S16384x128, .i32⟩
  | 93 => ⟨S16384x128, .i32⟩
  | 94 => ⟨S16384x128, .i32⟩
  | 95 => ⟨S16384x128, .i32⟩
  | 96 => ⟨S16384x128, .i32⟩
  | 97 => ⟨S16384x128, .i32⟩
  | 98 => ⟨S16384x128, .i32⟩
  | 99 => ⟨S16384x128, .i32⟩
  | 100 => ⟨S_, .i32⟩
  | 101 => ⟨S16384x128, .i32⟩
  | 102 => ⟨S16384x128, .i32⟩
  | 103 => ⟨S16384x128, .i32⟩
  | 104 => ⟨S_, .i32⟩
  | 105 => ⟨S16384x128, .i32⟩
  | 106 => ⟨S16384x128, .i32⟩
  | 107 => ⟨S_, .i32⟩
  | 108 => ⟨S16384x128, .i32⟩
  | 109 => ⟨S16384x128, .i32⟩
  | 110 => ⟨S16384x128, .i32⟩
  | 111 => ⟨S16384x128, .i32⟩
  | 112 => ⟨S16384x128, .i32⟩
  | 113 => ⟨S_, .i32⟩
  | 114 => ⟨S16384x128, .i32⟩
  | 115 => ⟨S16384x128, .i32⟩
  | 116 => ⟨S_, .i32⟩
  | 117 => ⟨S16384x128, .i32⟩
  | 118 => ⟨S16384x128, .i32⟩
  | 119 => ⟨S16384x128, .i32⟩
  | 120 => ⟨S16384x128, .i32⟩
  | 121 => ⟨S16384x128, .i32⟩
  | 122 => ⟨S_, .i32⟩
  | 123 => ⟨S16384x128, .i32⟩
  | 124 => ⟨S16384x128, .i32⟩
  | 125 => ⟨S_, .i32⟩
  | 126 => ⟨S16384x128, .i32⟩
  | 127 => ⟨S16384x128, .i32⟩
  | _ => ⟨S16384x128, .f32⟩

abbrev hbmTy0_10 (i : Nat) : BufTy := match i % 128 with
  | 0 => ⟨S16384x128, .i32⟩
  | 1 => ⟨S16384x128, .i32⟩
  | 2 => ⟨S16384x128, .i32⟩
  | 3 => ⟨S_, .i32⟩
  | 4 => ⟨S16384x128, .i32⟩
  | 5 => ⟨S16384x128, .i32⟩
  | 6 => ⟨S_, .i32⟩
  | 7 => ⟨S16384x128, .i32⟩
  | 8 => ⟨S16384x128, .i32⟩
  | 9 => ⟨S16384x128, .i32⟩
  | 10 => ⟨S16384x128, .i32⟩
  | 11 => ⟨S16384x128, .i32⟩
  | 12 => ⟨S16384x128, .i32⟩
  | 13 => ⟨S16384x128, .i32⟩
  | 14 => ⟨S16384x128, .i32⟩
  | 15 => ⟨S_, .i32⟩
  | 16 => ⟨S16384x128, .i32⟩
  | 17 => ⟨S16384x128, .i32⟩
  | 18 => ⟨S16384x128, .i32⟩
  | 19 => ⟨S_, .i32⟩
  | 20 => ⟨S16384x128, .i32⟩
  | 21 => ⟨S16384x128, .i32⟩
  | 22 => ⟨S_, .i32⟩
  | 23 => ⟨S16384x128, .i32⟩
  | 24 => ⟨S16384x128, .i32⟩
  | 25 => ⟨S16384x128, .i32⟩
  | 26 => ⟨S16384x128, .i32⟩
  | 27 => ⟨S16384x128, .i32⟩
  | 28 => ⟨S_, .i32⟩
  | 29 => ⟨S16384x128, .i32⟩
  | 30 => ⟨S16384x128, .i32⟩
  | 31 => ⟨S_, .i32⟩
  | 32 => ⟨S16384x128, .i32⟩
  | 33 => ⟨S16384x128, .i32⟩
  | 34 => ⟨S16384x128, .i32⟩
  | 35 => ⟨S16384x128, .i32⟩
  | 36 => ⟨S16384x128, .i32⟩
  | 37 => ⟨S_, .i32⟩
  | 38 => ⟨S16384x128, .i32⟩
  | 39 => ⟨S16384x128, .i32⟩
  | 40 => ⟨S_, .i32⟩
  | 41 => ⟨S16384x128, .i32⟩
  | 42 => ⟨S16384x128, .i32⟩
  | 43 => ⟨S16384x128, .i32⟩
  | 44 => ⟨S16384x128, .i32⟩
  | 45 => ⟨S16384x128, .i32⟩
  | 46 => ⟨S_, .i32⟩
  | 47 => ⟨S16384x128, .i32⟩
  | 48 => ⟨S16384x128, .i32⟩
  | 49 => ⟨S_, .i32⟩
  | 50 => ⟨S16384x128, .i32⟩
  | 51 => ⟨S16384x128, .i32⟩
  | 52 => ⟨S16384x128, .i32⟩
  | 53 => ⟨S16384x128, .i32⟩
  | 54 => ⟨S16384x128, .i32⟩
  | 55 => ⟨S16384x128, .i32⟩
  | 56 => ⟨S16384x128, .i32⟩
  | 57 => ⟨S16384x128, .i32⟩
  | 58 => ⟨S_, .i32⟩
  | 59 => ⟨S16384x128, .i32⟩
  | 60 => ⟨S16384x128, .i32⟩
  | 61 => ⟨S16384x128, .i32⟩
  | 62 => ⟨S_, .i32⟩
  | 63 => ⟨S16384x128, .i32⟩
  | 64 => ⟨S16384x128, .i32⟩
  | 65 => ⟨S_, .i32⟩
  | 66 => ⟨S16384x128, .i32⟩
  | 67 => ⟨S16384x128, .i32⟩
  | 68 => ⟨S16384x128, .f32⟩
  | 69 => ⟨S_, .f32⟩
  | 70 => ⟨S16384x128, .f32⟩
  | 71 => ⟨S16384x128, .f32⟩
  | 72 => ⟨S1x1, .f32⟩
  | 73 => ⟨S16384x128, .f32⟩
  | 74 => ⟨S16384x128, .f32⟩
  | 75 => ⟨S16384x128, .f32⟩
  | 76 => ⟨S16384x128, .f32⟩
  | 77 => ⟨S16384x128, .f32⟩
  | 78 => ⟨S16384x128, .f32⟩
  | 79 => ⟨S16384x128, .f32⟩
  | 80 => ⟨S16384x128, .f32⟩
  | 81 => ⟨S16384x128, .f32⟩
  | 82 => ⟨S16384x128, .f32⟩
  | 83 => ⟨S_, .f32⟩
  | 84 => ⟨S16384, .f32⟩
  | 85 => ⟨S_, .f32⟩
  | 86 => ⟨S16384, .f32⟩
  | 87 => ⟨S16384, .f32⟩
  | 88 => ⟨S_, .f32⟩
  | 89 => ⟨S_, .f32⟩
  | 90 => ⟨S_, .f32⟩
  | 91 => ⟨S_, .f32⟩
  | 92 => ⟨S_, .f32⟩
  | 93 => ⟨S16384, .f32⟩
  | 94 => ⟨S16384, .f32⟩
  | 95 => ⟨S16384, .i1⟩
  | 96 => ⟨S_, .i32⟩
  | 97 => ⟨S_, .i32⟩
  | 98 => ⟨S16384x128, .f32⟩
  | 99 => ⟨S54x2, .i32⟩
  | 100 => ⟨S16384, .f32⟩
  | 101 => ⟨S_, .i32⟩
  | 102 => ⟨S_, .i32⟩
  | 103 => ⟨S16384x128, .f32⟩
  | 104 => ⟨S16384x128, .f32⟩
  | 105 => ⟨S16384x128, .f32⟩
  | 106 => ⟨S16384, .i1⟩
  | 107 => ⟨S_, .i32⟩
  | 108 => ⟨S_, .i1⟩
  | 109 => ⟨S_, .i32⟩
  | 110 => ⟨S_, .i32⟩
  | 111 => ⟨S16384x128, .i1⟩
  | 112 => ⟨S16384x1, .i1⟩
  | 113 => ⟨S16384x128, .i1⟩
  | 114 => ⟨S16384x128, .i1⟩
  | 115 => ⟨S16384x128, .f32⟩
  | 116 => ⟨S16384x128, .i1⟩
  | 117 => ⟨S16384x128, .i1⟩
  | 118 => ⟨S16384x128, .i1⟩
  | 119 => ⟨S16384x128, .f32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S16384x128, .f32⟩

abbrev hbmTy0_11 (i : Nat) : BufTy := match i % 128 with
  | 0 => ⟨S_, .i32⟩
  | 1 => ⟨S1x2, .i32⟩
  | 2 => ⟨S2, .i32⟩
  | 3 => ⟨S_, .f32⟩
  | 4 => ⟨S_, .f32⟩
  | 5 => ⟨S_, .f32⟩
  | 6 => ⟨S_, .f32⟩
  | 7 => ⟨S1x1, .f32⟩
  | 8 => ⟨S1x1, .f32⟩
  | 9 => ⟨S1, .i32⟩
  | 10 => ⟨S_, .i32⟩
  | 11 => ⟨S1, .i32⟩
  | 12 => ⟨S_, .i32⟩
  | 13 => ⟨S16384x128, .i64⟩
  | 14 => ⟨S16384x128, .i64⟩
  | 15 => ⟨S_, .i64⟩
  | 16 => ⟨S16384x128, .i64⟩
  | 17 => ⟨S16384x128, .i64⟩
  | 18 => ⟨S_, .i64⟩
  | 19 => ⟨S16384x128, .i64⟩
  | 20 => ⟨S16384x128, .i64⟩
  | 21 => ⟨S16384x128, .i64⟩
  | 22 => ⟨S_, .i64⟩
  | 23 => ⟨S16384x128, .i64⟩
  | 24 => ⟨S16384x128, .i64⟩
  | 25 => ⟨S16384x128, .i32⟩
  | 26 => ⟨S16384x128, .i32⟩
  | 27 => ⟨S_, .i32⟩
  | 28 => ⟨S_, .i32⟩
  | 29 => ⟨S_, .i32⟩
  | 30 => ⟨S16384x128, .i32⟩
  | 31 => ⟨S16384x128, .i32⟩
  | 32 => ⟨S16384x128, .i32⟩
  | 33 => ⟨S16384x128, .i32⟩
  | 34 => ⟨S16384x128, .i32⟩
  | 35 => ⟨S_, .i32⟩
  | 36 => ⟨S16384x128, .i32⟩
  | 37 => ⟨S16384x128, .i32⟩
  | 38 => ⟨S_, .i32⟩
  | 39 => ⟨S16384x128, .i32⟩
  | 40 => ⟨S16384x128, .i32⟩
  | 41 => ⟨S16384x128, .i32⟩
  | 42 => ⟨S16384x128, .i32⟩
  | 43 => ⟨S16384x128, .i32⟩
  | 44 => ⟨S_, .i32⟩
  | 45 => ⟨S16384x128, .i32⟩
  | 46 => ⟨S16384x128, .i32⟩
  | 47 => ⟨S_, .i32⟩
  | 48 => ⟨S16384x128, .i32⟩
  | 49 => ⟨S16384x128, .i32⟩
  | 50 => ⟨S16384x128, .i32⟩
  | 51 => ⟨S16384x128, .i32⟩
  | 52 => ⟨S16384x128, .i32⟩
  | 53 => ⟨S_, .i32⟩
  | 54 => ⟨S16384x128, .i32⟩
  | 55 => ⟨S16384x128, .i32⟩
  | 56 => ⟨S_, .i32⟩
  | 57 => ⟨S16384x128, .i32⟩
  | 58 => ⟨S16384x128, .i32⟩
  | 59 => ⟨S16384x128, .i32⟩
  | 60 => ⟨S16384x128, .i32⟩
  | 61 => ⟨S16384x128, .i32⟩
  | 62 => ⟨S_, .i32⟩
  | 63 => ⟨S16384x128, .i32⟩
  | 64 => ⟨S16384x128, .i32⟩
  | 65 => ⟨S_, .i32⟩
  | 66 => ⟨S16384x128, .i32⟩
  | 67 => ⟨S16384x128, .i32⟩
  | 68 => ⟨S16384x128, .i32⟩
  | 69 => ⟨S16384x128, .i32⟩
  | 70 => ⟨S16384x128, .i32⟩
  | 71 => ⟨S16384x128, .i32⟩
  | 72 => ⟨S16384x128, .i32⟩
  | 73 => ⟨S16384x128, .i32⟩
  | 74 => ⟨S_, .i32⟩
  | 75 => ⟨S16384x128, .i32⟩
  | 76 => ⟨S16384x128, .i32⟩
  | 77 => ⟨S16384x128, .i32⟩
  | 78 => ⟨S_, .i32⟩
  | 79 => ⟨S16384x128, .i32⟩
  | 80 => ⟨S16384x128, .i32⟩
  | 81 => ⟨S_, .i32⟩
  | 82 => ⟨S16384x128, .i32⟩
  | 83 => ⟨S16384x128, .i32⟩
  | 84 => ⟨S16384x128, .i32⟩
  | 85 => ⟨S16384x128, .i32⟩
  | 86 => ⟨S16384x128, .i32⟩
  | 87 => ⟨S_, .i32⟩
  | 88 => ⟨S16384x128, .i32⟩
  | 89 => ⟨S16384x128, .i32⟩
  | 90 => ⟨S_, .i32⟩
  | 91 => ⟨S16384x128, .i32⟩
  | 92 => ⟨S16384x128, .i32⟩
  | 93 => ⟨S16384x128, .i32⟩
  | 94 => ⟨S16384x128, .i32⟩
  | 95 => ⟨S16384x128, .i32⟩
  | 96 => ⟨S_, .i32⟩
  | 97 => ⟨S16384x128, .i32⟩
  | 98 => ⟨S16384x128, .i32⟩
  | 99 => ⟨S_, .i32⟩
  | 100 => ⟨S16384x128, .i32⟩
  | 101 => ⟨S16384x128, .i32⟩
  | 102 => ⟨S16384x128, .i32⟩
  | 103 => ⟨S16384x128, .i32⟩
  | 104 => ⟨S16384x128, .i32⟩
  | 105 => ⟨S_, .i32⟩
  | 106 => ⟨S16384x128, .i32⟩
  | 107 => ⟨S16384x128, .i32⟩
  | 108 => ⟨S_, .i32⟩
  | 109 => ⟨S16384x128, .i32⟩
  | 110 => ⟨S16384x128, .i32⟩
  | 111 => ⟨S16384x128, .i32⟩
  | 112 => ⟨S16384x128, .i32⟩
  | 113 => ⟨S16384x128, .i32⟩
  | 114 => ⟨S16384x128, .i32⟩
  | 115 => ⟨S16384x128, .i32⟩
  | 116 => ⟨S16384x128, .i32⟩
  | 117 => ⟨S_, .i32⟩
  | 118 => ⟨S16384x128, .i32⟩
  | 119 => ⟨S16384x128, .i32⟩
  | 120 => ⟨S16384x128, .i32⟩
  | 121 => ⟨S_, .i32⟩
  | 122 => ⟨S16384x128, .i32⟩
  | 123 => ⟨S16384x128, .i32⟩
  | 124 => ⟨S_, .i32⟩
  | 125 => ⟨S16384x128, .i32⟩
  | 126 => ⟨S16384x128, .i32⟩
  | 127 => ⟨S16384x128, .i32⟩
  | _ => ⟨S16384x128, .f32⟩

abbrev hbmTy0_12 (i : Nat) : BufTy := match i % 128 with
  | 0 => ⟨S16384x128, .i32⟩
  | 1 => ⟨S16384x128, .i32⟩
  | 2 => ⟨S_, .i32⟩
  | 3 => ⟨S16384x128, .i32⟩
  | 4 => ⟨S16384x128, .i32⟩
  | 5 => ⟨S_, .i32⟩
  | 6 => ⟨S16384x128, .i32⟩
  | 7 => ⟨S16384x128, .i32⟩
  | 8 => ⟨S16384x128, .i32⟩
  | 9 => ⟨S16384x128, .i32⟩
  | 10 => ⟨S16384x128, .i32⟩
  | 11 => ⟨S_, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S16384x128, .i32⟩
  | 18 => ⟨S16384x128, .i32⟩
  | 19 => ⟨S16384x128, .i32⟩
  | 20 => ⟨S_, .i32⟩
  | 21 => ⟨S16384x128, .i32⟩
  | 22 => ⟨S16384x128, .i32⟩
  | 23 => ⟨S_, .i32⟩
  | 24 => ⟨S16384x128, .i32⟩
  | 25 => ⟨S16384x128, .i32⟩
  | 26 => ⟨S16384x128, .i32⟩
  | 27 => ⟨S16384x128, .i32⟩
  | 28 => ⟨S16384x128, .i32⟩
  | 29 => ⟨S16384x128, .i32⟩
  | 30 => ⟨S16384x128, .i32⟩
  | 31 => ⟨S16384x128, .i32⟩
  | 32 => ⟨S_, .i32⟩
  | 33 => ⟨S16384x128, .i32⟩
  | 34 => ⟨S16384x128, .i32⟩
  | 35 => ⟨S16384x128, .i32⟩
  | 36 => ⟨S_, .i32⟩
  | 37 => ⟨S16384x128, .i32⟩
  | 38 => ⟨S16384x128, .i32⟩
  | 39 => ⟨S_, .i32⟩
  | 40 => ⟨S16384x128, .i32⟩
  | 41 => ⟨S16384x128, .i32⟩
  | 42 => ⟨S16384x128, .i32⟩
  | 43 => ⟨S16384x128, .i32⟩
  | 44 => ⟨S16384x128, .i32⟩
  | 45 => ⟨S_, .i32⟩
  | 46 => ⟨S16384x128, .i32⟩
  | 47 => ⟨S16384x128, .i32⟩
  | 48 => ⟨S_, .i32⟩
  | 49 => ⟨S16384x128, .i32⟩
  | 50 => ⟨S16384x128, .i32⟩
  | 51 => ⟨S16384x128, .i32⟩
  | 52 => ⟨S16384x128, .i32⟩
  | 53 => ⟨S16384x128, .i32⟩
  | 54 => ⟨S_, .i32⟩
  | 55 => ⟨S16384x128, .i32⟩
  | 56 => ⟨S16384x128, .i32⟩
  | 57 => ⟨S_, .i32⟩
  | 58 => ⟨S16384x128, .i32⟩
  | 59 => ⟨S16384x128, .i32⟩
  | 60 => ⟨S16384x128, .i32⟩
  | 61 => ⟨S16384x128, .i32⟩
  | 62 => ⟨S16384x128, .i32⟩
  | 63 => ⟨S_, .i32⟩
  | 64 => ⟨S16384x128, .i32⟩
  | 65 => ⟨S16384x128, .i32⟩
  | 66 => ⟨S_, .i32⟩
  | 67 => ⟨S16384x128, .i32⟩
  | 68 => ⟨S16384x128, .i32⟩
  | 69 => ⟨S16384x128, .i32⟩
  | 70 => ⟨S16384x128, .i32⟩
  | 71 => ⟨S16384x128, .i32⟩
  | 72 => ⟨S16384x128, .i32⟩
  | 73 => ⟨S16384x128, .i32⟩
  | 74 => ⟨S16384x128, .i32⟩
  | 75 => ⟨S_, .i32⟩
  | 76 => ⟨S16384x128, .i32⟩
  | 77 => ⟨S16384x128, .i32⟩
  | 78 => ⟨S16384x128, .i32⟩
  | 79 => ⟨S_, .i32⟩
  | 80 => ⟨S16384x128, .i32⟩
  | 81 => ⟨S16384x128, .i32⟩
  | 82 => ⟨S_, .i32⟩
  | 83 => ⟨S16384x128, .i32⟩
  | 84 => ⟨S16384x128, .i32⟩
  | 85 => ⟨S16384x128, .i32⟩
  | 86 => ⟨S16384x128, .i32⟩
  | 87 => ⟨S16384x128, .i32⟩
  | 88 => ⟨S_, .i32⟩
  | 89 => ⟨S16384x128, .i32⟩
  | 90 => ⟨S16384x128, .i32⟩
  | 91 => ⟨S_, .i32⟩
  | 92 => ⟨S16384x128, .i32⟩
  | 93 => ⟨S16384x128, .i32⟩
  | 94 => ⟨S16384x128, .i32⟩
  | 95 => ⟨S16384x128, .i32⟩
  | 96 => ⟨S16384x128, .i32⟩
  | 97 => ⟨S_, .i32⟩
  | 98 => ⟨S16384x128, .i32⟩
  | 99 => ⟨S16384x128, .i32⟩
  | 100 => ⟨S_, .i32⟩
  | 101 => ⟨S16384x128, .i32⟩
  | 102 => ⟨S16384x128, .i32⟩
  | 103 => ⟨S16384x128, .i32⟩
  | 104 => ⟨S16384x128, .i32⟩
  | 105 => ⟨S16384x128, .i32⟩
  | 106 => ⟨S_, .i32⟩
  | 107 => ⟨S16384x128, .i32⟩
  | 108 => ⟨S16384x128, .i32⟩
  | 109 => ⟨S_, .i32⟩
  | 110 => ⟨S16384x128, .i32⟩
  | 111 => ⟨S16384x128, .i32⟩
  | 112 => ⟨S16384x128, .i32⟩
  | 113 => ⟨S16384x128, .i32⟩
  | 114 => ⟨S16384x128, .i32⟩
  | 115 => ⟨S16384x128, .i32⟩
  | 116 => ⟨S16384x128, .i32⟩
  | 117 => ⟨S16384x128, .i32⟩
  | 118 => ⟨S_, .i32⟩
  | 119 => ⟨S16384x128, .i32⟩
  | 120 => ⟨S16384x128, .i32⟩
  | 121 => ⟨S16384x128, .i32⟩
  | 122 => ⟨S_, .i32⟩
  | 123 => ⟨S16384x128, .i32⟩
  | 124 => ⟨S16384x128, .i32⟩
  | 125 => ⟨S_, .i32⟩
  | 126 => ⟨S16384x128, .i32⟩
  | 127 => ⟨S16384x128, .i32⟩
  | _ => ⟨S16384x128, .f32⟩

abbrev hbmTy0_13 (i : Nat) : BufTy := match i % 128 with
  | 0 => ⟨S16384x128, .f32⟩
  | 1 => ⟨S_, .f32⟩
  | 2 => ⟨S16384x128, .f32⟩
  | 3 => ⟨S16384x128, .f32⟩
  | 4 => ⟨S1x1, .f32⟩
  | 5 => ⟨S16384x128, .f32⟩
  | 6 => ⟨S16384x128, .f32⟩
  | 7 => ⟨S16384x128, .f32⟩
  | 8 => ⟨S16384x128, .f32⟩
  | 9 => ⟨S16384x128, .f32⟩
  | 10 => ⟨S16384x128, .f32⟩
  | 11 => ⟨S16384x128, .f32⟩
  | 12 => ⟨S16384x128, .f32⟩
  | 13 => ⟨S16384x128, .f32⟩
  | 14 => ⟨S16384x128, .i1⟩
  | 15 => ⟨S16384x128, .f32⟩
  | 16 => ⟨S16384x128, .f32⟩
  | 17 => ⟨S_, .f32⟩
  | 18 => ⟨S16384, .f32⟩
  | 19 => ⟨S_, .f32⟩
  | 20 => ⟨S16384, .f32⟩
  | 21 => ⟨S16384, .f32⟩
  | 22 => ⟨S_, .f32⟩
  | 23 => ⟨S_, .f32⟩
  | 24 => ⟨S_, .f32⟩
  | 25 => ⟨S_, .f32⟩
  | 26 => ⟨S_, .f32⟩
  | 27 => ⟨S16384, .f32⟩
  | 28 => ⟨S16384, .f32⟩
  | 29 => ⟨S16384, .i1⟩
  | 30 => ⟨S16384, .i1⟩
  | 31 => ⟨S_, .i32⟩
  | 32 => ⟨S_, .i32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_cst : Ref sig .tc := ⟨.hbm, 250, rfl⟩
abbrev main_v9 : Ref sig .tc := ⟨.hbm, 251, rfl⟩
abbrev main_cst_2 : Ref sig .tc := ⟨.hbm, 252, rfl⟩
abbrev main_v10 : Ref sig .tc := ⟨.hbm, 253, rfl⟩
abbrev main_v11 : Ref sig .tc := ⟨.hbm, 254, rfl⟩
abbrev main_cst_3 : Ref sig .tc := ⟨.hbm, 255, rfl⟩
abbrev main_v12 : Ref sig .tc := ⟨.hbm, 256, rfl⟩
abbrev main_cst_4 : Ref sig .tc := ⟨.hbm, 257, rfl⟩
abbrev main_v13 : Ref sig .tc := ⟨.hbm, 258, rfl⟩
abbrev main_v14 : Ref sig .tc := ⟨.hbm, 259, rfl⟩
abbrev main_v15 : Ref sig .tc := ⟨.hbm, 260, rfl⟩
abbrev main_v16 : Ref sig .tc := ⟨.hbm, 261, rfl⟩
abbrev main_v17 : Ref sig .tc := ⟨.hbm, 262, rfl⟩
abbrev main_v18 : Ref sig .tc := ⟨.hbm, 263, rfl⟩
abbrev main_cst_5 : Ref sig .tc := ⟨.hbm, 264, rfl⟩
abbrev main_cst_6 : Ref sig .tc := ⟨.hbm, 265, rfl⟩
abbrev main_call1_v0 : Ref sig .tc := ⟨.hbm, 266, rfl⟩
abbrev main_call1_v1 : Ref sig .tc := ⟨.hbm, 267, rfl⟩
abbrev main_call1_v2 : Ref sig .tc := ⟨.hbm, 268, rfl⟩
abbrev main_call1_v3 : Ref sig .tc := ⟨.hbm, 269, rfl⟩
abbrev main_call1_v4 : Ref sig .tc := ⟨.hbm, 270, rfl⟩
abbrev main_call1_v5 : Ref sig .tc := ⟨.hbm, 271, rfl⟩
abbrev main_call1_v6 : Ref sig .tc := ⟨.hbm, 272, rfl⟩
abbrev main_call1_v7 : Ref sig .tc := ⟨.hbm, 273, rfl⟩
abbrev main_call1_v8 : Ref sig .tc := ⟨.hbm, 274, rfl⟩
abbrev main_call1_c : Ref sig .tc := ⟨.hbm, 275, rfl⟩
abbrev main_call1_v9 : Ref sig .tc := ⟨.hbm, 276, rfl⟩
abbrev main_call1_v10 : Ref sig .tc := ⟨.hbm, 277, rfl⟩
abbrev main_call1_c_0 : Ref sig .tc := ⟨.hbm, 278, rfl⟩
abbrev main_call1_v11 : Ref sig .tc := ⟨.hbm, 279, rfl⟩
abbrev main_call1_v12 : Ref sig .tc := ⟨.hbm, 280, rfl⟩
abbrev main_call1_v13 : Ref sig .tc := ⟨.hbm, 281, rfl⟩
abbrev main_call1_v14 : Ref sig .tc := ⟨.hbm, 282, rfl⟩
abbrev main_call1_call0_v0 : Ref sig .tc := ⟨.hbm, 283, rfl⟩
abbrev main_call1_call0_c : Ref sig .tc := ⟨.hbm, 284, rfl⟩
abbrev main_call1_call0_v1 : Ref sig .tc := ⟨.hbm, 285, rfl⟩
abbrev main_call1_call0_v2 : Ref sig .tc := ⟨.hbm, 286, rfl⟩
abbrev main_call1_call0_v3 : Ref sig .tc := ⟨.hbm, 287, rfl⟩
abbrev main_call1_call0_v4 : Ref sig .tc := ⟨.hbm, 288, rfl⟩
abbrev main_call1_call0_v5 : Ref sig .tc := ⟨.hbm, 289, rfl⟩
abbrev main_call1_call0_v6 : Ref sig .tc := ⟨.hbm, 290, rfl⟩
abbrev main_call1_call0_c_0 : Ref sig .tc := ⟨.hbm, 291, rfl⟩
abbrev main_call1_call0_v7 : Ref sig .tc := ⟨.hbm, 292, rfl⟩
abbrev main_call1_call0_v8 : Ref sig .tc := ⟨.hbm, 293, rfl⟩
abbrev main_call1_call0_c_1 : Ref sig .tc := ⟨.hbm, 294, rfl⟩
abbrev main_call1_call0_v9 : Ref sig .tc := ⟨.hbm, 295, rfl⟩
abbrev main_call1_call0_v10 : Ref sig .tc := ⟨.hbm, 296, rfl⟩
abbrev main_call1_call0_v11 : Ref sig .tc := ⟨.hbm, 297, rfl⟩
abbrev main_call1_call0_v12 : Ref sig .tc := ⟨.hbm, 298, rfl⟩
abbrev main_call1_call0_v13 : Ref sig .tc := ⟨.hbm, 299, rfl⟩
abbrev main_call1_call0_c_2 : Ref sig .tc := ⟨.hbm, 300, rfl⟩
abbrev main_call1_call0_v14 : Ref sig .tc := ⟨.hbm, 301, rfl⟩
abbrev main_call1_call0_v15 : Ref sig .tc := ⟨.hbm, 302, rfl⟩
abbrev main_call1_call0_c_3 : Ref sig .tc := ⟨.hbm, 303, rfl⟩
abbrev main_call1_call0_v16 : Ref sig .tc := ⟨.hbm, 304, rfl⟩
abbrev main_call1_call0_v17 : Ref sig .tc := ⟨.hbm, 305, rfl⟩
abbrev main_call1_call0_v18 : Ref sig .tc := ⟨.hbm, 306, rfl⟩
abbrev main_call1_call0_v19 : Ref sig .tc := ⟨.hbm, 307, rfl⟩
abbrev main_call1_call0_v20 : Ref sig .tc := ⟨.hbm, 308, rfl⟩
abbrev main_call1_call0_c_4 : Ref sig .tc := ⟨.hbm, 309, rfl⟩
abbrev main_call1_call0_v21 : Ref sig .tc := ⟨.hbm, 310, rfl⟩
abbrev main_call1_call0_v22 : Ref sig .tc := ⟨.hbm, 311, rfl⟩
abbrev main_call1_call0_c_5 : Ref sig .tc := ⟨.hbm, 312, rfl⟩
abbrev main_call1_call0_v23 : Ref sig .tc := ⟨.hbm, 313, rfl⟩
abbrev main_call1_call0_v24 : Ref sig .tc := ⟨.hbm, 314, rfl⟩
abbrev main_call1_call0_v25 : Ref sig .tc := ⟨.hbm, 315, rfl⟩
abbrev main_call1_call0_v26 : Ref sig .tc := ⟨.hbm, 316, rfl⟩
abbrev main_call1_call0_v27 : Ref sig .tc := ⟨.hbm, 317, rfl⟩
abbrev main_call1_call0_c_6 : Ref sig .tc := ⟨.hbm, 318, rfl⟩
abbrev main_call1_call0_v28 : Ref sig .tc := ⟨.hbm, 319, rfl⟩
abbrev main_call1_call0_v29 : Ref sig .tc := ⟨.hbm, 320, rfl⟩
abbrev main_call1_call0_c_7 : Ref sig .tc := ⟨.hbm, 321, rfl⟩
abbrev main_call1_call0_v30 : Ref sig .tc := ⟨.hbm, 322, rfl⟩
abbrev main_call1_call0_v31 : Ref sig .tc := ⟨.hbm, 323, rfl⟩
abbrev main_call1_call0_v32 : Ref sig .tc := ⟨.hbm, 324, rfl⟩
abbrev main_call1_call0_v33 : Ref sig .tc := ⟨.hbm, 325, rfl⟩
abbrev main_call1_call0_v34 : Ref sig .tc := ⟨.hbm, 326, rfl⟩
abbrev main_call1_call0_v35 : Ref sig .tc := ⟨.hbm, 327, rfl⟩
abbrev main_call1_call0_v36 : Ref sig .tc := ⟨.hbm, 328, rfl⟩
abbrev main_call1_call0_v37 : Ref sig .tc := ⟨.hbm, 329, rfl⟩
abbrev main_call1_call0_c_8 : Ref sig .tc := ⟨.hbm, 330, rfl⟩
abbrev main_call1_call0_v38 : Ref sig .tc := ⟨.hbm, 331, rfl⟩
abbrev main_call1_call0_v39 : Ref sig .tc := ⟨.hbm, 332, rfl⟩
abbrev main_call1_call0_v40 : Ref sig .tc := ⟨.hbm, 333, rfl⟩
abbrev main_call1_call0_c_9 : Ref sig .tc := ⟨.hbm, 334, rfl⟩
abbrev main_call1_call0_v41 : Ref sig .tc := ⟨.hbm, 335, rfl⟩
abbrev main_call1_call0_v42 : Ref sig .tc := ⟨.hbm, 336, rfl⟩
abbrev main_call1_call0_c_10 : Ref sig .tc := ⟨.hbm, 337, rfl⟩
abbrev main_call1_call0_v43 : Ref sig .tc := ⟨.hbm, 338, rfl⟩
abbrev main_call1_call0_v44 : Ref sig .tc := ⟨.hbm, 339, rfl⟩
abbrev main_call1_call0_v45 : Ref sig .tc := ⟨.hbm, 340, rfl⟩
abbrev main_call1_call0_v46 : Ref sig .tc := ⟨.hbm, 341, rfl⟩
abbrev main_call1_call0_v47 : Ref sig .tc := ⟨.hbm, 342, rfl⟩
abbrev main_call1_call0_c_11 : Ref sig .tc := ⟨.hbm, 343, rfl⟩
abbrev main_call1_call0_v48 : Ref sig .tc := ⟨.hbm, 344, rfl⟩
abbrev main_call1_call0_v49 : Ref sig .tc := ⟨.hbm, 345, rfl⟩
abbrev main_call1_call0_c_12 : Ref sig .tc := ⟨.hbm, 346, rfl⟩
abbrev main_call1_call0_v50 : Ref sig .tc := ⟨.hbm, 347, rfl⟩
abbrev main_call1_call0_v51 : Ref sig .tc := ⟨.hbm, 348, rfl⟩
abbrev main_call1_call0_v52 : Ref sig .tc := ⟨.hbm, 349, rfl⟩
abbrev main_call1_call0_v53 : Ref sig .tc := ⟨.hbm, 350, rfl⟩
abbrev main_call1_call0_v54 : Ref sig .tc := ⟨.hbm, 351, rfl⟩
abbrev main_call1_call0_c_13 : Ref sig .tc := ⟨.hbm, 352, rfl⟩
abbrev main_call1_call0_v55 : Ref sig .tc := ⟨.hbm, 353, rfl⟩
abbrev main_call1_call0_v56 : Ref sig .tc := ⟨.hbm, 354, rfl⟩
abbrev main_call1_call0_c_14 : Ref sig .tc := ⟨.hbm, 355, rfl⟩
abbrev main_call1_call0_v57 : Ref sig .tc := ⟨.hbm, 356, rfl⟩
abbrev main_call1_call0_v58 : Ref sig .tc := ⟨.hbm, 357, rfl⟩
abbrev main_call1_call0_v59 : Ref sig .tc := ⟨.hbm, 358, rfl⟩
abbrev main_call1_call0_v60 : Ref sig .tc := ⟨.hbm, 359, rfl⟩
abbrev main_call1_call0_v61 : Ref sig .tc := ⟨.hbm, 360, rfl⟩
abbrev main_call1_call0_c_15 : Ref sig .tc := ⟨.hbm, 361, rfl⟩
abbrev main_call1_call0_v62 : Ref sig .tc := ⟨.hbm, 362, rfl⟩
abbrev main_call1_call0_v63 : Ref sig .tc := ⟨.hbm, 363, rfl⟩
abbrev main_call1_call0_c_16 : Ref sig .tc := ⟨.hbm, 364, rfl⟩
abbrev main_call1_call0_v64 : Ref sig .tc := ⟨.hbm, 365, rfl⟩
abbrev main_call1_call0_v65 : Ref sig .tc := ⟨.hbm, 366, rfl⟩
abbrev main_call1_call0_v66 : Ref sig .tc := ⟨.hbm, 367, rfl⟩
abbrev main_call1_call0_v67 : Ref sig .tc := ⟨.hbm, 368, rfl⟩
abbrev main_call1_call0_v68 : Ref sig .tc := ⟨.hbm, 369, rfl⟩
abbrev main_call1_call0_v69 : Ref sig .tc := ⟨.hbm, 370, rfl⟩
abbrev main_call1_call0_v70 : Ref sig .tc := ⟨.hbm, 371, rfl⟩
abbrev main_call1_call0_v71 : Ref sig .tc := ⟨.hbm, 372, rfl⟩
abbrev main_call1_call0_c_17 : Ref sig .tc := ⟨.hbm, 373, rfl⟩
abbrev main_call1_call0_v72 : Ref sig .tc := ⟨.hbm, 374, rfl⟩
abbrev main_call1_call0_v73 : Ref sig .tc := ⟨.hbm, 375, rfl⟩
abbrev main_call1_call0_v74 : Ref sig .tc := ⟨.hbm, 376, rfl⟩
abbrev main_call1_call0_c_18 : Ref sig .tc := ⟨.hbm, 377, rfl⟩
abbrev main_call1_call0_v75 : Ref sig .tc := ⟨.hbm, 378, rfl⟩
abbrev main_call1_call0_v76 : Ref sig .tc := ⟨.hbm, 379, rfl⟩
abbrev main_call1_call0_c_19 : Ref sig .tc := ⟨.hbm, 380, rfl⟩
abbrev main_call1_call0_v77 : Ref sig .tc := ⟨.hbm, 381, rfl⟩
abbrev main_call1_call0_v78 : Ref sig .tc := ⟨.hbm, 382, rfl⟩
abbrev main_call1_call0_v79 : Ref sig .tc := ⟨.hbm, 383, rfl⟩
abbrev main_call1_call0_v80 : Ref sig .tc := ⟨.hbm, 384, rfl⟩
abbrev main_call1_call0_v81 : Ref sig .tc := ⟨.hbm, 385, rfl⟩
abbrev main_call1_call0_c_20 : Ref sig .tc := ⟨.hbm, 386, rfl⟩
abbrev main_call1_call0_v82 : Ref sig .tc := ⟨.hbm, 387, rfl⟩
abbrev main_call1_call0_v83 : Ref sig .tc := ⟨.hbm, 388, rfl⟩
abbrev main_call1_call0_c_21 : Ref sig .tc := ⟨.hbm, 389, rfl⟩
abbrev main_call1_call0_v84 : Ref sig .tc := ⟨.hbm, 390, rfl⟩
abbrev main_call1_call0_v85 : Ref sig .tc := ⟨.hbm, 391, rfl⟩
abbrev main_call1_call0_v86 : Ref sig .tc := ⟨.hbm, 392, rfl⟩
abbrev main_call1_call0_v87 : Ref sig .tc := ⟨.hbm, 393, rfl⟩
abbrev main_call1_call0_v88 : Ref sig .tc := ⟨.hbm, 394, rfl⟩
abbrev main_call1_call0_c_22 : Ref sig .tc := ⟨.hbm, 395, rfl⟩
abbrev main_call1_call0_v89 : Ref sig .tc := ⟨.hbm, 396, rfl⟩
abbrev main_call1_call0_v90 : Ref sig .tc := ⟨.hbm, 397, rfl⟩
abbrev main_call1_call0_c_23 : Ref sig .tc := ⟨.hbm, 398, rfl⟩
abbrev main_call1_call0_v91 : Ref sig .tc := ⟨.hbm, 399, rfl⟩
abbrev main_call1_call0_v92 : Ref sig .tc := ⟨.hbm, 400, rfl⟩
abbrev main_call1_call0_v93 : Ref sig .tc := ⟨.hbm, 401, rfl⟩
abbrev main_call1_call0_v94 : Ref sig .tc := ⟨.hbm, 402, rfl⟩
abbrev main_call1_call0_v95 : Ref sig .tc := ⟨.hbm, 403, rfl⟩
abbrev main_call1_call0_c_24 : Ref sig .tc := ⟨.hbm, 404, rfl⟩
abbrev main_call1_call0_v96 : Ref sig .tc := ⟨.hbm, 405, rfl⟩
abbrev main_call1_call0_v97 : Ref sig .tc := ⟨.hbm, 406, rfl⟩
abbrev main_call1_call0_c_25 : Ref sig .tc := ⟨.hbm, 407, rfl⟩
abbrev main_call1_call0_v98 : Ref sig .tc := ⟨.hbm, 408, rfl⟩
abbrev main_call1_call0_v99 : Ref sig .tc := ⟨.hbm, 409, rfl⟩
abbrev main_call1_call0_v100 : Ref sig .tc := ⟨.hbm, 410, rfl⟩
abbrev main_call1_call0_v101 : Ref sig .tc := ⟨.hbm, 411, rfl⟩
abbrev main_call1_call0_v102 : Ref sig .tc := ⟨.hbm, 412, rfl⟩
abbrev main_call1_call0_v103 : Ref sig .tc := ⟨.hbm, 413, rfl⟩
abbrev main_call1_call0_v104 : Ref sig .tc := ⟨.hbm, 414, rfl⟩
abbrev main_call1_call0_v105 : Ref sig .tc := ⟨.hbm, 415, rfl⟩
abbrev main_call1_call0_c_26 : Ref sig .tc := ⟨.hbm, 416, rfl⟩
abbrev main_call1_call0_v106 : Ref sig .tc := ⟨.hbm, 417, rfl⟩
abbrev main_call1_call0_v107 : Ref sig .tc := ⟨.hbm, 418, rfl⟩
abbrev main_call1_call0_v108 : Ref sig .tc := ⟨.hbm, 419, rfl⟩
abbrev main_call1_call0_c_27 : Ref sig .tc := ⟨.hbm, 420, rfl⟩
abbrev main_call1_call0_v109 : Ref sig .tc := ⟨.hbm, 421, rfl⟩
abbrev main_call1_call0_v110 : Ref sig .tc := ⟨.hbm, 422, rfl⟩
abbrev main_call1_call0_c_28 : Ref sig .tc := ⟨.hbm, 423, rfl⟩
abbrev main_call1_call0_v111 : Ref sig .tc := ⟨.hbm, 424, rfl⟩
abbrev main_call1_call0_v112 : Ref sig .tc := ⟨.hbm, 425, rfl⟩
abbrev main_call1_call0_v113 : Ref sig .tc := ⟨.hbm, 426, rfl⟩
abbrev main_call1_call0_v114 : Ref sig .tc := ⟨.hbm, 427, rfl⟩
abbrev main_call1_call0_v115 : Ref sig .tc := ⟨.hbm, 428, rfl⟩
abbrev main_call1_call0_c_29 : Ref sig .tc := ⟨.hbm, 429, rfl⟩
abbrev main_call1_call0_v116 : Ref sig .tc := ⟨.hbm, 430, rfl⟩
abbrev main_call1_call0_v117 : Ref sig .tc := ⟨.hbm, 431, rfl⟩
abbrev main_call1_call0_c_30 : Ref sig .tc := ⟨.hbm, 432, rfl⟩
abbrev main_call1_call0_v118 : Ref sig .tc := ⟨.hbm, 433, rfl⟩
abbrev main_call1_call0_v119 : Ref sig .tc := ⟨.hbm, 434, rfl⟩
abbrev main_call1_call0_v120 : Ref sig .tc := ⟨.hbm, 435, rfl⟩
abbrev main_call1_call0_v121 : Ref sig .tc := ⟨.hbm, 436, rfl⟩
abbrev main_call1_call0_v122 : Ref sig .tc := ⟨.hbm, 437, rfl⟩
abbrev main_call1_call0_c_31 : Ref sig .tc := ⟨.hbm, 438, rfl⟩
abbrev main_call1_call0_v123 : Ref sig .tc := ⟨.hbm, 439, rfl⟩
abbrev main_call1_call0_v124 : Ref sig .tc := ⟨.hbm, 440, rfl⟩
abbrev main_call1_call0_c_32 : Ref sig .tc := ⟨.hbm, 441, rfl⟩
abbrev main_call1_call0_v125 : Ref sig .tc := ⟨.hbm, 442, rfl⟩
abbrev main_call1_call0_v126 : Ref sig .tc := ⟨.hbm, 443, rfl⟩
abbrev main_call1_call0_v127 : Ref sig .tc := ⟨.hbm, 444, rfl⟩
abbrev main_call1_call0_v128 : Ref sig .tc := ⟨.hbm, 445, rfl⟩
abbrev main_call1_call0_v129 : Ref sig .tc := ⟨.hbm, 446, rfl⟩
abbrev main_call1_call0_c_33 : Ref sig .tc := ⟨.hbm, 447, rfl⟩
abbrev main_call1_call0_v130 : Ref sig .tc := ⟨.hbm, 448, rfl⟩
abbrev main_call1_call0_v131 : Ref sig .tc := ⟨.hbm, 449, rfl⟩
abbrev main_call1_call0_c_34 : Ref sig .tc := ⟨.hbm, 450, rfl⟩
abbrev main_call1_call0_v132 : Ref sig .tc := ⟨.hbm, 451, rfl⟩
abbrev main_call1_call0_v133 : Ref sig .tc := ⟨.hbm, 452, rfl⟩
abbrev main_call1_call0_v134 : Ref sig .tc := ⟨.hbm, 453, rfl⟩
abbrev main_call1_call0_v135 : Ref sig .tc := ⟨.hbm, 454, rfl⟩
abbrev main_call1_call0_v136 : Ref sig .tc := ⟨.hbm, 455, rfl⟩
abbrev main_call1_call0_v137 : Ref sig .tc := ⟨.hbm, 456, rfl⟩
abbrev main_call1_call0_v138 : Ref sig .tc := ⟨.hbm, 457, rfl⟩
abbrev main_call1_call0_v139 : Ref sig .tc := ⟨.hbm, 458, rfl⟩
abbrev main_call1_call0_c_35 : Ref sig .tc := ⟨.hbm, 459, rfl⟩
abbrev main_call1_call0_v140 : Ref sig .tc := ⟨.hbm, 460, rfl⟩
abbrev main_call1_call0_v141 : Ref sig .tc := ⟨.hbm, 461, rfl⟩
abbrev main_call1_call0_v142 : Ref sig .tc := ⟨.hbm, 462, rfl⟩
abbrev main_call1_call0_c_36 : Ref sig .tc := ⟨.hbm, 463, rfl⟩
abbrev main_call1_call0_v143 : Ref sig .tc := ⟨.hbm, 464, rfl⟩
abbrev main_call1_call0_v144 : Ref sig .tc := ⟨.hbm, 465, rfl⟩
abbrev main_call1_call0_c_37 : Ref sig .tc := ⟨.hbm, 466, rfl⟩
abbrev main_call1_call0_v145 : Ref sig .tc := ⟨.hbm, 467, rfl⟩
abbrev main_call1_call0_v146 : Ref sig .tc := ⟨.hbm, 468, rfl⟩
abbrev main_call1_call0_v147 : Ref sig .tc := ⟨.hbm, 469, rfl⟩
abbrev main_call1_call0_v148 : Ref sig .tc := ⟨.hbm, 470, rfl⟩
abbrev main_call1_call0_v149 : Ref sig .tc := ⟨.hbm, 471, rfl⟩
abbrev main_call1_call0_c_38 : Ref sig .tc := ⟨.hbm, 472, rfl⟩
abbrev main_call1_call0_v150 : Ref sig .tc := ⟨.hbm, 473, rfl⟩
abbrev main_call1_call0_v151 : Ref sig .tc := ⟨.hbm, 474, rfl⟩
abbrev main_call1_call0_c_39 : Ref sig .tc := ⟨.hbm, 475, rfl⟩
abbrev main_call1_call0_v152 : Ref sig .tc := ⟨.hbm, 476, rfl⟩
abbrev main_call1_call0_v153 : Ref sig .tc := ⟨.hbm, 477, rfl⟩
abbrev main_call1_call0_v154 : Ref sig .tc := ⟨.hbm, 478, rfl⟩
abbrev main_call1_call0_v155 : Ref sig .tc := ⟨.hbm, 479, rfl⟩
abbrev main_call1_call0_v156 : Ref sig .tc := ⟨.hbm, 480, rfl⟩
abbrev main_call1_call0_c_40 : Ref sig .tc := ⟨.hbm, 481, rfl⟩
abbrev main_call1_call0_v157 : Ref sig .tc := ⟨.hbm, 482, rfl⟩
abbrev main_call1_call0_v158 : Ref sig .tc := ⟨.hbm, 483, rfl⟩
abbrev main_call1_call0_c_41 : Ref sig .tc := ⟨.hbm, 484, rfl⟩
abbrev main_call1_call0_v159 : Ref sig .tc := ⟨.hbm, 485, rfl⟩
abbrev main_call1_call0_v160 : Ref sig .tc := ⟨.hbm, 486, rfl⟩
abbrev main_call1_call0_v161 : Ref sig .tc := ⟨.hbm, 487, rfl⟩
abbrev main_call1_call0_v162 : Ref sig .tc := ⟨.hbm, 488, rfl⟩
abbrev main_call1_call0_v163 : Ref sig .tc := ⟨.hbm, 489, rfl⟩
abbrev main_call1_call0_c_42 : Ref sig .tc := ⟨.hbm, 490, rfl⟩
abbrev main_call1_call0_v164 : Ref sig .tc := ⟨.hbm, 491, rfl⟩
abbrev main_call1_call0_v165 : Ref sig .tc := ⟨.hbm, 492, rfl⟩
abbrev main_call1_call0_c_43 : Ref sig .tc := ⟨.hbm, 493, rfl⟩
abbrev main_call1_call0_v166 : Ref sig .tc := ⟨.hbm, 494, rfl⟩
abbrev main_call1_call0_v167 : Ref sig .tc := ⟨.hbm, 495, rfl⟩
abbrev main_call1_call0_v168 : Ref sig .tc := ⟨.hbm, 496, rfl⟩
abbrev main_call1_call0_v169 : Ref sig .tc := ⟨.hbm, 497, rfl⟩
abbrev main_call1_call0_v170 : Ref sig .tc := ⟨.hbm, 498, rfl⟩
abbrev main_call1_v15_0 : Ref sig .tc := ⟨.hbm, 499, rfl⟩
abbrev main_call1_call0_v172 : Ref sig .tc := ⟨.hbm, 500, rfl⟩
abbrev main_call1_call0_v173 : Ref sig .tc := ⟨.hbm, 501, rfl⟩
abbrev main_call1_call0_c_44 : Ref sig .tc := ⟨.hbm, 502, rfl⟩
abbrev main_call1_call0_v174 : Ref sig .tc := ⟨.hbm, 503, rfl⟩
abbrev main_call1_v15_1 : Ref sig .tc := ⟨.hbm, 504, rfl⟩
abbrev main_call1_v16 : Ref sig .tc := ⟨.hbm, 505, rfl⟩
abbrev main_call1_c_1 : Ref sig .tc := ⟨.hbm, 506, rfl⟩
abbrev main_call1_v17 : Ref sig .tc := ⟨.hbm, 507, rfl⟩
abbrev main_call1_v18 : Ref sig .tc := ⟨.hbm, 508, rfl⟩
abbrev main_call1_c_2 : Ref sig .tc := ⟨.hbm, 509, rfl⟩
abbrev main_call1_v19 : Ref sig .tc := ⟨.hbm, 510, rfl⟩
abbrev main_call1_v20 : Ref sig .tc := ⟨.hbm, 511, rfl⟩
abbrev main_call1_v21 : Ref sig .tc := ⟨.hbm, 512, rfl⟩
abbrev main_call1_cst : Ref sig .tc := ⟨.hbm, 513, rfl⟩
abbrev main_call1_v22 : Ref sig .tc := ⟨.hbm, 514, rfl⟩
abbrev main_call1_v23 : Ref sig .tc := ⟨.hbm, 515, rfl⟩
abbrev main_call1_v24 : Ref sig .tc := ⟨.hbm, 516, rfl⟩
abbrev main_call1_v25 : Ref sig .tc := ⟨.hbm, 517, rfl⟩
abbrev main_call1_v26 : Ref sig .tc := ⟨.hbm, 518, rfl⟩
abbrev main_call1_v27 : Ref sig .tc := ⟨.hbm, 519, rfl⟩
abbrev main_call1_v28 : Ref sig .tc := ⟨.hbm, 520, rfl⟩
abbrev main_call1_v29 : Ref sig .tc := ⟨.hbm, 521, rfl⟩
abbrev main_v19 : Ref sig .tc := ⟨.hbm, 522, rfl⟩
abbrev main_cst_7 : Ref sig .tc := ⟨.hbm, 523, rfl⟩
abbrev main_v20 : Ref sig .tc := ⟨.hbm, 524, rfl⟩
abbrev main_v21 : Ref sig .tc := ⟨.hbm, 525, rfl⟩
abbrev main_v22 : Ref sig .tc := ⟨.hbm, 526, rfl⟩
abbrev main_v23 : Ref sig .tc := ⟨.hbm, 527, rfl⟩
abbrev main_cst_8 : Ref sig .tc := ⟨.hbm, 528, rfl⟩
abbrev main_v24 : Ref sig .tc := ⟨.hbm, 529, rfl⟩
abbrev main_v25 : Ref sig .tc := ⟨.hbm, 530, rfl⟩
abbrev main_v26 : Ref sig .tc := ⟨.hbm, 531, rfl⟩
abbrev main_cst_9 : Ref sig .tc := ⟨.hbm, 532, rfl⟩
abbrev main_cst_10 : Ref sig .tc := ⟨.hbm, 533, rfl⟩
abbrev main_call2_v0 : Ref sig .tc := ⟨.hbm, 534, rfl⟩
abbrev main_call2_v1 : Ref sig .tc := ⟨.hbm, 535, rfl⟩
abbrev main_call2_v2 : Ref sig .tc := ⟨.hbm, 536, rfl⟩
abbrev main_call2_v3 : Ref sig .tc := ⟨.hbm, 537, rfl⟩
abbrev main_call2_v4 : Ref sig .tc := ⟨.hbm, 538, rfl⟩
abbrev main_call2_v5 : Ref sig .tc := ⟨.hbm, 539, rfl⟩
abbrev main_call2_v6 : Ref sig .tc := ⟨.hbm, 540, rfl⟩
abbrev main_call2_v7 : Ref sig .tc := ⟨.hbm, 541, rfl⟩
abbrev main_call2_v8 : Ref sig .tc := ⟨.hbm, 542, rfl⟩
abbrev main_call2_v9 : Ref sig .tc := ⟨.hbm, 543, rfl⟩
abbrev main_call2_c : Ref sig .tc := ⟨.hbm, 544, rfl⟩
abbrev main_call2_v10 : Ref sig .tc := ⟨.hbm, 545, rfl⟩
abbrev main_call2_v11 : Ref sig .tc := ⟨.hbm, 546, rfl⟩
abbrev main_call2_c_0 : Ref sig .tc := ⟨.hbm, 547, rfl⟩
abbrev main_call2_v12 : Ref sig .tc := ⟨.hbm, 548, rfl⟩
abbrev main_call2_v13 : Ref sig .tc := ⟨.hbm, 549, rfl⟩
abbrev main_call2_v14 : Ref sig .tc := ⟨.hbm, 550, rfl⟩
abbrev main_call2_c_1 : Ref sig .tc := ⟨.hbm, 551, rfl⟩
abbrev main_call2_v15 : Ref sig .tc := ⟨.hbm, 552, rfl⟩
abbrev main_call2_v16 : Ref sig .tc := ⟨.hbm, 553, rfl⟩
abbrev main_call2_v17 : Ref sig .tc := ⟨.hbm, 554, rfl⟩
abbrev main_call2_v18 : Ref sig .tc := ⟨.hbm, 555, rfl⟩
abbrev main_call2_call0_v0 : Ref sig .tc := ⟨.hbm, 556, rfl⟩
abbrev main_call2_call0_c : Ref sig .tc := ⟨.hbm, 557, rfl⟩
abbrev main_call2_call0_v1 : Ref sig .tc := ⟨.hbm, 558, rfl⟩
abbrev main_call2_call0_v2 : Ref sig .tc := ⟨.hbm, 559, rfl⟩
abbrev main_call2_call0_v3 : Ref sig .tc := ⟨.hbm, 560, rfl⟩
abbrev main_call2_call0_v4 : Ref sig .tc := ⟨.hbm, 561, rfl⟩
abbrev main_call2_call0_v5 : Ref sig .tc := ⟨.hbm, 562, rfl⟩
abbrev main_call2_call0_v6 : Ref sig .tc := ⟨.hbm, 563, rfl⟩
abbrev main_call2_call0_c_0 : Ref sig .tc := ⟨.hbm, 564, rfl⟩
abbrev main_call2_call0_v7 : Ref sig .tc := ⟨.hbm, 565, rfl⟩
abbrev main_call2_call0_v8 : Ref sig .tc := ⟨.hbm, 566, rfl⟩
abbrev main_call2_call0_c_1 : Ref sig .tc := ⟨.hbm, 567, rfl⟩
abbrev main_call2_call0_v9 : Ref sig .tc := ⟨.hbm, 568, rfl⟩
abbrev main_call2_call0_v10 : Ref sig .tc := ⟨.hbm, 569, rfl⟩
abbrev main_call2_call0_v11 : Ref sig .tc := ⟨.hbm, 570, rfl⟩
abbrev main_call2_call0_v12 : Ref sig .tc := ⟨.hbm, 571, rfl⟩
abbrev main_call2_call0_v13 : Ref sig .tc := ⟨.hbm, 572, rfl⟩
abbrev main_call2_call0_c_2 : Ref sig .tc := ⟨.hbm, 573, rfl⟩
abbrev main_call2_call0_v14 : Ref sig .tc := ⟨.hbm, 574, rfl⟩
abbrev main_call2_call0_v15 : Ref sig .tc := ⟨.hbm, 575, rfl⟩
abbrev main_call2_call0_c_3 : Ref sig .tc := ⟨.hbm, 576, rfl⟩
abbrev main_call2_call0_v16 : Ref sig .tc := ⟨.hbm, 577, rfl⟩
abbrev main_call2_call0_v17 : Ref sig .tc := ⟨.hbm, 578, rfl⟩
abbrev main_call2_call0_v18 : Ref sig .tc := ⟨.hbm, 579, rfl⟩
abbrev main_call2_call0_v19 : Ref sig .tc := ⟨.hbm, 580, rfl⟩
abbrev main_call2_call0_v20 : Ref sig .tc := ⟨.hbm, 581, rfl⟩
abbrev main_call2_call0_c_4 : Ref sig .tc := ⟨.hbm, 582, rfl⟩
abbrev main_call2_call0_v21 : Ref sig .tc := ⟨.hbm, 583, rfl⟩
abbrev main_call2_call0_v22 : Ref sig .tc := ⟨.hbm, 584, rfl⟩
abbrev main_call2_call0_c_5 : Ref sig .tc := ⟨.hbm, 585, rfl⟩
abbrev main_call2_call0_v23 : Ref sig .tc := ⟨.hbm, 586, rfl⟩
abbrev main_call2_call0_v24 : Ref sig .tc := ⟨.hbm, 587, rfl⟩
abbrev main_call2_call0_v25 : Ref sig .tc := ⟨.hbm, 588, rfl⟩
abbrev main_call2_call0_v26 : Ref sig .tc := ⟨.hbm, 589, rfl⟩
abbrev main_call2_call0_v27 : Ref sig .tc := ⟨.hbm, 590, rfl⟩
abbrev main_call2_call0_c_6 : Ref sig .tc := ⟨.hbm, 591, rfl⟩
abbrev main_call2_call0_v28 : Ref sig .tc := ⟨.hbm, 592, rfl⟩
abbrev main_call2_call0_v29 : Ref sig .tc := ⟨.hbm, 593, rfl⟩
abbrev main_call2_call0_c_7 : Ref sig .tc := ⟨.hbm, 594, rfl⟩
abbrev main_call2_call0_v30 : Ref sig .tc := ⟨.hbm, 595, rfl⟩
abbrev main_call2_call0_v31 : Ref sig .tc := ⟨.hbm, 596, rfl⟩
abbrev main_call2_call0_v32 : Ref sig .tc := ⟨.hbm, 597, rfl⟩
abbrev main_call2_call0_v33 : Ref sig .tc := ⟨.hbm, 598, rfl⟩
abbrev main_call2_call0_v34 : Ref sig .tc := ⟨.hbm, 599, rfl⟩
abbrev main_call2_call0_v35 : Ref sig .tc := ⟨.hbm, 600, rfl⟩
abbrev main_call2_call0_v36 : Ref sig .tc := ⟨.hbm, 601, rfl⟩
abbrev main_call2_call0_v37 : Ref sig .tc := ⟨.hbm, 602, rfl⟩
abbrev main_call2_call0_c_8 : Ref sig .tc := ⟨.hbm, 603, rfl⟩
abbrev main_call2_call0_v38 : Ref sig .tc := ⟨.hbm, 604, rfl⟩
abbrev main_call2_call0_v39 : Ref sig .tc := ⟨.hbm, 605, rfl⟩
abbrev main_call2_call0_v40 : Ref sig .tc := ⟨.hbm, 606, rfl⟩
abbrev main_call2_call0_c_9 : Ref sig .tc := ⟨.hbm, 607, rfl⟩
abbrev main_call2_call0_v41 : Ref sig .tc := ⟨.hbm, 608, rfl⟩
abbrev main_call2_call0_v42 : Ref sig .tc := ⟨.hbm, 609, rfl⟩
abbrev main_call2_call0_c_10 : Ref sig .tc := ⟨.hbm, 610, rfl⟩
abbrev main_call2_call0_v43 : Ref sig .tc := ⟨.hbm, 611, rfl⟩
abbrev main_call2_call0_v44 : Ref sig .tc := ⟨.hbm, 612, rfl⟩
abbrev main_call2_call0_v45 : Ref sig .tc := ⟨.hbm, 613, rfl⟩
abbrev main_call2_call0_v46 : Ref sig .tc := ⟨.hbm, 614, rfl⟩
abbrev main_call2_call0_v47 : Ref sig .tc := ⟨.hbm, 615, rfl⟩
abbrev main_call2_call0_c_11 : Ref sig .tc := ⟨.hbm, 616, rfl⟩
abbrev main_call2_call0_v48 : Ref sig .tc := ⟨.hbm, 617, rfl⟩
abbrev main_call2_call0_v49 : Ref sig .tc := ⟨.hbm, 618, rfl⟩
abbrev main_call2_call0_c_12 : Ref sig .tc := ⟨.hbm, 619, rfl⟩
abbrev main_call2_call0_v50 : Ref sig .tc := ⟨.hbm, 620, rfl⟩
abbrev main_call2_call0_v51 : Ref sig .tc := ⟨.hbm, 621, rfl⟩
abbrev main_call2_call0_v52 : Ref sig .tc := ⟨.hbm, 622, rfl⟩
abbrev main_call2_call0_v53 : Ref sig .tc := ⟨.hbm, 623, rfl⟩
abbrev main_call2_call0_v54 : Ref sig .tc := ⟨.hbm, 624, rfl⟩
abbrev main_call2_call0_c_13 : Ref sig .tc := ⟨.hbm, 625, rfl⟩
abbrev main_call2_call0_v55 : Ref sig .tc := ⟨.hbm, 626, rfl⟩
abbrev main_call2_call0_v56 : Ref sig .tc := ⟨.hbm, 627, rfl⟩
abbrev main_call2_call0_c_14 : Ref sig .tc := ⟨.hbm, 628, rfl⟩
abbrev main_call2_call0_v57 : Ref sig .tc := ⟨.hbm, 629, rfl⟩
abbrev main_call2_call0_v58 : Ref sig .tc := ⟨.hbm, 630, rfl⟩
abbrev main_call2_call0_v59 : Ref sig .tc := ⟨.hbm, 631, rfl⟩
abbrev main_call2_call0_v60 : Ref sig .tc := ⟨.hbm, 632, rfl⟩
abbrev main_call2_call0_v61 : Ref sig .tc := ⟨.hbm, 633, rfl⟩
abbrev main_call2_call0_c_15 : Ref sig .tc := ⟨.hbm, 634, rfl⟩
abbrev main_call2_call0_v62 : Ref sig .tc := ⟨.hbm, 635, rfl⟩
abbrev main_call2_call0_v63 : Ref sig .tc := ⟨.hbm, 636, rfl⟩
abbrev main_call2_call0_c_16 : Ref sig .tc := ⟨.hbm, 637, rfl⟩
abbrev main_call2_call0_v64 : Ref sig .tc := ⟨.hbm, 638, rfl⟩
abbrev main_call2_call0_v65 : Ref sig .tc := ⟨.hbm, 639, rfl⟩
abbrev main_call2_call0_v66 : Ref sig .tc := ⟨.hbm, 640, rfl⟩
abbrev main_call2_call0_v67 : Ref sig .tc := ⟨.hbm, 641, rfl⟩
abbrev main_call2_call0_v68 : Ref sig .tc := ⟨.hbm, 642, rfl⟩
abbrev main_call2_call0_v69 : Ref sig .tc := ⟨.hbm, 643, rfl⟩
abbrev main_call2_call0_v70 : Ref sig .tc := ⟨.hbm, 644, rfl⟩
abbrev main_call2_call0_v71 : Ref sig .tc := ⟨.hbm, 645, rfl⟩
abbrev main_call2_call0_c_17 : Ref sig .tc := ⟨.hbm, 646, rfl⟩
abbrev main_call2_call0_v72 : Ref sig .tc := ⟨.hbm, 647, rfl⟩
abbrev main_call2_call0_v73 : Ref sig .tc := ⟨.hbm, 648, rfl⟩
abbrev main_call2_call0_v74 : Ref sig .tc := ⟨.hbm, 649, rfl⟩
abbrev main_call2_call0_c_18 : Ref sig .tc := ⟨.hbm, 650, rfl⟩
abbrev main_call2_call0_v75 : Ref sig .tc := ⟨.hbm, 651, rfl⟩
abbrev main_call2_call0_v76 : Ref sig .tc := ⟨.hbm, 652, rfl⟩
abbrev main_call2_call0_c_19 : Ref sig .tc := ⟨.hbm, 653, rfl⟩
abbrev main_call2_call0_v77 : Ref sig .tc := ⟨.hbm, 654, rfl⟩
abbrev main_call2_call0_v78 : Ref sig .tc := ⟨.hbm, 655, rfl⟩
abbrev main_call2_call0_v79 : Ref sig .tc := ⟨.hbm, 656, rfl⟩
abbrev main_call2_call0_v80 : Ref sig .tc := ⟨.hbm, 657, rfl⟩
abbrev main_call2_call0_v81 : Ref sig .tc := ⟨.hbm, 658, rfl⟩
abbrev main_call2_call0_c_20 : Ref sig .tc := ⟨.hbm, 659, rfl⟩
abbrev main_call2_call0_v82 : Ref sig .tc := ⟨.hbm, 660, rfl⟩
abbrev main_call2_call0_v83 : Ref sig .tc := ⟨.hbm, 661, rfl⟩
abbrev main_call2_call0_c_21 : Ref sig .tc := ⟨.hbm, 662, rfl⟩
abbrev main_call2_call0_v84 : Ref sig .tc := ⟨.hbm, 663, rfl⟩
abbrev main_call2_call0_v85 : Ref sig .tc := ⟨.hbm, 664, rfl⟩
abbrev main_call2_call0_v86 : Ref sig .tc := ⟨.hbm, 665, rfl⟩
abbrev main_call2_call0_v87 : Ref sig .tc := ⟨.hbm, 666, rfl⟩
abbrev main_call2_call0_v88 : Ref sig .tc := ⟨.hbm, 667, rfl⟩
abbrev main_call2_call0_c_22 : Ref sig .tc := ⟨.hbm, 668, rfl⟩
abbrev main_call2_call0_v89 : Ref sig .tc := ⟨.hbm, 669, rfl⟩
abbrev main_call2_call0_v90 : Ref sig .tc := ⟨.hbm, 670, rfl⟩
abbrev main_call2_call0_c_23 : Ref sig .tc := ⟨.hbm, 671, rfl⟩
abbrev main_call2_call0_v91 : Ref sig .tc := ⟨.hbm, 672, rfl⟩
abbrev main_call2_call0_v92 : Ref sig .tc := ⟨.hbm, 673, rfl⟩
abbrev main_call2_call0_v93 : Ref sig .tc := ⟨.hbm, 674, rfl⟩
abbrev main_call2_call0_v94 : Ref sig .tc := ⟨.hbm, 675, rfl⟩
abbrev main_call2_call0_v95 : Ref sig .tc := ⟨.hbm, 676, rfl⟩
abbrev main_call2_call0_c_24 : Ref sig .tc := ⟨.hbm, 677, rfl⟩
abbrev main_call2_call0_v96 : Ref sig .tc := ⟨.hbm, 678, rfl⟩
abbrev main_call2_call0_v97 : Ref sig .tc := ⟨.hbm, 679, rfl⟩
abbrev main_call2_call0_c_25 : Ref sig .tc := ⟨.hbm, 680, rfl⟩
abbrev main_call2_call0_v98 : Ref sig .tc := ⟨.hbm, 681, rfl⟩
abbrev main_call2_call0_v99 : Ref sig .tc := ⟨.hbm, 682, rfl⟩
abbrev main_call2_call0_v100 : Ref sig .tc := ⟨.hbm, 683, rfl⟩
abbrev main_call2_call0_v101 : Ref sig .tc := ⟨.hbm, 684, rfl⟩
abbrev main_call2_call0_v102 : Ref sig .tc := ⟨.hbm, 685, rfl⟩
abbrev main_call2_call0_v103 : Ref sig .tc := ⟨.hbm, 686, rfl⟩
abbrev main_call2_call0_v104 : Ref sig .tc := ⟨.hbm, 687, rfl⟩
abbrev main_call2_call0_v105 : Ref sig .tc := ⟨.hbm, 688, rfl⟩
abbrev main_call2_call0_c_26 : Ref sig .tc := ⟨.hbm, 689, rfl⟩
abbrev main_call2_call0_v106 : Ref sig .tc := ⟨.hbm, 690, rfl⟩
abbrev main_call2_call0_v107 : Ref sig .tc := ⟨.hbm, 691, rfl⟩
abbrev main_call2_call0_v108 : Ref sig .tc := ⟨.hbm, 692, rfl⟩
abbrev main_call2_call0_c_27 : Ref sig .tc := ⟨.hbm, 693, rfl⟩
abbrev main_call2_call0_v109 : Ref sig .tc := ⟨.hbm, 694, rfl⟩
abbrev main_call2_call0_v110 : Ref sig .tc := ⟨.hbm, 695, rfl⟩
abbrev main_call2_call0_c_28 : Ref sig .tc := ⟨.hbm, 696, rfl⟩
abbrev main_call2_call0_v111 : Ref sig .tc := ⟨.hbm, 697, rfl⟩
abbrev main_call2_call0_v112 : Ref sig .tc := ⟨.hbm, 698, rfl⟩
abbrev main_call2_call0_v113 : Ref sig .tc := ⟨.hbm, 699, rfl⟩
abbrev main_call2_call0_v114 : Ref sig .tc := ⟨.hbm, 700, rfl⟩
abbrev main_call2_call0_v115 : Ref sig .tc := ⟨.hbm, 701, rfl⟩
abbrev main_call2_call0_c_29 : Ref sig .tc := ⟨.hbm, 702, rfl⟩
abbrev main_call2_call0_v116 : Ref sig .tc := ⟨.hbm, 703, rfl⟩
abbrev main_call2_call0_v117 : Ref sig .tc := ⟨.hbm, 704, rfl⟩
abbrev main_call2_call0_c_30 : Ref sig .tc := ⟨.hbm, 705, rfl⟩
abbrev main_call2_call0_v118 : Ref sig .tc := ⟨.hbm, 706, rfl⟩
abbrev main_call2_call0_v119 : Ref sig .tc := ⟨.hbm, 707, rfl⟩
abbrev main_call2_call0_v120 : Ref sig .tc := ⟨.hbm, 708, rfl⟩
abbrev main_call2_call0_v121 : Ref sig .tc := ⟨.hbm, 709, rfl⟩
abbrev main_call2_call0_v122 : Ref sig .tc := ⟨.hbm, 710, rfl⟩
abbrev main_call2_call0_c_31 : Ref sig .tc := ⟨.hbm, 711, rfl⟩
abbrev main_call2_call0_v123 : Ref sig .tc := ⟨.hbm, 712, rfl⟩
abbrev main_call2_call0_v124 : Ref sig .tc := ⟨.hbm, 713, rfl⟩
abbrev main_call2_call0_c_32 : Ref sig .tc := ⟨.hbm, 714, rfl⟩
abbrev main_call2_call0_v125 : Ref sig .tc := ⟨.hbm, 715, rfl⟩
abbrev main_call2_call0_v126 : Ref sig .tc := ⟨.hbm, 716, rfl⟩
abbrev main_call2_call0_v127 : Ref sig .tc := ⟨.hbm, 717, rfl⟩
abbrev main_call2_call0_v128 : Ref sig .tc := ⟨.hbm, 718, rfl⟩
abbrev main_call2_call0_v129 : Ref sig .tc := ⟨.hbm, 719, rfl⟩
abbrev main_call2_call0_c_33 : Ref sig .tc := ⟨.hbm, 720, rfl⟩
abbrev main_call2_call0_v130 : Ref sig .tc := ⟨.hbm, 721, rfl⟩
abbrev main_call2_call0_v131 : Ref sig .tc := ⟨.hbm, 722, rfl⟩
abbrev main_call2_call0_c_34 : Ref sig .tc := ⟨.hbm, 723, rfl⟩
abbrev main_call2_call0_v132 : Ref sig .tc := ⟨.hbm, 724, rfl⟩
abbrev main_call2_call0_v133 : Ref sig .tc := ⟨.hbm, 725, rfl⟩
abbrev main_call2_call0_v134 : Ref sig .tc := ⟨.hbm, 726, rfl⟩
abbrev main_call2_call0_v135 : Ref sig .tc := ⟨.hbm, 727, rfl⟩
abbrev main_call2_call0_v136 : Ref sig .tc := ⟨.hbm, 728, rfl⟩
abbrev main_call2_call0_v137 : Ref sig .tc := ⟨.hbm, 729, rfl⟩
abbrev main_call2_call0_v138 : Ref sig .tc := ⟨.hbm, 730, rfl⟩
abbrev main_call2_call0_v139 : Ref sig .tc := ⟨.hbm, 731, rfl⟩
abbrev main_call2_call0_c_35 : Ref sig .tc := ⟨.hbm, 732, rfl⟩
abbrev main_call2_call0_v140 : Ref sig .tc := ⟨.hbm, 733, rfl⟩
abbrev main_call2_call0_v141 : Ref sig .tc := ⟨.hbm, 734, rfl⟩
abbrev main_call2_call0_v142 : Ref sig .tc := ⟨.hbm, 735, rfl⟩
abbrev main_call2_call0_c_36 : Ref sig .tc := ⟨.hbm, 736, rfl⟩
abbrev main_call2_call0_v143 : Ref sig .tc := ⟨.hbm, 737, rfl⟩
abbrev main_call2_call0_v144 : Ref sig .tc := ⟨.hbm, 738, rfl⟩
abbrev main_call2_call0_c_37 : Ref sig .tc := ⟨.hbm, 739, rfl⟩
abbrev main_call2_call0_v145 : Ref sig .tc := ⟨.hbm, 740, rfl⟩
abbrev main_call2_call0_v146 : Ref sig .tc := ⟨.hbm, 741, rfl⟩
abbrev main_call2_call0_v147 : Ref sig .tc := ⟨.hbm, 742, rfl⟩
abbrev main_call2_call0_v148 : Ref sig .tc := ⟨.hbm, 743, rfl⟩
abbrev main_call2_call0_v149 : Ref sig .tc := ⟨.hbm, 744, rfl⟩
abbrev main_call2_call0_c_38 : Ref sig .tc := ⟨.hbm, 745, rfl⟩
abbrev main_call2_call0_v150 : Ref sig .tc := ⟨.hbm, 746, rfl⟩
abbrev main_call2_call0_v151 : Ref sig .tc := ⟨.hbm, 747, rfl⟩
abbrev main_call2_call0_c_39 : Ref sig .tc := ⟨.hbm, 748, rfl⟩
abbrev main_call2_call0_v152 : Ref sig .tc := ⟨.hbm, 749, rfl⟩
abbrev main_call2_call0_v153 : Ref sig .tc := ⟨.hbm, 750, rfl⟩
abbrev main_call2_call0_v154 : Ref sig .tc := ⟨.hbm, 751, rfl⟩
abbrev main_call2_call0_v155 : Ref sig .tc := ⟨.hbm, 752, rfl⟩
abbrev main_call2_call0_v156 : Ref sig .tc := ⟨.hbm, 753, rfl⟩
abbrev main_call2_call0_c_40 : Ref sig .tc := ⟨.hbm, 754, rfl⟩
abbrev main_call2_call0_v157 : Ref sig .tc := ⟨.hbm, 755, rfl⟩
abbrev main_call2_call0_v158 : Ref sig .tc := ⟨.hbm, 756, rfl⟩
abbrev main_call2_call0_c_41 : Ref sig .tc := ⟨.hbm, 757, rfl⟩
abbrev main_call2_call0_v159 : Ref sig .tc := ⟨.hbm, 758, rfl⟩
abbrev main_call2_call0_v160 : Ref sig .tc := ⟨.hbm, 759, rfl⟩
abbrev main_call2_call0_v161 : Ref sig .tc := ⟨.hbm, 760, rfl⟩
abbrev main_call2_call0_v162 : Ref sig .tc := ⟨.hbm, 761, rfl⟩
abbrev main_call2_call0_v163 : Ref sig .tc := ⟨.hbm, 762, rfl⟩
abbrev main_call2_call0_c_42 : Ref sig .tc := ⟨.hbm, 763, rfl⟩
abbrev main_call2_call0_v164 : Ref sig .tc := ⟨.hbm, 764, rfl⟩
abbrev main_call2_call0_v165 : Ref sig .tc := ⟨.hbm, 765, rfl⟩
abbrev main_call2_call0_c_43 : Ref sig .tc := ⟨.hbm, 766, rfl⟩
abbrev main_call2_call0_v166 : Ref sig .tc := ⟨.hbm, 767, rfl⟩
abbrev main_call2_call0_v167 : Ref sig .tc := ⟨.hbm, 768, rfl⟩
abbrev main_call2_call0_v168 : Ref sig .tc := ⟨.hbm, 769, rfl⟩
abbrev main_call2_call0_v169 : Ref sig .tc := ⟨.hbm, 770, rfl⟩
abbrev main_call2_call0_v170 : Ref sig .tc := ⟨.hbm, 771, rfl⟩
abbrev main_call2_v19_0 : Ref sig .tc := ⟨.hbm, 772, rfl⟩
abbrev main_call2_call0_v172 : Ref sig .tc := ⟨.hbm, 773, rfl⟩
abbrev main_call2_call0_v173 : Ref sig .tc := ⟨.hbm, 774, rfl⟩
abbrev main_call2_call0_c_44 : Ref sig .tc := ⟨.hbm, 775, rfl⟩
abbrev main_call2_call0_v174 : Ref sig .tc := ⟨.hbm, 776, rfl⟩
abbrev main_call2_v19_1 : Ref sig .tc := ⟨.hbm, 777, rfl⟩
abbrev main_call2_v20 : Ref sig .tc := ⟨.hbm, 778, rfl⟩
abbrev main_call2_c_2 : Ref sig .tc := ⟨.hbm, 779, rfl⟩
abbrev main_call2_v21 : Ref sig .tc := ⟨.hbm, 780, rfl⟩
abbrev main_call2_v22 : Ref sig .tc := ⟨.hbm, 781, rfl⟩
abbrev main_call2_c_3 : Ref sig .tc := ⟨.hbm, 782, rfl⟩
abbrev main_call2_v23 : Ref sig .tc := ⟨.hbm, 783, rfl⟩
abbrev main_call2_v24 : Ref sig .tc := ⟨.hbm, 784, rfl⟩
abbrev main_call2_v25 : Ref sig .tc := ⟨.hbm, 785, rfl⟩
abbrev main_call2_cst : Ref sig .tc := ⟨.hbm, 786, rfl⟩
abbrev main_call2_v26 : Ref sig .tc := ⟨.hbm, 787, rfl⟩
abbrev main_call2_v27 : Ref sig .tc := ⟨.hbm, 788, rfl⟩
abbrev main_call2_v28 : Ref sig .tc := ⟨.hbm, 789, rfl⟩
abbrev main_call2_v29 : Ref sig .tc := ⟨.hbm, 790, rfl⟩
abbrev main_call2_v30 : Ref sig .tc := ⟨.hbm, 791, rfl⟩
abbrev main_call2_v31 : Ref sig .tc := ⟨.hbm, 792, rfl⟩
abbrev main_call2_v32 : Ref sig .tc := ⟨.hbm, 793, rfl⟩
abbrev main_call2_v33 : Ref sig .tc := ⟨.hbm, 794, rfl⟩
abbrev main_v27 : Ref sig .tc := ⟨.hbm, 795, rfl⟩
abbrev main_v28 : Ref sig .tc := ⟨.hbm, 796, rfl⟩
abbrev main_v29 : Ref sig .tc := ⟨.hbm, 797, rfl⟩
abbrev main_v30 : Ref sig .tc := ⟨.hbm, 798, rfl⟩
abbrev main_cst_11 : Ref sig .tc := ⟨.hbm, 799, rfl⟩
abbrev main_v31 : Ref sig .tc := ⟨.hbm, 800, rfl⟩
abbrev main_v32 : Ref sig .tc := ⟨.hbm, 801, rfl⟩
abbrev main_v33 : Ref sig .tc := ⟨.hbm, 802, rfl⟩
abbrev main_v34 : Ref sig .tc := ⟨.hbm, 803, rfl⟩
abbrev main_v35 : Ref sig .tc := ⟨.hbm, 804, rfl⟩
abbrev main_v36 : Ref sig .tc := ⟨.hbm, 805, rfl⟩
abbrev main_v37 : Ref sig .tc := ⟨.hbm, 806, rfl⟩
abbrev main_v38 : Ref sig .tc := ⟨.hbm, 807, rfl⟩
abbrev main_cst_12 : Ref sig .tc := ⟨.hbm, 808, rfl⟩
abbrev main_v39 : Ref sig .tc := ⟨.hbm, 809, rfl⟩
abbrev main_v40 : Ref sig .tc := ⟨.hbm, 810, rfl⟩
abbrev main_v41 : Ref sig .tc := ⟨.hbm, 811, rfl⟩
abbrev main_v42 : Ref sig .tc := ⟨.hbm, 812, rfl⟩
abbrev main_cst_13 : Ref sig .tc := ⟨.hbm, 813, rfl⟩
abbrev main_cst_14 : Ref sig .tc := ⟨.hbm, 814, rfl⟩
abbrev main_call3_v0 : Ref sig .tc := ⟨.hbm, 815, rfl⟩
abbrev main_call3_v1 : Ref sig .tc := ⟨.hbm, 816, rfl⟩
abbrev main_call3_v2 : Ref sig .tc := ⟨.hbm, 817, rfl⟩
abbrev main_call3_v3 : Ref sig .tc := ⟨.hbm, 818, rfl⟩
abbrev main_call3_v4 : Ref sig .tc := ⟨.hbm, 819, rfl⟩
abbrev main_call3_v5 : Ref sig .tc := ⟨.hbm, 820, rfl⟩
abbrev main_call3_v6 : Ref sig .tc := ⟨.hbm, 821, rfl⟩
abbrev main_call3_v7 : Ref sig .tc := ⟨.hbm, 822, rfl⟩
abbrev main_call3_v8 : Ref sig .tc := ⟨.hbm, 823, rfl⟩
abbrev main_call3_v9 : Ref sig .tc := ⟨.hbm, 824, rfl⟩
abbrev main_call3_c : Ref sig .tc := ⟨.hbm, 825, rfl⟩
abbrev main_call3_v10 : Ref sig .tc := ⟨.hbm, 826, rfl⟩
abbrev main_call3_v11 : Ref sig .tc := ⟨.hbm, 827, rfl⟩
abbrev main_call3_c_0 : Ref sig .tc := ⟨.hbm, 828, rfl⟩
abbrev main_call3_v12 : Ref sig .tc := ⟨.hbm, 829, rfl⟩
abbrev main_call3_v13 : Ref sig .tc := ⟨.hbm, 830, rfl⟩
abbrev main_call3_v14 : Ref sig .tc := ⟨.hbm, 831, rfl⟩
abbrev main_call3_c_1 : Ref sig .tc := ⟨.hbm, 832, rfl⟩
abbrev main_call3_v15 : Ref sig .tc := ⟨.hbm, 833, rfl⟩
abbrev main_call3_v16 : Ref sig .tc := ⟨.hbm, 834, rfl⟩
abbrev main_call3_v17 : Ref sig .tc := ⟨.hbm, 835, rfl⟩
abbrev main_call3_v18 : Ref sig .tc := ⟨.hbm, 836, rfl⟩
abbrev main_call3_call0_v0 : Ref sig .tc := ⟨.hbm, 837, rfl⟩
abbrev main_call3_call0_c : Ref sig .tc := ⟨.hbm, 838, rfl⟩
abbrev main_call3_call0_v1 : Ref sig .tc := ⟨.hbm, 839, rfl⟩
abbrev main_call3_call0_v2 : Ref sig .tc := ⟨.hbm, 840, rfl⟩
abbrev main_call3_call0_v3 : Ref sig .tc := ⟨.hbm, 841, rfl⟩
abbrev main_call3_call0_v4 : Ref sig .tc := ⟨.hbm, 842, rfl⟩
abbrev main_call3_call0_v5 : Ref sig .tc := ⟨.hbm, 843, rfl⟩
abbrev main_call3_call0_v6 : Ref sig .tc := ⟨.hbm, 844, rfl⟩
abbrev main_call3_call0_c_0 : Ref sig .tc := ⟨.hbm, 845, rfl⟩
abbrev main_call3_call0_v7 : Ref sig .tc := ⟨.hbm, 846, rfl⟩
abbrev main_call3_call0_v8 : Ref sig .tc := ⟨.hbm, 847, rfl⟩
abbrev main_call3_call0_c_1 : Ref sig .tc := ⟨.hbm, 848, rfl⟩
abbrev main_call3_call0_v9 : Ref sig .tc := ⟨.hbm, 849, rfl⟩
abbrev main_call3_call0_v10 : Ref sig .tc := ⟨.hbm, 850, rfl⟩
abbrev main_call3_call0_v11 : Ref sig .tc := ⟨.hbm, 851, rfl⟩
abbrev main_call3_call0_v12 : Ref sig .tc := ⟨.hbm, 852, rfl⟩
abbrev main_call3_call0_v13 : Ref sig .tc := ⟨.hbm, 853, rfl⟩
abbrev main_call3_call0_c_2 : Ref sig .tc := ⟨.hbm, 854, rfl⟩
abbrev main_call3_call0_v14 : Ref sig .tc := ⟨.hbm, 855, rfl⟩
abbrev main_call3_call0_v15 : Ref sig .tc := ⟨.hbm, 856, rfl⟩
abbrev main_call3_call0_c_3 : Ref sig .tc := ⟨.hbm, 857, rfl⟩
abbrev main_call3_call0_v16 : Ref sig .tc := ⟨.hbm, 858, rfl⟩
abbrev main_call3_call0_v17 : Ref sig .tc := ⟨.hbm, 859, rfl⟩
abbrev main_call3_call0_v18 : Ref sig .tc := ⟨.hbm, 860, rfl⟩
abbrev main_call3_call0_v19 : Ref sig .tc := ⟨.hbm, 861, rfl⟩
abbrev main_call3_call0_v20 : Ref sig .tc := ⟨.hbm, 862, rfl⟩
abbrev main_call3_call0_c_4 : Ref sig .tc := ⟨.hbm, 863, rfl⟩
abbrev main_call3_call0_v21 : Ref sig .tc := ⟨.hbm, 864, rfl⟩
abbrev main_call3_call0_v22 : Ref sig .tc := ⟨.hbm, 865, rfl⟩
abbrev main_call3_call0_c_5 : Ref sig .tc := ⟨.hbm, 866, rfl⟩
abbrev main_call3_call0_v23 : Ref sig .tc := ⟨.hbm, 867, rfl⟩
abbrev main_call3_call0_v24 : Ref sig .tc := ⟨.hbm, 868, rfl⟩
abbrev main_call3_call0_v25 : Ref sig .tc := ⟨.hbm, 869, rfl⟩
abbrev main_call3_call0_v26 : Ref sig .tc := ⟨.hbm, 870, rfl⟩
abbrev main_call3_call0_v27 : Ref sig .tc := ⟨.hbm, 871, rfl⟩
abbrev main_call3_call0_c_6 : Ref sig .tc := ⟨.hbm, 872, rfl⟩
abbrev main_call3_call0_v28 : Ref sig .tc := ⟨.hbm, 873, rfl⟩
abbrev main_call3_call0_v29 : Ref sig .tc := ⟨.hbm, 874, rfl⟩
abbrev main_call3_call0_c_7 : Ref sig .tc := ⟨.hbm, 875, rfl⟩
abbrev main_call3_call0_v30 : Ref sig .tc := ⟨.hbm, 876, rfl⟩
abbrev main_call3_call0_v31 : Ref sig .tc := ⟨.hbm, 877, rfl⟩
abbrev main_call3_call0_v32 : Ref sig .tc := ⟨.hbm, 878, rfl⟩
abbrev main_call3_call0_v33 : Ref sig .tc := ⟨.hbm, 879, rfl⟩
abbrev main_call3_call0_v34 : Ref sig .tc := ⟨.hbm, 880, rfl⟩
abbrev main_call3_call0_v35 : Ref sig .tc := ⟨.hbm, 881, rfl⟩
abbrev main_call3_call0_v36 : Ref sig .tc := ⟨.hbm, 882, rfl⟩
abbrev main_call3_call0_v37 : Ref sig .tc := ⟨.hbm, 883, rfl⟩
abbrev main_call3_call0_c_8 : Ref sig .tc := ⟨.hbm, 884, rfl⟩
abbrev main_call3_call0_v38 : Ref sig .tc := ⟨.hbm, 885, rfl⟩
abbrev main_call3_call0_v39 : Ref sig .tc := ⟨.hbm, 886, rfl⟩
abbrev main_call3_call0_v40 : Ref sig .tc := ⟨.hbm, 887, rfl⟩
abbrev main_call3_call0_c_9 : Ref sig .tc := ⟨.hbm, 888, rfl⟩
abbrev main_call3_call0_v41 : Ref sig .tc := ⟨.hbm, 889, rfl⟩
abbrev main_call3_call0_v42 : Ref sig .tc := ⟨.hbm, 890, rfl⟩
abbrev main_call3_call0_c_10 : Ref sig .tc := ⟨.hbm, 891, rfl⟩
abbrev main_call3_call0_v43 : Ref sig .tc := ⟨.hbm, 892, rfl⟩
abbrev main_call3_call0_v44 : Ref sig .tc := ⟨.hbm, 893, rfl⟩
abbrev main_call3_call0_v45 : Ref sig .tc := ⟨.hbm, 894, rfl⟩
abbrev main_call3_call0_v46 : Ref sig .tc := ⟨.hbm, 895, rfl⟩
abbrev main_call3_call0_v47 : Ref sig .tc := ⟨.hbm, 896, rfl⟩
abbrev main_call3_call0_c_11 : Ref sig .tc := ⟨.hbm, 897, rfl⟩
abbrev main_call3_call0_v48 : Ref sig .tc := ⟨.hbm, 898, rfl⟩
abbrev main_call3_call0_v49 : Ref sig .tc := ⟨.hbm, 899, rfl⟩
abbrev main_call3_call0_c_12 : Ref sig .tc := ⟨.hbm, 900, rfl⟩
abbrev main_call3_call0_v50 : Ref sig .tc := ⟨.hbm, 901, rfl⟩
abbrev main_call3_call0_v51 : Ref sig .tc := ⟨.hbm, 902, rfl⟩
abbrev main_call3_call0_v52 : Ref sig .tc := ⟨.hbm, 903, rfl⟩
abbrev main_call3_call0_v53 : Ref sig .tc := ⟨.hbm, 904, rfl⟩
abbrev main_call3_call0_v54 : Ref sig .tc := ⟨.hbm, 905, rfl⟩
abbrev main_call3_call0_c_13 : Ref sig .tc := ⟨.hbm, 906, rfl⟩
abbrev main_call3_call0_v55 : Ref sig .tc := ⟨.hbm, 907, rfl⟩
abbrev main_call3_call0_v56 : Ref sig .tc := ⟨.hbm, 908, rfl⟩
abbrev main_call3_call0_c_14 : Ref sig .tc := ⟨.hbm, 909, rfl⟩
abbrev main_call3_call0_v57 : Ref sig .tc := ⟨.hbm, 910, rfl⟩
abbrev main_call3_call0_v58 : Ref sig .tc := ⟨.hbm, 911, rfl⟩
abbrev main_call3_call0_v59 : Ref sig .tc := ⟨.hbm, 912, rfl⟩
abbrev main_call3_call0_v60 : Ref sig .tc := ⟨.hbm, 913, rfl⟩
abbrev main_call3_call0_v61 : Ref sig .tc := ⟨.hbm, 914, rfl⟩
abbrev main_call3_call0_c_15 : Ref sig .tc := ⟨.hbm, 915, rfl⟩
abbrev main_call3_call0_v62 : Ref sig .tc := ⟨.hbm, 916, rfl⟩
abbrev main_call3_call0_v63 : Ref sig .tc := ⟨.hbm, 917, rfl⟩
abbrev main_call3_call0_c_16 : Ref sig .tc := ⟨.hbm, 918, rfl⟩
abbrev main_call3_call0_v64 : Ref sig .tc := ⟨.hbm, 919, rfl⟩
abbrev main_call3_call0_v65 : Ref sig .tc := ⟨.hbm, 920, rfl⟩
abbrev main_call3_call0_v66 : Ref sig .tc := ⟨.hbm, 921, rfl⟩
abbrev main_call3_call0_v67 : Ref sig .tc := ⟨.hbm, 922, rfl⟩
abbrev main_call3_call0_v68 : Ref sig .tc := ⟨.hbm, 923, rfl⟩
abbrev main_call3_call0_v69 : Ref sig .tc := ⟨.hbm, 924, rfl⟩
abbrev main_call3_call0_v70 : Ref sig .tc := ⟨.hbm, 925, rfl⟩
abbrev main_call3_call0_v71 : Ref sig .tc := ⟨.hbm, 926, rfl⟩
abbrev main_call3_call0_c_17 : Ref sig .tc := ⟨.hbm, 927, rfl⟩
abbrev main_call3_call0_v72 : Ref sig .tc := ⟨.hbm, 928, rfl⟩
abbrev main_call3_call0_v73 : Ref sig .tc := ⟨.hbm, 929, rfl⟩
abbrev main_call3_call0_v74 : Ref sig .tc := ⟨.hbm, 930, rfl⟩
abbrev main_call3_call0_c_18 : Ref sig .tc := ⟨.hbm, 931, rfl⟩
abbrev main_call3_call0_v75 : Ref sig .tc := ⟨.hbm, 932, rfl⟩
abbrev main_call3_call0_v76 : Ref sig .tc := ⟨.hbm, 933, rfl⟩
abbrev main_call3_call0_c_19 : Ref sig .tc := ⟨.hbm, 934, rfl⟩
abbrev main_call3_call0_v77 : Ref sig .tc := ⟨.hbm, 935, rfl⟩
abbrev main_call3_call0_v78 : Ref sig .tc := ⟨.hbm, 936, rfl⟩
abbrev main_call3_call0_v79 : Ref sig .tc := ⟨.hbm, 937, rfl⟩
abbrev main_call3_call0_v80 : Ref sig .tc := ⟨.hbm, 938, rfl⟩
abbrev main_call3_call0_v81 : Ref sig .tc := ⟨.hbm, 939, rfl⟩
abbrev main_call3_call0_c_20 : Ref sig .tc := ⟨.hbm, 940, rfl⟩
abbrev main_call3_call0_v82 : Ref sig .tc := ⟨.hbm, 941, rfl⟩
abbrev main_call3_call0_v83 : Ref sig .tc := ⟨.hbm, 942, rfl⟩
abbrev main_call3_call0_c_21 : Ref sig .tc := ⟨.hbm, 943, rfl⟩
abbrev main_call3_call0_v84 : Ref sig .tc := ⟨.hbm, 944, rfl⟩
abbrev main_call3_call0_v85 : Ref sig .tc := ⟨.hbm, 945, rfl⟩
abbrev main_call3_call0_v86 : Ref sig .tc := ⟨.hbm, 946, rfl⟩
abbrev main_call3_call0_v87 : Ref sig .tc := ⟨.hbm, 947, rfl⟩
abbrev main_call3_call0_v88 : Ref sig .tc := ⟨.hbm, 948, rfl⟩
abbrev main_call3_call0_c_22 : Ref sig .tc := ⟨.hbm, 949, rfl⟩
abbrev main_call3_call0_v89 : Ref sig .tc := ⟨.hbm, 950, rfl⟩
abbrev main_call3_call0_v90 : Ref sig .tc := ⟨.hbm, 951, rfl⟩
abbrev main_call3_call0_c_23 : Ref sig .tc := ⟨.hbm, 952, rfl⟩
abbrev main_call3_call0_v91 : Ref sig .tc := ⟨.hbm, 953, rfl⟩
abbrev main_call3_call0_v92 : Ref sig .tc := ⟨.hbm, 954, rfl⟩
abbrev main_call3_call0_v93 : Ref sig .tc := ⟨.hbm, 955, rfl⟩
abbrev main_call3_call0_v94 : Ref sig .tc := ⟨.hbm, 956, rfl⟩
abbrev main_call3_call0_v95 : Ref sig .tc := ⟨.hbm, 957, rfl⟩
abbrev main_call3_call0_c_24 : Ref sig .tc := ⟨.hbm, 958, rfl⟩
abbrev main_call3_call0_v96 : Ref sig .tc := ⟨.hbm, 959, rfl⟩
abbrev main_call3_call0_v97 : Ref sig .tc := ⟨.hbm, 960, rfl⟩
abbrev main_call3_call0_c_25 : Ref sig .tc := ⟨.hbm, 961, rfl⟩
abbrev main_call3_call0_v98 : Ref sig .tc := ⟨.hbm, 962, rfl⟩
abbrev main_call3_call0_v99 : Ref sig .tc := ⟨.hbm, 963, rfl⟩
abbrev main_call3_call0_v100 : Ref sig .tc := ⟨.hbm, 964, rfl⟩
abbrev main_call3_call0_v101 : Ref sig .tc := ⟨.hbm, 965, rfl⟩
abbrev main_call3_call0_v102 : Ref sig .tc := ⟨.hbm, 966, rfl⟩
abbrev main_call3_call0_v103 : Ref sig .tc := ⟨.hbm, 967, rfl⟩
abbrev main_call3_call0_v104 : Ref sig .tc := ⟨.hbm, 968, rfl⟩
abbrev main_call3_call0_v105 : Ref sig .tc := ⟨.hbm, 969, rfl⟩
abbrev main_call3_call0_c_26 : Ref sig .tc := ⟨.hbm, 970, rfl⟩
abbrev main_call3_call0_v106 : Ref sig .tc := ⟨.hbm, 971, rfl⟩
abbrev main_call3_call0_v107 : Ref sig .tc := ⟨.hbm, 972, rfl⟩
abbrev main_call3_call0_v108 : Ref sig .tc := ⟨.hbm, 973, rfl⟩
abbrev main_call3_call0_c_27 : Ref sig .tc := ⟨.hbm, 974, rfl⟩
abbrev main_call3_call0_v109 : Ref sig .tc := ⟨.hbm, 975, rfl⟩
abbrev main_call3_call0_v110 : Ref sig .tc := ⟨.hbm, 976, rfl⟩
abbrev main_call3_call0_c_28 : Ref sig .tc := ⟨.hbm, 977, rfl⟩
abbrev main_call3_call0_v111 : Ref sig .tc := ⟨.hbm, 978, rfl⟩
abbrev main_call3_call0_v112 : Ref sig .tc := ⟨.hbm, 979, rfl⟩
abbrev main_call3_call0_v113 : Ref sig .tc := ⟨.hbm, 980, rfl⟩
abbrev main_call3_call0_v114 : Ref sig .tc := ⟨.hbm, 981, rfl⟩
abbrev main_call3_call0_v115 : Ref sig .tc := ⟨.hbm, 982, rfl⟩
abbrev main_call3_call0_c_29 : Ref sig .tc := ⟨.hbm, 983, rfl⟩
abbrev main_call3_call0_v116 : Ref sig .tc := ⟨.hbm, 984, rfl⟩
abbrev main_call3_call0_v117 : Ref sig .tc := ⟨.hbm, 985, rfl⟩
abbrev main_call3_call0_c_30 : Ref sig .tc := ⟨.hbm, 986, rfl⟩
abbrev main_call3_call0_v118 : Ref sig .tc := ⟨.hbm, 987, rfl⟩
abbrev main_call3_call0_v119 : Ref sig .tc := ⟨.hbm, 988, rfl⟩
abbrev main_call3_call0_v120 : Ref sig .tc := ⟨.hbm, 989, rfl⟩
abbrev main_call3_call0_v121 : Ref sig .tc := ⟨.hbm, 990, rfl⟩
abbrev main_call3_call0_v122 : Ref sig .tc := ⟨.hbm, 991, rfl⟩
abbrev main_call3_call0_c_31 : Ref sig .tc := ⟨.hbm, 992, rfl⟩
abbrev main_call3_call0_v123 : Ref sig .tc := ⟨.hbm, 993, rfl⟩
abbrev main_call3_call0_v124 : Ref sig .tc := ⟨.hbm, 994, rfl⟩
abbrev main_call3_call0_c_32 : Ref sig .tc := ⟨.hbm, 995, rfl⟩
abbrev main_call3_call0_v125 : Ref sig .tc := ⟨.hbm, 996, rfl⟩
abbrev main_call3_call0_v126 : Ref sig .tc := ⟨.hbm, 997, rfl⟩
abbrev main_call3_call0_v127 : Ref sig .tc := ⟨.hbm, 998, rfl⟩
abbrev main_call3_call0_v128 : Ref sig .tc := ⟨.hbm, 999, rfl⟩
abbrev main_call3_call0_v129 : Ref sig .tc := ⟨.hbm, 1000, rfl⟩
abbrev main_call3_call0_c_33 : Ref sig .tc := ⟨.hbm, 1001, rfl⟩
abbrev main_call3_call0_v130 : Ref sig .tc := ⟨.hbm, 1002, rfl⟩
abbrev main_call3_call0_v131 : Ref sig .tc := ⟨.hbm, 1003, rfl⟩
abbrev main_call3_call0_c_34 : Ref sig .tc := ⟨.hbm, 1004, rfl⟩
abbrev main_call3_call0_v132 : Ref sig .tc := ⟨.hbm, 1005, rfl⟩
abbrev main_call3_call0_v133 : Ref sig .tc := ⟨.hbm, 1006, rfl⟩
abbrev main_call3_call0_v134 : Ref sig .tc := ⟨.hbm, 1007, rfl⟩
abbrev main_call3_call0_v135 : Ref sig .tc := ⟨.hbm, 1008, rfl⟩
abbrev main_call3_call0_v136 : Ref sig .tc := ⟨.hbm, 1009, rfl⟩
abbrev main_call3_call0_v137 : Ref sig .tc := ⟨.hbm, 1010, rfl⟩
abbrev main_call3_call0_v138 : Ref sig .tc := ⟨.hbm, 1011, rfl⟩
abbrev main_call3_call0_v139 : Ref sig .tc := ⟨.hbm, 1012, rfl⟩
abbrev main_call3_call0_c_35 : Ref sig .tc := ⟨.hbm, 1013, rfl⟩
abbrev main_call3_call0_v140 : Ref sig .tc := ⟨.hbm, 1014, rfl⟩
abbrev main_call3_call0_v141 : Ref sig .tc := ⟨.hbm, 1015, rfl⟩
abbrev main_call3_call0_v142 : Ref sig .tc := ⟨.hbm, 1016, rfl⟩
abbrev main_call3_call0_c_36 : Ref sig .tc := ⟨.hbm, 1017, rfl⟩
abbrev main_call3_call0_v143 : Ref sig .tc := ⟨.hbm, 1018, rfl⟩
abbrev main_call3_call0_v144 : Ref sig .tc := ⟨.hbm, 1019, rfl⟩
abbrev main_call3_call0_c_37 : Ref sig .tc := ⟨.hbm, 1020, rfl⟩
abbrev main_call3_call0_v145 : Ref sig .tc := ⟨.hbm, 1021, rfl⟩
abbrev main_call3_call0_v146 : Ref sig .tc := ⟨.hbm, 1022, rfl⟩
abbrev main_call3_call0_v147 : Ref sig .tc := ⟨.hbm, 1023, rfl⟩
abbrev main_call3_call0_v148 : Ref sig .tc := ⟨.hbm, 1024, rfl⟩
abbrev main_call3_call0_v149 : Ref sig .tc := ⟨.hbm, 1025, rfl⟩
abbrev main_call3_call0_c_38 : Ref sig .tc := ⟨.hbm, 1026, rfl⟩
abbrev main_call3_call0_v150 : Ref sig .tc := ⟨.hbm, 1027, rfl⟩
abbrev main_call3_call0_v151 : Ref sig .tc := ⟨.hbm, 1028, rfl⟩
abbrev main_call3_call0_c_39 : Ref sig .tc := ⟨.hbm, 1029, rfl⟩
abbrev main_call3_call0_v152 : Ref sig .tc := ⟨.hbm, 1030, rfl⟩
abbrev main_call3_call0_v153 : Ref sig .tc := ⟨.hbm, 1031, rfl⟩
abbrev main_call3_call0_v154 : Ref sig .tc := ⟨.hbm, 1032, rfl⟩
abbrev main_call3_call0_v155 : Ref sig .tc := ⟨.hbm, 1033, rfl⟩
abbrev main_call3_call0_v156 : Ref sig .tc := ⟨.hbm, 1034, rfl⟩
abbrev main_call3_call0_c_40 : Ref sig .tc := ⟨.hbm, 1035, rfl⟩
abbrev main_call3_call0_v157 : Ref sig .tc := ⟨.hbm, 1036, rfl⟩
abbrev main_call3_call0_v158 : Ref sig .tc := ⟨.hbm, 1037, rfl⟩
abbrev main_call3_call0_c_41 : Ref sig .tc := ⟨.hbm, 1038, rfl⟩
abbrev main_call3_call0_v159 : Ref sig .tc := ⟨.hbm, 1039, rfl⟩
abbrev main_call3_call0_v160 : Ref sig .tc := ⟨.hbm, 1040, rfl⟩
abbrev main_call3_call0_v161 : Ref sig .tc := ⟨.hbm, 1041, rfl⟩
abbrev main_call3_call0_v162 : Ref sig .tc := ⟨.hbm, 1042, rfl⟩
abbrev main_call3_call0_v163 : Ref sig .tc := ⟨.hbm, 1043, rfl⟩
abbrev main_call3_call0_c_42 : Ref sig .tc := ⟨.hbm, 1044, rfl⟩
abbrev main_call3_call0_v164 : Ref sig .tc := ⟨.hbm, 1045, rfl⟩
abbrev main_call3_call0_v165 : Ref sig .tc := ⟨.hbm, 1046, rfl⟩
abbrev main_call3_call0_c_43 : Ref sig .tc := ⟨.hbm, 1047, rfl⟩
abbrev main_call3_call0_v166 : Ref sig .tc := ⟨.hbm, 1048, rfl⟩
abbrev main_call3_call0_v167 : Ref sig .tc := ⟨.hbm, 1049, rfl⟩
abbrev main_call3_call0_v168 : Ref sig .tc := ⟨.hbm, 1050, rfl⟩
abbrev main_call3_call0_v169 : Ref sig .tc := ⟨.hbm, 1051, rfl⟩
abbrev main_call3_call0_v170 : Ref sig .tc := ⟨.hbm, 1052, rfl⟩
abbrev main_call3_v19_0 : Ref sig .tc := ⟨.hbm, 1053, rfl⟩
abbrev main_call3_call0_v172 : Ref sig .tc := ⟨.hbm, 1054, rfl⟩
abbrev main_call3_call0_v173 : Ref sig .tc := ⟨.hbm, 1055, rfl⟩
abbrev main_call3_call0_c_44 : Ref sig .tc := ⟨.hbm, 1056, rfl⟩
abbrev main_call3_call0_v174 : Ref sig .tc := ⟨.hbm, 1057, rfl⟩
abbrev main_call3_v19_1 : Ref sig .tc := ⟨.hbm, 1058, rfl⟩
abbrev main_call3_v20 : Ref sig .tc := ⟨.hbm, 1059, rfl⟩
abbrev main_call3_c_2 : Ref sig .tc := ⟨.hbm, 1060, rfl⟩
abbrev main_call3_v21 : Ref sig .tc := ⟨.hbm, 1061, rfl⟩
abbrev main_call3_v22 : Ref sig .tc := ⟨.hbm, 1062, rfl⟩
abbrev main_call3_c_3 : Ref sig .tc := ⟨.hbm, 1063, rfl⟩
abbrev main_call3_v23 : Ref sig .tc := ⟨.hbm, 1064, rfl⟩
abbrev main_call3_v24 : Ref sig .tc := ⟨.hbm, 1065, rfl⟩
abbrev main_call3_v25 : Ref sig .tc := ⟨.hbm, 1066, rfl⟩
abbrev main_call3_cst : Ref sig .tc := ⟨.hbm, 1067, rfl⟩
abbrev main_call3_v26 : Ref sig .tc := ⟨.hbm, 1068, rfl⟩
abbrev main_call3_v27 : Ref sig .tc := ⟨.hbm, 1069, rfl⟩
abbrev main_call3_v28 : Ref sig .tc := ⟨.hbm, 1070, rfl⟩
abbrev main_call3_v29 : Ref sig .tc := ⟨.hbm, 1071, rfl⟩
abbrev main_call3_v30 : Ref sig .tc := ⟨.hbm, 1072, rfl⟩
abbrev main_call3_v31 : Ref sig .tc := ⟨.hbm, 1073, rfl⟩
abbrev main_call3_v32 : Ref sig .tc := ⟨.hbm, 1074, rfl⟩
abbrev main_call3_v33 : Ref sig .tc := ⟨.hbm, 1075, rfl⟩
abbrev main_v43 : Ref sig .tc := ⟨.hbm, 1076, rfl⟩
abbrev main_cst_15 : Ref sig .tc := ⟨.hbm, 1077, rfl⟩
abbrev main_v44 : Ref sig .tc := ⟨.hbm, 1078, rfl⟩
abbrev main_v45 : Ref sig .tc := ⟨.hbm, 1079, rfl⟩
abbrev main_v46 : Ref sig .tc := ⟨.hbm, 1080, rfl⟩
abbrev main_cst_16 : Ref sig .tc := ⟨.hbm, 1081, rfl⟩
abbrev main_v47 : Ref sig .tc := ⟨.hbm, 1082, rfl⟩
abbrev main_v48 : Ref sig .tc := ⟨.hbm, 1083, rfl⟩
abbrev main_v49 : Ref sig .tc := ⟨.hbm, 1084, rfl⟩
abbrev main_cst_17 : Ref sig .tc := ⟨.hbm, 1085, rfl⟩
abbrev main_v50 : Ref sig .tc := ⟨.hbm, 1086, rfl⟩
abbrev main_v51 : Ref sig .tc := ⟨.hbm, 1087, rfl⟩
abbrev main_v52 : Ref sig .tc := ⟨.hbm, 1088, rfl⟩
abbrev main_cst_18 : Ref sig .tc := ⟨.hbm, 1089, rfl⟩
abbrev main_v53 : Ref sig .tc := ⟨.hbm, 1090, rfl⟩
abbrev main_v54 : Ref sig .tc := ⟨.hbm, 1091, rfl⟩
abbrev main_v55 : Ref sig .tc := ⟨.hbm, 1092, rfl⟩
abbrev main_v56 : Ref sig .tc := ⟨.hbm, 1093, rfl⟩
abbrev main_v57 : Ref sig .tc := ⟨.hbm, 1094, rfl⟩
abbrev main_cst_19 : Ref sig .tc := ⟨.hbm, 1095, rfl⟩
abbrev main_cst_20 : Ref sig .tc := ⟨.hbm, 1096, rfl⟩
abbrev main_call4_v0 : Ref sig .tc := ⟨.hbm, 1097, rfl⟩
abbrev main_call4_v1 : Ref sig .tc := ⟨.hbm, 1098, rfl⟩
abbrev main_call4_v2 : Ref sig .tc := ⟨.hbm, 1099, rfl⟩
abbrev main_call4_v3 : Ref sig .tc := ⟨.hbm, 1100, rfl⟩
abbrev main_call4_v4 : Ref sig .tc := ⟨.hbm, 1101, rfl⟩
abbrev main_call4_v5 : Ref sig .tc := ⟨.hbm, 1102, rfl⟩
abbrev main_call4_v6 : Ref sig .tc := ⟨.hbm, 1103, rfl⟩
abbrev main_call4_v7 : Ref sig .tc := ⟨.hbm, 1104, rfl⟩
abbrev main_call4_v8 : Ref sig .tc := ⟨.hbm, 1105, rfl⟩
abbrev main_call4_v9 : Ref sig .tc := ⟨.hbm, 1106, rfl⟩
abbrev main_call4_c : Ref sig .tc := ⟨.hbm, 1107, rfl⟩
abbrev main_call4_v10 : Ref sig .tc := ⟨.hbm, 1108, rfl⟩
abbrev main_call4_v11 : Ref sig .tc := ⟨.hbm, 1109, rfl⟩
abbrev main_call4_c_0 : Ref sig .tc := ⟨.hbm, 1110, rfl⟩
abbrev main_call4_v12 : Ref sig .tc := ⟨.hbm, 1111, rfl⟩
abbrev main_call4_v13 : Ref sig .tc := ⟨.hbm, 1112, rfl⟩
abbrev main_call4_v14 : Ref sig .tc := ⟨.hbm, 1113, rfl⟩
abbrev main_call4_c_1 : Ref sig .tc := ⟨.hbm, 1114, rfl⟩
abbrev main_call4_v15 : Ref sig .tc := ⟨.hbm, 1115, rfl⟩
abbrev main_call4_v16 : Ref sig .tc := ⟨.hbm, 1116, rfl⟩
abbrev main_call4_v17 : Ref sig .tc := ⟨.hbm, 1117, rfl⟩
abbrev main_call4_v18 : Ref sig .tc := ⟨.hbm, 1118, rfl⟩
abbrev main_call4_call0_v0 : Ref sig .tc := ⟨.hbm, 1119, rfl⟩
abbrev main_call4_call0_c : Ref sig .tc := ⟨.hbm, 1120, rfl⟩
abbrev main_call4_call0_v1 : Ref sig .tc := ⟨.hbm, 1121, rfl⟩
abbrev main_call4_call0_v2 : Ref sig .tc := ⟨.hbm, 1122, rfl⟩
abbrev main_call4_call0_v3 : Ref sig .tc := ⟨.hbm, 1123, rfl⟩
abbrev main_call4_call0_v4 : Ref sig .tc := ⟨.hbm, 1124, rfl⟩
abbrev main_call4_call0_v5 : Ref sig .tc := ⟨.hbm, 1125, rfl⟩
abbrev main_call4_call0_v6 : Ref sig .tc := ⟨.hbm, 1126, rfl⟩
abbrev main_call4_call0_c_0 : Ref sig .tc := ⟨.hbm, 1127, rfl⟩
abbrev main_call4_call0_v7 : Ref sig .tc := ⟨.hbm, 1128, rfl⟩
abbrev main_call4_call0_v8 : Ref sig .tc := ⟨.hbm, 1129, rfl⟩
abbrev main_call4_call0_c_1 : Ref sig .tc := ⟨.hbm, 1130, rfl⟩
abbrev main_call4_call0_v9 : Ref sig .tc := ⟨.hbm, 1131, rfl⟩
abbrev main_call4_call0_v10 : Ref sig .tc := ⟨.hbm, 1132, rfl⟩
abbrev main_call4_call0_v11 : Ref sig .tc := ⟨.hbm, 1133, rfl⟩
abbrev main_call4_call0_v12 : Ref sig .tc := ⟨.hbm, 1134, rfl⟩
abbrev main_call4_call0_v13 : Ref sig .tc := ⟨.hbm, 1135, rfl⟩
abbrev main_call4_call0_c_2 : Ref sig .tc := ⟨.hbm, 1136, rfl⟩
abbrev main_call4_call0_v14 : Ref sig .tc := ⟨.hbm, 1137, rfl⟩
abbrev main_call4_call0_v15 : Ref sig .tc := ⟨.hbm, 1138, rfl⟩
abbrev main_call4_call0_c_3 : Ref sig .tc := ⟨.hbm, 1139, rfl⟩
abbrev main_call4_call0_v16 : Ref sig .tc := ⟨.hbm, 1140, rfl⟩
abbrev main_call4_call0_v17 : Ref sig .tc := ⟨.hbm, 1141, rfl⟩
abbrev main_call4_call0_v18 : Ref sig .tc := ⟨.hbm, 1142, rfl⟩
abbrev main_call4_call0_v19 : Ref sig .tc := ⟨.hbm, 1143, rfl⟩
abbrev main_call4_call0_v20 : Ref sig .tc := ⟨.hbm, 1144, rfl⟩
abbrev main_call4_call0_c_4 : Ref sig .tc := ⟨.hbm, 1145, rfl⟩
abbrev main_call4_call0_v21 : Ref sig .tc := ⟨.hbm, 1146, rfl⟩
abbrev main_call4_call0_v22 : Ref sig .tc := ⟨.hbm, 1147, rfl⟩
abbrev main_call4_call0_c_5 : Ref sig .tc := ⟨.hbm, 1148, rfl⟩
abbrev main_call4_call0_v23 : Ref sig .tc := ⟨.hbm, 1149, rfl⟩
abbrev main_call4_call0_v24 : Ref sig .tc := ⟨.hbm, 1150, rfl⟩
abbrev main_call4_call0_v25 : Ref sig .tc := ⟨.hbm, 1151, rfl⟩
abbrev main_call4_call0_v26 : Ref sig .tc := ⟨.hbm, 1152, rfl⟩
abbrev main_call4_call0_v27 : Ref sig .tc := ⟨.hbm, 1153, rfl⟩
abbrev main_call4_call0_c_6 : Ref sig .tc := ⟨.hbm, 1154, rfl⟩
abbrev main_call4_call0_v28 : Ref sig .tc := ⟨.hbm, 1155, rfl⟩
abbrev main_call4_call0_v29 : Ref sig .tc := ⟨.hbm, 1156, rfl⟩
abbrev main_call4_call0_c_7 : Ref sig .tc := ⟨.hbm, 1157, rfl⟩
abbrev main_call4_call0_v30 : Ref sig .tc := ⟨.hbm, 1158, rfl⟩
abbrev main_call4_call0_v31 : Ref sig .tc := ⟨.hbm, 1159, rfl⟩
abbrev main_call4_call0_v32 : Ref sig .tc := ⟨.hbm, 1160, rfl⟩
abbrev main_call4_call0_v33 : Ref sig .tc := ⟨.hbm, 1161, rfl⟩
abbrev main_call4_call0_v34 : Ref sig .tc := ⟨.hbm, 1162, rfl⟩
abbrev main_call4_call0_v35 : Ref sig .tc := ⟨.hbm, 1163, rfl⟩
abbrev main_call4_call0_v36 : Ref sig .tc := ⟨.hbm, 1164, rfl⟩
abbrev main_call4_call0_v37 : Ref sig .tc := ⟨.hbm, 1165, rfl⟩
abbrev main_call4_call0_c_8 : Ref sig .tc := ⟨.hbm, 1166, rfl⟩
abbrev main_call4_call0_v38 : Ref sig .tc := ⟨.hbm, 1167, rfl⟩
abbrev main_call4_call0_v39 : Ref sig .tc := ⟨.hbm, 1168, rfl⟩
abbrev main_call4_call0_v40 : Ref sig .tc := ⟨.hbm, 1169, rfl⟩
abbrev main_call4_call0_c_9 : Ref sig .tc := ⟨.hbm, 1170, rfl⟩
abbrev main_call4_call0_v41 : Ref sig .tc := ⟨.hbm, 1171, rfl⟩
abbrev main_call4_call0_v42 : Ref sig .tc := ⟨.hbm, 1172, rfl⟩
abbrev main_call4_call0_c_10 : Ref sig .tc := ⟨.hbm, 1173, rfl⟩
abbrev main_call4_call0_v43 : Ref sig .tc := ⟨.hbm, 1174, rfl⟩
abbrev main_call4_call0_v44 : Ref sig .tc := ⟨.hbm, 1175, rfl⟩
abbrev main_call4_call0_v45 : Ref sig .tc := ⟨.hbm, 1176, rfl⟩
abbrev main_call4_call0_v46 : Ref sig .tc := ⟨.hbm, 1177, rfl⟩
abbrev main_call4_call0_v47 : Ref sig .tc := ⟨.hbm, 1178, rfl⟩
abbrev main_call4_call0_c_11 : Ref sig .tc := ⟨.hbm, 1179, rfl⟩
abbrev main_call4_call0_v48 : Ref sig .tc := ⟨.hbm, 1180, rfl⟩
abbrev main_call4_call0_v49 : Ref sig .tc := ⟨.hbm, 1181, rfl⟩
abbrev main_call4_call0_c_12 : Ref sig .tc := ⟨.hbm, 1182, rfl⟩
abbrev main_call4_call0_v50 : Ref sig .tc := ⟨.hbm, 1183, rfl⟩
abbrev main_call4_call0_v51 : Ref sig .tc := ⟨.hbm, 1184, rfl⟩
abbrev main_call4_call0_v52 : Ref sig .tc := ⟨.hbm, 1185, rfl⟩
abbrev main_call4_call0_v53 : Ref sig .tc := ⟨.hbm, 1186, rfl⟩
abbrev main_call4_call0_v54 : Ref sig .tc := ⟨.hbm, 1187, rfl⟩
abbrev main_call4_call0_c_13 : Ref sig .tc := ⟨.hbm, 1188, rfl⟩
abbrev main_call4_call0_v55 : Ref sig .tc := ⟨.hbm, 1189, rfl⟩
abbrev main_call4_call0_v56 : Ref sig .tc := ⟨.hbm, 1190, rfl⟩
abbrev main_call4_call0_c_14 : Ref sig .tc := ⟨.hbm, 1191, rfl⟩
abbrev main_call4_call0_v57 : Ref sig .tc := ⟨.hbm, 1192, rfl⟩
abbrev main_call4_call0_v58 : Ref sig .tc := ⟨.hbm, 1193, rfl⟩
abbrev main_call4_call0_v59 : Ref sig .tc := ⟨.hbm, 1194, rfl⟩
abbrev main_call4_call0_v60 : Ref sig .tc := ⟨.hbm, 1195, rfl⟩
abbrev main_call4_call0_v61 : Ref sig .tc := ⟨.hbm, 1196, rfl⟩
abbrev main_call4_call0_c_15 : Ref sig .tc := ⟨.hbm, 1197, rfl⟩
abbrev main_call4_call0_v62 : Ref sig .tc := ⟨.hbm, 1198, rfl⟩
abbrev main_call4_call0_v63 : Ref sig .tc := ⟨.hbm, 1199, rfl⟩
abbrev main_call4_call0_c_16 : Ref sig .tc := ⟨.hbm, 1200, rfl⟩
abbrev main_call4_call0_v64 : Ref sig .tc := ⟨.hbm, 1201, rfl⟩
abbrev main_call4_call0_v65 : Ref sig .tc := ⟨.hbm, 1202, rfl⟩
abbrev main_call4_call0_v66 : Ref sig .tc := ⟨.hbm, 1203, rfl⟩
abbrev main_call4_call0_v67 : Ref sig .tc := ⟨.hbm, 1204, rfl⟩
abbrev main_call4_call0_v68 : Ref sig .tc := ⟨.hbm, 1205, rfl⟩
abbrev main_call4_call0_v69 : Ref sig .tc := ⟨.hbm, 1206, rfl⟩
abbrev main_call4_call0_v70 : Ref sig .tc := ⟨.hbm, 1207, rfl⟩
abbrev main_call4_call0_v71 : Ref sig .tc := ⟨.hbm, 1208, rfl⟩
abbrev main_call4_call0_c_17 : Ref sig .tc := ⟨.hbm, 1209, rfl⟩
abbrev main_call4_call0_v72 : Ref sig .tc := ⟨.hbm, 1210, rfl⟩
abbrev main_call4_call0_v73 : Ref sig .tc := ⟨.hbm, 1211, rfl⟩
abbrev main_call4_call0_v74 : Ref sig .tc := ⟨.hbm, 1212, rfl⟩
abbrev main_call4_call0_c_18 : Ref sig .tc := ⟨.hbm, 1213, rfl⟩
abbrev main_call4_call0_v75 : Ref sig .tc := ⟨.hbm, 1214, rfl⟩
abbrev main_call4_call0_v76 : Ref sig .tc := ⟨.hbm, 1215, rfl⟩
abbrev main_call4_call0_c_19 : Ref sig .tc := ⟨.hbm, 1216, rfl⟩
abbrev main_call4_call0_v77 : Ref sig .tc := ⟨.hbm, 1217, rfl⟩
abbrev main_call4_call0_v78 : Ref sig .tc := ⟨.hbm, 1218, rfl⟩
abbrev main_call4_call0_v79 : Ref sig .tc := ⟨.hbm, 1219, rfl⟩
abbrev main_call4_call0_v80 : Ref sig .tc := ⟨.hbm, 1220, rfl⟩
abbrev main_call4_call0_v81 : Ref sig .tc := ⟨.hbm, 1221, rfl⟩
abbrev main_call4_call0_c_20 : Ref sig .tc := ⟨.hbm, 1222, rfl⟩
abbrev main_call4_call0_v82 : Ref sig .tc := ⟨.hbm, 1223, rfl⟩
abbrev main_call4_call0_v83 : Ref sig .tc := ⟨.hbm, 1224, rfl⟩
abbrev main_call4_call0_c_21 : Ref sig .tc := ⟨.hbm, 1225, rfl⟩
abbrev main_call4_call0_v84 : Ref sig .tc := ⟨.hbm, 1226, rfl⟩
abbrev main_call4_call0_v85 : Ref sig .tc := ⟨.hbm, 1227, rfl⟩
abbrev main_call4_call0_v86 : Ref sig .tc := ⟨.hbm, 1228, rfl⟩
abbrev main_call4_call0_v87 : Ref sig .tc := ⟨.hbm, 1229, rfl⟩
abbrev main_call4_call0_v88 : Ref sig .tc := ⟨.hbm, 1230, rfl⟩
abbrev main_call4_call0_c_22 : Ref sig .tc := ⟨.hbm, 1231, rfl⟩
abbrev main_call4_call0_v89 : Ref sig .tc := ⟨.hbm, 1232, rfl⟩
abbrev main_call4_call0_v90 : Ref sig .tc := ⟨.hbm, 1233, rfl⟩
abbrev main_call4_call0_c_23 : Ref sig .tc := ⟨.hbm, 1234, rfl⟩
abbrev main_call4_call0_v91 : Ref sig .tc := ⟨.hbm, 1235, rfl⟩
abbrev main_call4_call0_v92 : Ref sig .tc := ⟨.hbm, 1236, rfl⟩
abbrev main_call4_call0_v93 : Ref sig .tc := ⟨.hbm, 1237, rfl⟩
abbrev main_call4_call0_v94 : Ref sig .tc := ⟨.hbm, 1238, rfl⟩
abbrev main_call4_call0_v95 : Ref sig .tc := ⟨.hbm, 1239, rfl⟩
abbrev main_call4_call0_c_24 : Ref sig .tc := ⟨.hbm, 1240, rfl⟩
abbrev main_call4_call0_v96 : Ref sig .tc := ⟨.hbm, 1241, rfl⟩
abbrev main_call4_call0_v97 : Ref sig .tc := ⟨.hbm, 1242, rfl⟩
abbrev main_call4_call0_c_25 : Ref sig .tc := ⟨.hbm, 1243, rfl⟩
abbrev main_call4_call0_v98 : Ref sig .tc := ⟨.hbm, 1244, rfl⟩
abbrev main_call4_call0_v99 : Ref sig .tc := ⟨.hbm, 1245, rfl⟩
abbrev main_call4_call0_v100 : Ref sig .tc := ⟨.hbm, 1246, rfl⟩
abbrev main_call4_call0_v101 : Ref sig .tc := ⟨.hbm, 1247, rfl⟩
abbrev main_call4_call0_v102 : Ref sig .tc := ⟨.hbm, 1248, rfl⟩
abbrev main_call4_call0_v103 : Ref sig .tc := ⟨.hbm, 1249, rfl⟩
abbrev main_call4_call0_v104 : Ref sig .tc := ⟨.hbm, 1250, rfl⟩
abbrev main_call4_call0_v105 : Ref sig .tc := ⟨.hbm, 1251, rfl⟩
abbrev main_call4_call0_c_26 : Ref sig .tc := ⟨.hbm, 1252, rfl⟩
abbrev main_call4_call0_v106 : Ref sig .tc := ⟨.hbm, 1253, rfl⟩
abbrev main_call4_call0_v107 : Ref sig .tc := ⟨.hbm, 1254, rfl⟩
abbrev main_call4_call0_v108 : Ref sig .tc := ⟨.hbm, 1255, rfl⟩
abbrev main_call4_call0_c_27 : Ref sig .tc := ⟨.hbm, 1256, rfl⟩
abbrev main_call4_call0_v109 : Ref sig .tc := ⟨.hbm, 1257, rfl⟩
abbrev main_call4_call0_v110 : Ref sig .tc := ⟨.hbm, 1258, rfl⟩
abbrev main_call4_call0_c_28 : Ref sig .tc := ⟨.hbm, 1259, rfl⟩
abbrev main_call4_call0_v111 : Ref sig .tc := ⟨.hbm, 1260, rfl⟩
abbrev main_call4_call0_v112 : Ref sig .tc := ⟨.hbm, 1261, rfl⟩
abbrev main_call4_call0_v113 : Ref sig .tc := ⟨.hbm, 1262, rfl⟩
abbrev main_call4_call0_v114 : Ref sig .tc := ⟨.hbm, 1263, rfl⟩
abbrev main_call4_call0_v115 : Ref sig .tc := ⟨.hbm, 1264, rfl⟩
abbrev main_call4_call0_c_29 : Ref sig .tc := ⟨.hbm, 1265, rfl⟩
abbrev main_call4_call0_v116 : Ref sig .tc := ⟨.hbm, 1266, rfl⟩
abbrev main_call4_call0_v117 : Ref sig .tc := ⟨.hbm, 1267, rfl⟩
abbrev main_call4_call0_c_30 : Ref sig .tc := ⟨.hbm, 1268, rfl⟩
abbrev main_call4_call0_v118 : Ref sig .tc := ⟨.hbm, 1269, rfl⟩
abbrev main_call4_call0_v119 : Ref sig .tc := ⟨.hbm, 1270, rfl⟩
abbrev main_call4_call0_v120 : Ref sig .tc := ⟨.hbm, 1271, rfl⟩
abbrev main_call4_call0_v121 : Ref sig .tc := ⟨.hbm, 1272, rfl⟩
abbrev main_call4_call0_v122 : Ref sig .tc := ⟨.hbm, 1273, rfl⟩
abbrev main_call4_call0_c_31 : Ref sig .tc := ⟨.hbm, 1274, rfl⟩
abbrev main_call4_call0_v123 : Ref sig .tc := ⟨.hbm, 1275, rfl⟩
abbrev main_call4_call0_v124 : Ref sig .tc := ⟨.hbm, 1276, rfl⟩
abbrev main_call4_call0_c_32 : Ref sig .tc := ⟨.hbm, 1277, rfl⟩
abbrev main_call4_call0_v125 : Ref sig .tc := ⟨.hbm, 1278, rfl⟩
abbrev main_call4_call0_v126 : Ref sig .tc := ⟨.hbm, 1279, rfl⟩
abbrev main_call4_call0_v127 : Ref sig .tc := ⟨.hbm, 1280, rfl⟩
abbrev main_call4_call0_v128 : Ref sig .tc := ⟨.hbm, 1281, rfl⟩
abbrev main_call4_call0_v129 : Ref sig .tc := ⟨.hbm, 1282, rfl⟩
abbrev main_call4_call0_c_33 : Ref sig .tc := ⟨.hbm, 1283, rfl⟩
abbrev main_call4_call0_v130 : Ref sig .tc := ⟨.hbm, 1284, rfl⟩
abbrev main_call4_call0_v131 : Ref sig .tc := ⟨.hbm, 1285, rfl⟩
abbrev main_call4_call0_c_34 : Ref sig .tc := ⟨.hbm, 1286, rfl⟩
abbrev main_call4_call0_v132 : Ref sig .tc := ⟨.hbm, 1287, rfl⟩
abbrev main_call4_call0_v133 : Ref sig .tc := ⟨.hbm, 1288, rfl⟩
abbrev main_call4_call0_v134 : Ref sig .tc := ⟨.hbm, 1289, rfl⟩
abbrev main_call4_call0_v135 : Ref sig .tc := ⟨.hbm, 1290, rfl⟩
abbrev main_call4_call0_v136 : Ref sig .tc := ⟨.hbm, 1291, rfl⟩
abbrev main_call4_call0_v137 : Ref sig .tc := ⟨.hbm, 1292, rfl⟩
abbrev main_call4_call0_v138 : Ref sig .tc := ⟨.hbm, 1293, rfl⟩
abbrev main_call4_call0_v139 : Ref sig .tc := ⟨.hbm, 1294, rfl⟩
abbrev main_call4_call0_c_35 : Ref sig .tc := ⟨.hbm, 1295, rfl⟩
abbrev main_call4_call0_v140 : Ref sig .tc := ⟨.hbm, 1296, rfl⟩
abbrev main_call4_call0_v141 : Ref sig .tc := ⟨.hbm, 1297, rfl⟩
abbrev main_call4_call0_v142 : Ref sig .tc := ⟨.hbm, 1298, rfl⟩
abbrev main_call4_call0_c_36 : Ref sig .tc := ⟨.hbm, 1299, rfl⟩
abbrev main_call4_call0_v143 : Ref sig .tc := ⟨.hbm, 1300, rfl⟩
abbrev main_call4_call0_v144 : Ref sig .tc := ⟨.hbm, 1301, rfl⟩
abbrev main_call4_call0_c_37 : Ref sig .tc := ⟨.hbm, 1302, rfl⟩
abbrev main_call4_call0_v145 : Ref sig .tc := ⟨.hbm, 1303, rfl⟩
abbrev main_call4_call0_v146 : Ref sig .tc := ⟨.hbm, 1304, rfl⟩
abbrev main_call4_call0_v147 : Ref sig .tc := ⟨.hbm, 1305, rfl⟩
abbrev main_call4_call0_v148 : Ref sig .tc := ⟨.hbm, 1306, rfl⟩
abbrev main_call4_call0_v149 : Ref sig .tc := ⟨.hbm, 1307, rfl⟩
abbrev main_call4_call0_c_38 : Ref sig .tc := ⟨.hbm, 1308, rfl⟩
abbrev main_call4_call0_v150 : Ref sig .tc := ⟨.hbm, 1309, rfl⟩
abbrev main_call4_call0_v151 : Ref sig .tc := ⟨.hbm, 1310, rfl⟩
abbrev main_call4_call0_c_39 : Ref sig .tc := ⟨.hbm, 1311, rfl⟩
abbrev main_call4_call0_v152 : Ref sig .tc := ⟨.hbm, 1312, rfl⟩
abbrev main_call4_call0_v153 : Ref sig .tc := ⟨.hbm, 1313, rfl⟩
abbrev main_call4_call0_v154 : Ref sig .tc := ⟨.hbm, 1314, rfl⟩
abbrev main_call4_call0_v155 : Ref sig .tc := ⟨.hbm, 1315, rfl⟩
abbrev main_call4_call0_v156 : Ref sig .tc := ⟨.hbm, 1316, rfl⟩
abbrev main_call4_call0_c_40 : Ref sig .tc := ⟨.hbm, 1317, rfl⟩
abbrev main_call4_call0_v157 : Ref sig .tc := ⟨.hbm, 1318, rfl⟩
abbrev main_call4_call0_v158 : Ref sig .tc := ⟨.hbm, 1319, rfl⟩
abbrev main_call4_call0_c_41 : Ref sig .tc := ⟨.hbm, 1320, rfl⟩
abbrev main_call4_call0_v159 : Ref sig .tc := ⟨.hbm, 1321, rfl⟩
abbrev main_call4_call0_v160 : Ref sig .tc := ⟨.hbm, 1322, rfl⟩
abbrev main_call4_call0_v161 : Ref sig .tc := ⟨.hbm, 1323, rfl⟩
abbrev main_call4_call0_v162 : Ref sig .tc := ⟨.hbm, 1324, rfl⟩
abbrev main_call4_call0_v163 : Ref sig .tc := ⟨.hbm, 1325, rfl⟩
abbrev main_call4_call0_c_42 : Ref sig .tc := ⟨.hbm, 1326, rfl⟩
abbrev main_call4_call0_v164 : Ref sig .tc := ⟨.hbm, 1327, rfl⟩
abbrev main_call4_call0_v165 : Ref sig .tc := ⟨.hbm, 1328, rfl⟩
abbrev main_call4_call0_c_43 : Ref sig .tc := ⟨.hbm, 1329, rfl⟩
abbrev main_call4_call0_v166 : Ref sig .tc := ⟨.hbm, 1330, rfl⟩
abbrev main_call4_call0_v167 : Ref sig .tc := ⟨.hbm, 1331, rfl⟩
abbrev main_call4_call0_v168 : Ref sig .tc := ⟨.hbm, 1332, rfl⟩
abbrev main_call4_call0_v169 : Ref sig .tc := ⟨.hbm, 1333, rfl⟩
abbrev main_call4_call0_v170 : Ref sig .tc := ⟨.hbm, 1334, rfl⟩
abbrev main_call4_v19_0 : Ref sig .tc := ⟨.hbm, 1335, rfl⟩
abbrev main_call4_call0_v172 : Ref sig .tc := ⟨.hbm, 1336, rfl⟩
abbrev main_call4_call0_v173 : Ref sig .tc := ⟨.hbm, 1337, rfl⟩
abbrev main_call4_call0_c_44 : Ref sig .tc := ⟨.hbm, 1338, rfl⟩
abbrev main_call4_call0_v174 : Ref sig .tc := ⟨.hbm, 1339, rfl⟩
abbrev main_call4_v19_1 : Ref sig .tc := ⟨.hbm, 1340, rfl⟩
abbrev main_call4_v20 : Ref sig .tc := ⟨.hbm, 1341, rfl⟩
abbrev main_call4_c_2 : Ref sig .tc := ⟨.hbm, 1342, rfl⟩
abbrev main_call4_v21 : Ref sig .tc := ⟨.hbm, 1343, rfl⟩
abbrev main_call4_v22 : Ref sig .tc := ⟨.hbm, 1344, rfl⟩
abbrev main_call4_c_3 : Ref sig .tc := ⟨.hbm, 1345, rfl⟩
abbrev main_call4_v23 : Ref sig .tc := ⟨.hbm, 1346, rfl⟩
abbrev main_call4_v24 : Ref sig .tc := ⟨.hbm, 1347, rfl⟩
abbrev main_call4_v25 : Ref sig .tc := ⟨.hbm, 1348, rfl⟩
abbrev main_call4_cst : Ref sig .tc := ⟨.hbm, 1349, rfl⟩
abbrev main_call4_v26 : Ref sig .tc := ⟨.hbm, 1350, rfl⟩
abbrev main_call4_v27 : Ref sig .tc := ⟨.hbm, 1351, rfl⟩
abbrev main_call4_v28 : Ref sig .tc := ⟨.hbm, 1352, rfl⟩
abbrev main_call4_v29 : Ref sig .tc := ⟨.hbm, 1353, rfl⟩
abbrev main_call4_v30 : Ref sig .tc := ⟨.hbm, 1354, rfl⟩
abbrev main_call4_v31 : Ref sig .tc := ⟨.hbm, 1355, rfl⟩
abbrev main_call4_v32 : Ref sig .tc := ⟨.hbm, 1356, rfl⟩
abbrev main_call4_v33 : Ref sig .tc := ⟨.hbm, 1357, rfl⟩
abbrev main_v58 : Ref sig .tc := ⟨.hbm, 1358, rfl⟩
abbrev main_v59 : Ref sig .tc := ⟨.hbm, 1359, rfl⟩
abbrev main_v60 : Ref sig .tc := ⟨.hbm, 1360, rfl⟩
abbrev main_v61 : Ref sig .tc := ⟨.hbm, 1361, rfl⟩
abbrev main_v62 : Ref sig .tc := ⟨.hbm, 1362, rfl⟩
abbrev main_cst_21 : Ref sig .tc := ⟨.hbm, 1363, rfl⟩
abbrev main_v63 : Ref sig .tc := ⟨.hbm, 1364, rfl⟩
abbrev main_cst_22 : Ref sig .tc := ⟨.hbm, 1365, rfl⟩
abbrev main_v64 : Ref sig .tc := ⟨.hbm, 1366, rfl⟩
abbrev main_v65 : Ref sig .tc := ⟨.hbm, 1367, rfl⟩
abbrev main_cst_23 : Ref sig .tc := ⟨.hbm, 1368, rfl⟩
abbrev main_v66 : Ref sig .tc := ⟨.hbm, 1369, rfl⟩
abbrev main_cst_24 : Ref sig .tc := ⟨.hbm, 1370, rfl⟩
abbrev main_v67 : Ref sig .tc := ⟨.hbm, 1371, rfl⟩
abbrev main_v68 : Ref sig .tc := ⟨.hbm, 1372, rfl⟩
abbrev main_v69 : Ref sig .tc := ⟨.hbm, 1373, rfl⟩
abbrev main_v70 : Ref sig .tc := ⟨.hbm, 1374, rfl⟩
abbrev main_v71 : Ref sig .tc := ⟨.hbm, 1375, rfl⟩
abbrev main_c_25 : Ref sig .tc := ⟨.hbm, 1376, rfl⟩
abbrev main_c_26 : Ref sig .tc := ⟨.hbm, 1377, rfl⟩
abbrev main_v72_0 : Ref sig .tc := ⟨.hbm, 1378, rfl⟩
abbrev main_v72_1 : Ref sig .tc := ⟨.hbm, 1379, rfl⟩
abbrev main_v72_2 : Ref sig .tc := ⟨.hbm, 1380, rfl⟩
abbrev main_v72_3 : Ref sig .tc := ⟨.hbm, 1381, rfl⟩
abbrev main_v72_4 : Ref sig .tc := ⟨.hbm, 1382, rfl⟩
abbrev main_v72_5 : Ref sig .tc := ⟨.hbm, 1383, rfl⟩
abbrev main_v72_6 : Ref sig .tc := ⟨.hbm, 1384, rfl⟩
abbrev main_v72_7 : Ref sig .tc := ⟨.hbm, 1385, rfl⟩
abbrev main_v72_8 : Ref sig .tc := ⟨.hbm, 1386, rfl⟩
abbrev main_while0c_c_35 : Ref sig .tc := ⟨.hbm, 1387, rfl⟩
abbrev main_while0c_v73 : Ref sig .tc := ⟨.hbm, 1388, rfl⟩
abbrev main_while0b_c_35 : Ref sig .tc := ⟨.hbm, 1389, rfl⟩
abbrev main_while0b_v73 : Ref sig .tc := ⟨.hbm, 1390, rfl⟩
abbrev main_while0b_v74 : Ref sig .tc := ⟨.hbm, 1391, rfl⟩
abbrev main_while0b_v75 : Ref sig .tc := ⟨.hbm, 1392, rfl⟩
abbrev main_while0b_v76 : Ref sig .tc := ⟨.hbm, 1393, rfl⟩
abbrev main_while0b_v77 : Ref sig .tc := ⟨.hbm, 1394, rfl⟩
abbrev main_while0b_v78 : Ref sig .tc := ⟨.hbm, 1395, rfl⟩
abbrev main_while0b_v79 : Ref sig .tc := ⟨.hbm, 1396, rfl⟩
abbrev main_while0b_v80 : Ref sig .tc := ⟨.hbm, 1397, rfl⟩
abbrev main_while0b_v81 : Ref sig .tc := ⟨.hbm, 1398, rfl⟩
abbrev main_while0b_v82 : Ref sig .tc := ⟨.hbm, 1399, rfl⟩
abbrev main_while0b_c_36 : Ref sig .tc := ⟨.hbm, 1400, rfl⟩
abbrev main_while0b_v83 : Ref sig .tc := ⟨.hbm, 1401, rfl⟩
abbrev main_while0b_c_37 : Ref sig .tc := ⟨.hbm, 1402, rfl⟩
abbrev main_while0b_v84 : Ref sig .tc := ⟨.hbm, 1403, rfl⟩
abbrev main_while0b_v85 : Ref sig .tc := ⟨.hbm, 1404, rfl⟩
abbrev main_while0b_c_38 : Ref sig .tc := ⟨.hbm, 1405, rfl⟩
abbrev main_while0b_v86 : Ref sig .tc := ⟨.hbm, 1406, rfl⟩
abbrev main_while0b_v87 : Ref sig .tc := ⟨.hbm, 1407, rfl⟩
abbrev main_while0b_c_39 : Ref sig .tc := ⟨.hbm, 1408, rfl⟩
abbrev main_while0b_v88 : Ref sig .tc := ⟨.hbm, 1409, rfl⟩
abbrev main_while0b_v89 : Ref sig .tc := ⟨.hbm, 1410, rfl⟩
abbrev main_while0b_cst_40 : Ref sig .tc := ⟨.hbm, 1411, rfl⟩
abbrev main_while0b_cst_41 : Ref sig .tc := ⟨.hbm, 1412, rfl⟩
abbrev main_while0b_call7_v0 : Ref sig .tc := ⟨.hbm, 1413, rfl⟩
abbrev main_while0b_call7_v1 : Ref sig .tc := ⟨.hbm, 1414, rfl⟩
abbrev main_while0b_call7_v2 : Ref sig .tc := ⟨.hbm, 1415, rfl⟩
abbrev main_while0b_call7_v3 : Ref sig .tc := ⟨.hbm, 1416, rfl⟩
abbrev main_while0b_call7_v4 : Ref sig .tc := ⟨.hbm, 1417, rfl⟩
abbrev main_while0b_call7_v5 : Ref sig .tc := ⟨.hbm, 1418, rfl⟩
abbrev main_while0b_call7_v6 : Ref sig .tc := ⟨.hbm, 1419, rfl⟩
abbrev main_while0b_call7_v7 : Ref sig .tc := ⟨.hbm, 1420, rfl⟩
abbrev main_while0b_call7_v8 : Ref sig .tc := ⟨.hbm, 1421, rfl⟩
abbrev main_while0b_call7_v9 : Ref sig .tc := ⟨.hbm, 1422, rfl⟩
abbrev main_while0b_call7_c : Ref sig .tc := ⟨.hbm, 1423, rfl⟩
abbrev main_while0b_call7_v10 : Ref sig .tc := ⟨.hbm, 1424, rfl⟩
abbrev main_while0b_call7_v11 : Ref sig .tc := ⟨.hbm, 1425, rfl⟩
abbrev main_while0b_call7_c_0 : Ref sig .tc := ⟨.hbm, 1426, rfl⟩
abbrev main_while0b_call7_v12 : Ref sig .tc := ⟨.hbm, 1427, rfl⟩
abbrev main_while0b_call7_v13 : Ref sig .tc := ⟨.hbm, 1428, rfl⟩
abbrev main_while0b_call7_v14 : Ref sig .tc := ⟨.hbm, 1429, rfl⟩
abbrev main_while0b_call7_c_1 : Ref sig .tc := ⟨.hbm, 1430, rfl⟩
abbrev main_while0b_call7_v15 : Ref sig .tc := ⟨.hbm, 1431, rfl⟩
abbrev main_while0b_call7_v16 : Ref sig .tc := ⟨.hbm, 1432, rfl⟩
abbrev main_while0b_call7_v17 : Ref sig .tc := ⟨.hbm, 1433, rfl⟩
abbrev main_while0b_call7_v18 : Ref sig .tc := ⟨.hbm, 1434, rfl⟩
abbrev main_while0b_call7_call0_v0 : Ref sig .tc := ⟨.hbm, 1435, rfl⟩
abbrev main_while0b_call7_call0_c : Ref sig .tc := ⟨.hbm, 1436, rfl⟩
abbrev main_while0b_call7_call0_v1 : Ref sig .tc := ⟨.hbm, 1437, rfl⟩
abbrev main_while0b_call7_call0_v2 : Ref sig .tc := ⟨.hbm, 1438, rfl⟩
abbrev main_while0b_call7_call0_v3 : Ref sig .tc := ⟨.hbm, 1439, rfl⟩
abbrev main_while0b_call7_call0_v4 : Ref sig .tc := ⟨.hbm, 1440, rfl⟩
abbrev main_while0b_call7_call0_v5 : Ref sig .tc := ⟨.hbm, 1441, rfl⟩
abbrev main_while0b_call7_call0_v6 : Ref sig .tc := ⟨.hbm, 1442, rfl⟩
abbrev main_while0b_call7_call0_c_0 : Ref sig .tc := ⟨.hbm, 1443, rfl⟩
abbrev main_while0b_call7_call0_v7 : Ref sig .tc := ⟨.hbm, 1444, rfl⟩
abbrev main_while0b_call7_call0_v8 : Ref sig .tc := ⟨.hbm, 1445, rfl⟩
abbrev main_while0b_call7_call0_c_1 : Ref sig .tc := ⟨.hbm, 1446, rfl⟩
abbrev main_while0b_call7_call0_v9 : Ref sig .tc := ⟨.hbm, 1447, rfl⟩
abbrev main_while0b_call7_call0_v10 : Ref sig .tc := ⟨.hbm, 1448, rfl⟩
abbrev main_while0b_call7_call0_v11 : Ref sig .tc := ⟨.hbm, 1449, rfl⟩
abbrev main_while0b_call7_call0_v12 : Ref sig .tc := ⟨.hbm, 1450, rfl⟩
abbrev main_while0b_call7_call0_v13 : Ref sig .tc := ⟨.hbm, 1451, rfl⟩
abbrev main_while0b_call7_call0_c_2 : Ref sig .tc := ⟨.hbm, 1452, rfl⟩
abbrev main_while0b_call7_call0_v14 : Ref sig .tc := ⟨.hbm, 1453, rfl⟩
abbrev main_while0b_call7_call0_v15 : Ref sig .tc := ⟨.hbm, 1454, rfl⟩
abbrev main_while0b_call7_call0_c_3 : Ref sig .tc := ⟨.hbm, 1455, rfl⟩
abbrev main_while0b_call7_call0_v16 : Ref sig .tc := ⟨.hbm, 1456, rfl⟩
abbrev main_while0b_call7_call0_v17 : Ref sig .tc := ⟨.hbm, 1457, rfl⟩
abbrev main_while0b_call7_call0_v18 : Ref sig .tc := ⟨.hbm, 1458, rfl⟩
abbrev main_while0b_call7_call0_v19 : Ref sig .tc := ⟨.hbm, 1459, rfl⟩
abbrev main_while0b_call7_call0_v20 : Ref sig .tc := ⟨.hbm, 1460, rfl⟩
abbrev main_while0b_call7_call0_c_4 : Ref sig .tc := ⟨.hbm, 1461, rfl⟩
abbrev main_while0b_call7_call0_v21 : Ref sig .tc := ⟨.hbm, 1462, rfl⟩
abbrev main_while0b_call7_call0_v22 : Ref sig .tc := ⟨.hbm, 1463, rfl⟩
abbrev main_while0b_call7_call0_c_5 : Ref sig .tc := ⟨.hbm, 1464, rfl⟩
abbrev main_while0b_call7_call0_v23 : Ref sig .tc := ⟨.hbm, 1465, rfl⟩
abbrev main_while0b_call7_call0_v24 : Ref sig .tc := ⟨.hbm, 1466, rfl⟩
abbrev main_while0b_call7_call0_v25 : Ref sig .tc := ⟨.hbm, 1467, rfl⟩
abbrev main_while0b_call7_call0_v26 : Ref sig .tc := ⟨.hbm, 1468, rfl⟩
abbrev main_while0b_call7_call0_v27 : Ref sig .tc := ⟨.hbm, 1469, rfl⟩
abbrev main_while0b_call7_call0_c_6 : Ref sig .tc := ⟨.hbm, 1470, rfl⟩
abbrev main_while0b_call7_call0_v28 : Ref sig .tc := ⟨.hbm, 1471, rfl⟩
abbrev main_while0b_call7_call0_v29 : Ref sig .tc := ⟨.hbm, 1472, rfl⟩
abbrev main_while0b_call7_call0_c_7 : Ref sig .tc := ⟨.hbm, 1473, rfl⟩
abbrev main_while0b_call7_call0_v30 : Ref sig .tc := ⟨.hbm, 1474, rfl⟩
abbrev main_while0b_call7_call0_v31 : Ref sig .tc := ⟨.hbm, 1475, rfl⟩
abbrev main_while0b_call7_call0_v32 : Ref sig .tc := ⟨.hbm, 1476, rfl⟩
abbrev main_while0b_call7_call0_v33 : Ref sig .tc := ⟨.hbm, 1477, rfl⟩
abbrev main_while0b_call7_call0_v34 : Ref sig .tc := ⟨.hbm, 1478, rfl⟩
abbrev main_while0b_call7_call0_v35 : Ref sig .tc := ⟨.hbm, 1479, rfl⟩
abbrev main_while0b_call7_call0_v36 : Ref sig .tc := ⟨.hbm, 1480, rfl⟩
abbrev main_while0b_call7_call0_v37 : Ref sig .tc := ⟨.hbm, 1481, rfl⟩
abbrev main_while0b_call7_call0_c_8 : Ref sig .tc := ⟨.hbm, 1482, rfl⟩
abbrev main_while0b_call7_call0_v38 : Ref sig .tc := ⟨.hbm, 1483, rfl⟩
abbrev main_while0b_call7_call0_v39 : Ref sig .tc := ⟨.hbm, 1484, rfl⟩
abbrev main_while0b_call7_call0_v40 : Ref sig .tc := ⟨.hbm, 1485, rfl⟩
abbrev main_while0b_call7_call0_c_9 : Ref sig .tc := ⟨.hbm, 1486, rfl⟩
abbrev main_while0b_call7_call0_v41 : Ref sig .tc := ⟨.hbm, 1487, rfl⟩
abbrev main_while0b_call7_call0_v42 : Ref sig .tc := ⟨.hbm, 1488, rfl⟩
abbrev main_while0b_call7_call0_c_10 : Ref sig .tc := ⟨.hbm, 1489, rfl⟩
abbrev main_while0b_call7_call0_v43 : Ref sig .tc := ⟨.hbm, 1490, rfl⟩
abbrev main_while0b_call7_call0_v44 : Ref sig .tc := ⟨.hbm, 1491, rfl⟩
abbrev main_while0b_call7_call0_v45 : Ref sig .tc := ⟨.hbm, 1492, rfl⟩
abbrev main_while0b_call7_call0_v46 : Ref sig .tc := ⟨.hbm, 1493, rfl⟩
abbrev main_while0b_call7_call0_v47 : Ref sig .tc := ⟨.hbm, 1494, rfl⟩
abbrev main_while0b_call7_call0_c_11 : Ref sig .tc := ⟨.hbm, 1495, rfl⟩
abbrev main_while0b_call7_call0_v48 : Ref sig .tc := ⟨.hbm, 1496, rfl⟩
abbrev main_while0b_call7_call0_v49 : Ref sig .tc := ⟨.hbm, 1497, rfl⟩
abbrev main_while0b_call7_call0_c_12 : Ref sig .tc := ⟨.hbm, 1498, rfl⟩
abbrev main_while0b_call7_call0_v50 : Ref sig .tc := ⟨.hbm, 1499, rfl⟩
abbrev main_while0b_call7_call0_v51 : Ref sig .tc := ⟨.hbm, 1500, rfl⟩
abbrev main_while0b_call7_call0_v52 : Ref sig .tc := ⟨.hbm, 1501, rfl⟩
abbrev main_while0b_call7_call0_v53 : Ref sig .tc := ⟨.hbm, 1502, rfl⟩
abbrev main_while0b_call7_call0_v54 : Ref sig .tc := ⟨.hbm, 1503, rfl⟩
abbrev main_while0b_call7_call0_c_13 : Ref sig .tc := ⟨.hbm, 1504, rfl⟩
abbrev main_while0b_call7_call0_v55 : Ref sig .tc := ⟨.hbm, 1505, rfl⟩
abbrev main_while0b_call7_call0_v56 : Ref sig .tc := ⟨.hbm, 1506, rfl⟩
abbrev main_while0b_call7_call0_c_14 : Ref sig .tc := ⟨.hbm, 1507, rfl⟩
abbrev main_while0b_call7_call0_v57 : Ref sig .tc := ⟨.hbm, 1508, rfl⟩
abbrev main_while0b_call7_call0_v58 : Ref sig .tc := ⟨.hbm, 1509, rfl⟩
abbrev main_while0b_call7_call0_v59 : Ref sig .tc := ⟨.hbm, 1510, rfl⟩
abbrev main_while0b_call7_call0_v60 : Ref sig .tc := ⟨.hbm, 1511, rfl⟩
abbrev main_while0b_call7_call0_v61 : Ref sig .tc := ⟨.hbm, 1512, rfl⟩
abbrev main_while0b_call7_call0_c_15 : Ref sig .tc := ⟨.hbm, 1513, rfl⟩
abbrev main_while0b_call7_call0_v62 : Ref sig .tc := ⟨.hbm, 1514, rfl⟩
abbrev main_while0b_call7_call0_v63 : Ref sig .tc := ⟨.hbm, 1515, rfl⟩
abbrev main_while0b_call7_call0_c_16 : Ref sig .tc := ⟨.hbm, 1516, rfl⟩
abbrev main_while0b_call7_call0_v64 : Ref sig .tc := ⟨.hbm, 1517, rfl⟩
abbrev main_while0b_call7_call0_v65 : Ref sig .tc := ⟨.hbm, 1518, rfl⟩
abbrev main_while0b_call7_call0_v66 : Ref sig .tc := ⟨.hbm, 1519, rfl⟩
abbrev main_while0b_call7_call0_v67 : Ref sig .tc := ⟨.hbm, 1520, rfl⟩
abbrev main_while0b_call7_call0_v68 : Ref sig .tc := ⟨.hbm, 1521, rfl⟩
abbrev main_while0b_call7_call0_v69 : Ref sig .tc := ⟨.hbm, 1522, rfl⟩
abbrev main_while0b_call7_call0_v70 : Ref sig .tc := ⟨.hbm, 1523, rfl⟩
abbrev main_while0b_call7_call0_v71 : Ref sig .tc := ⟨.hbm, 1524, rfl⟩
abbrev main_while0b_call7_call0_c_17 : Ref sig .tc := ⟨.hbm, 1525, rfl⟩
abbrev main_while0b_call7_call0_v72 : Ref sig .tc := ⟨.hbm, 1526, rfl⟩
abbrev main_while0b_call7_call0_v73 : Ref sig .tc := ⟨.hbm, 1527, rfl⟩
abbrev main_while0b_call7_call0_v74 : Ref sig .tc := ⟨.hbm, 1528, rfl⟩
abbrev main_while0b_call7_call0_c_18 : Ref sig .tc := ⟨.hbm, 1529, rfl⟩
abbrev main_while0b_call7_call0_v75 : Ref sig .tc := ⟨.hbm, 1530, rfl⟩
abbrev main_while0b_call7_call0_v76 : Ref sig .tc := ⟨.hbm, 1531, rfl⟩
abbrev main_while0b_call7_call0_c_19 : Ref sig .tc := ⟨.hbm, 1532, rfl⟩
abbrev main_while0b_call7_call0_v77 : Ref sig .tc := ⟨.hbm, 1533, rfl⟩
abbrev main_while0b_call7_call0_v78 : Ref sig .tc := ⟨.hbm, 1534, rfl⟩
abbrev main_while0b_call7_call0_v79 : Ref sig .tc := ⟨.hbm, 1535, rfl⟩
abbrev main_while0b_call7_call0_v80 : Ref sig .tc := ⟨.hbm, 1536, rfl⟩
abbrev main_while0b_call7_call0_v81 : Ref sig .tc := ⟨.hbm, 1537, rfl⟩
abbrev main_while0b_call7_call0_c_20 : Ref sig .tc := ⟨.hbm, 1538, rfl⟩
abbrev main_while0b_call7_call0_v82 : Ref sig .tc := ⟨.hbm, 1539, rfl⟩
abbrev main_while0b_call7_call0_v83 : Ref sig .tc := ⟨.hbm, 1540, rfl⟩
abbrev main_while0b_call7_call0_c_21 : Ref sig .tc := ⟨.hbm, 1541, rfl⟩
abbrev main_while0b_call7_call0_v84 : Ref sig .tc := ⟨.hbm, 1542, rfl⟩
abbrev main_while0b_call7_call0_v85 : Ref sig .tc := ⟨.hbm, 1543, rfl⟩
abbrev main_while0b_call7_call0_v86 : Ref sig .tc := ⟨.hbm, 1544, rfl⟩
abbrev main_while0b_call7_call0_v87 : Ref sig .tc := ⟨.hbm, 1545, rfl⟩
abbrev main_while0b_call7_call0_v88 : Ref sig .tc := ⟨.hbm, 1546, rfl⟩
abbrev main_while0b_call7_call0_c_22 : Ref sig .tc := ⟨.hbm, 1547, rfl⟩
abbrev main_while0b_call7_call0_v89 : Ref sig .tc := ⟨.hbm, 1548, rfl⟩
abbrev main_while0b_call7_call0_v90 : Ref sig .tc := ⟨.hbm, 1549, rfl⟩
abbrev main_while0b_call7_call0_c_23 : Ref sig .tc := ⟨.hbm, 1550, rfl⟩
abbrev main_while0b_call7_call0_v91 : Ref sig .tc := ⟨.hbm, 1551, rfl⟩
abbrev main_while0b_call7_call0_v92 : Ref sig .tc := ⟨.hbm, 1552, rfl⟩
abbrev main_while0b_call7_call0_v93 : Ref sig .tc := ⟨.hbm, 1553, rfl⟩
abbrev main_while0b_call7_call0_v94 : Ref sig .tc := ⟨.hbm, 1554, rfl⟩
abbrev main_while0b_call7_call0_v95 : Ref sig .tc := ⟨.hbm, 1555, rfl⟩
abbrev main_while0b_call7_call0_c_24 : Ref sig .tc := ⟨.hbm, 1556, rfl⟩
abbrev main_while0b_call7_call0_v96 : Ref sig .tc := ⟨.hbm, 1557, rfl⟩
abbrev main_while0b_call7_call0_v97 : Ref sig .tc := ⟨.hbm, 1558, rfl⟩
abbrev main_while0b_call7_call0_c_25 : Ref sig .tc := ⟨.hbm, 1559, rfl⟩
abbrev main_while0b_call7_call0_v98 : Ref sig .tc := ⟨.hbm, 1560, rfl⟩
abbrev main_while0b_call7_call0_v99 : Ref sig .tc := ⟨.hbm, 1561, rfl⟩
abbrev main_while0b_call7_call0_v100 : Ref sig .tc := ⟨.hbm, 1562, rfl⟩
abbrev main_while0b_call7_call0_v101 : Ref sig .tc := ⟨.hbm, 1563, rfl⟩
abbrev main_while0b_call7_call0_v102 : Ref sig .tc := ⟨.hbm, 1564, rfl⟩
abbrev main_while0b_call7_call0_v103 : Ref sig .tc := ⟨.hbm, 1565, rfl⟩
abbrev main_while0b_call7_call0_v104 : Ref sig .tc := ⟨.hbm, 1566, rfl⟩
abbrev main_while0b_call7_call0_v105 : Ref sig .tc := ⟨.hbm, 1567, rfl⟩
abbrev main_while0b_call7_call0_c_26 : Ref sig .tc := ⟨.hbm, 1568, rfl⟩
abbrev main_while0b_call7_call0_v106 : Ref sig .tc := ⟨.hbm, 1569, rfl⟩
abbrev main_while0b_call7_call0_v107 : Ref sig .tc := ⟨.hbm, 1570, rfl⟩
abbrev main_while0b_call7_call0_v108 : Ref sig .tc := ⟨.hbm, 1571, rfl⟩
abbrev main_while0b_call7_call0_c_27 : Ref sig .tc := ⟨.hbm, 1572, rfl⟩
abbrev main_while0b_call7_call0_v109 : Ref sig .tc := ⟨.hbm, 1573, rfl⟩
abbrev main_while0b_call7_call0_v110 : Ref sig .tc := ⟨.hbm, 1574, rfl⟩
abbrev main_while0b_call7_call0_c_28 : Ref sig .tc := ⟨.hbm, 1575, rfl⟩
abbrev main_while0b_call7_call0_v111 : Ref sig .tc := ⟨.hbm, 1576, rfl⟩
abbrev main_while0b_call7_call0_v112 : Ref sig .tc := ⟨.hbm, 1577, rfl⟩
abbrev main_while0b_call7_call0_v113 : Ref sig .tc := ⟨.hbm, 1578, rfl⟩
abbrev main_while0b_call7_call0_v114 : Ref sig .tc := ⟨.hbm, 1579, rfl⟩
abbrev main_while0b_call7_call0_v115 : Ref sig .tc := ⟨.hbm, 1580, rfl⟩
abbrev main_while0b_call7_call0_c_29 : Ref sig .tc := ⟨.hbm, 1581, rfl⟩
abbrev main_while0b_call7_call0_v116 : Ref sig .tc := ⟨.hbm, 1582, rfl⟩
abbrev main_while0b_call7_call0_v117 : Ref sig .tc := ⟨.hbm, 1583, rfl⟩
abbrev main_while0b_call7_call0_c_30 : Ref sig .tc := ⟨.hbm, 1584, rfl⟩
abbrev main_while0b_call7_call0_v118 : Ref sig .tc := ⟨.hbm, 1585, rfl⟩
abbrev main_while0b_call7_call0_v119 : Ref sig .tc := ⟨.hbm, 1586, rfl⟩
abbrev main_while0b_call7_call0_v120 : Ref sig .tc := ⟨.hbm, 1587, rfl⟩
abbrev main_while0b_call7_call0_v121 : Ref sig .tc := ⟨.hbm, 1588, rfl⟩
abbrev main_while0b_call7_call0_v122 : Ref sig .tc := ⟨.hbm, 1589, rfl⟩
abbrev main_while0b_call7_call0_c_31 : Ref sig .tc := ⟨.hbm, 1590, rfl⟩
abbrev main_while0b_call7_call0_v123 : Ref sig .tc := ⟨.hbm, 1591, rfl⟩
abbrev main_while0b_call7_call0_v124 : Ref sig .tc := ⟨.hbm, 1592, rfl⟩
abbrev main_while0b_call7_call0_c_32 : Ref sig .tc := ⟨.hbm, 1593, rfl⟩
abbrev main_while0b_call7_call0_v125 : Ref sig .tc := ⟨.hbm, 1594, rfl⟩
abbrev main_while0b_call7_call0_v126 : Ref sig .tc := ⟨.hbm, 1595, rfl⟩
abbrev main_while0b_call7_call0_v127 : Ref sig .tc := ⟨.hbm, 1596, rfl⟩
abbrev main_while0b_call7_call0_v128 : Ref sig .tc := ⟨.hbm, 1597, rfl⟩
abbrev main_while0b_call7_call0_v129 : Ref sig .tc := ⟨.hbm, 1598, rfl⟩
abbrev main_while0b_call7_call0_c_33 : Ref sig .tc := ⟨.hbm, 1599, rfl⟩
abbrev main_while0b_call7_call0_v130 : Ref sig .tc := ⟨.hbm, 1600, rfl⟩
abbrev main_while0b_call7_call0_v131 : Ref sig .tc := ⟨.hbm, 1601, rfl⟩
abbrev main_while0b_call7_call0_c_34 : Ref sig .tc := ⟨.hbm, 1602, rfl⟩
abbrev main_while0b_call7_call0_v132 : Ref sig .tc := ⟨.hbm, 1603, rfl⟩
abbrev main_while0b_call7_call0_v133 : Ref sig .tc := ⟨.hbm, 1604, rfl⟩
abbrev main_while0b_call7_call0_v134 : Ref sig .tc := ⟨.hbm, 1605, rfl⟩
abbrev main_while0b_call7_call0_v135 : Ref sig .tc := ⟨.hbm, 1606, rfl⟩
abbrev main_while0b_call7_call0_v136 : Ref sig .tc := ⟨.hbm, 1607, rfl⟩
abbrev main_while0b_call7_call0_v137 : Ref sig .tc := ⟨.hbm, 1608, rfl⟩
abbrev main_while0b_call7_call0_v138 : Ref sig .tc := ⟨.hbm, 1609, rfl⟩
abbrev main_while0b_call7_call0_v139 : Ref sig .tc := ⟨.hbm, 1610, rfl⟩
abbrev main_while0b_call7_call0_c_35 : Ref sig .tc := ⟨.hbm, 1611, rfl⟩
abbrev main_while0b_call7_call0_v140 : Ref sig .tc := ⟨.hbm, 1612, rfl⟩
abbrev main_while0b_call7_call0_v141 : Ref sig .tc := ⟨.hbm, 1613, rfl⟩
abbrev main_while0b_call7_call0_v142 : Ref sig .tc := ⟨.hbm, 1614, rfl⟩
abbrev main_while0b_call7_call0_c_36 : Ref sig .tc := ⟨.hbm, 1615, rfl⟩
abbrev main_while0b_call7_call0_v143 : Ref sig .tc := ⟨.hbm, 1616, rfl⟩
abbrev main_while0b_call7_call0_v144 : Ref sig .tc := ⟨.hbm, 1617, rfl⟩
abbrev main_while0b_call7_call0_c_37 : Ref sig .tc := ⟨.hbm, 1618, rfl⟩
abbrev main_while0b_call7_call0_v145 : Ref sig .tc := ⟨.hbm, 1619, rfl⟩
abbrev main_while0b_call7_call0_v146 : Ref sig .tc := ⟨.hbm, 1620, rfl⟩
abbrev main_while0b_call7_call0_v147 : Ref sig .tc := ⟨.hbm, 1621, rfl⟩
abbrev main_while0b_call7_call0_v148 : Ref sig .tc := ⟨.hbm, 1622, rfl⟩
abbrev main_while0b_call7_call0_v149 : Ref sig .tc := ⟨.hbm, 1623, rfl⟩
abbrev main_while0b_call7_call0_c_38 : Ref sig .tc := ⟨.hbm, 1624, rfl⟩
abbrev main_while0b_call7_call0_v150 : Ref sig .tc := ⟨.hbm, 1625, rfl⟩
abbrev main_while0b_call7_call0_v151 : Ref sig .tc := ⟨.hbm, 1626, rfl⟩
abbrev main_while0b_call7_call0_c_39 : Ref sig .tc := ⟨.hbm, 1627, rfl⟩
abbrev main_while0b_call7_call0_v152 : Ref sig .tc := ⟨.hbm, 1628, rfl⟩
abbrev main_while0b_call7_call0_v153 : Ref sig .tc := ⟨.hbm, 1629, rfl⟩
abbrev main_while0b_call7_call0_v154 : Ref sig .tc := ⟨.hbm, 1630, rfl⟩
abbrev main_while0b_call7_call0_v155 : Ref sig .tc := ⟨.hbm, 1631, rfl⟩
abbrev main_while0b_call7_call0_v156 : Ref sig .tc := ⟨.hbm, 1632, rfl⟩
abbrev main_while0b_call7_call0_c_40 : Ref sig .tc := ⟨.hbm, 1633, rfl⟩
abbrev main_while0b_call7_call0_v157 : Ref sig .tc := ⟨.hbm, 1634, rfl⟩
abbrev main_while0b_call7_call0_v158 : Ref sig .tc := ⟨.hbm, 1635, rfl⟩
abbrev main_while0b_call7_call0_c_41 : Ref sig .tc := ⟨.hbm, 1636, rfl⟩
abbrev main_while0b_call7_call0_v159 : Ref sig .tc := ⟨.hbm, 1637, rfl⟩
abbrev main_while0b_call7_call0_v160 : Ref sig .tc := ⟨.hbm, 1638, rfl⟩
abbrev main_while0b_call7_call0_v161 : Ref sig .tc := ⟨.hbm, 1639, rfl⟩
abbrev main_while0b_call7_call0_v162 : Ref sig .tc := ⟨.hbm, 1640, rfl⟩
abbrev main_while0b_call7_call0_v163 : Ref sig .tc := ⟨.hbm, 1641, rfl⟩
abbrev main_while0b_call7_call0_c_42 : Ref sig .tc := ⟨.hbm, 1642, rfl⟩
abbrev main_while0b_call7_call0_v164 : Ref sig .tc := ⟨.hbm, 1643, rfl⟩
abbrev main_while0b_call7_call0_v165 : Ref sig .tc := ⟨.hbm, 1644, rfl⟩
abbrev main_while0b_call7_call0_c_43 : Ref sig .tc := ⟨.hbm, 1645, rfl⟩
abbrev main_while0b_call7_call0_v166 : Ref sig .tc := ⟨.hbm, 1646, rfl⟩
abbrev main_while0b_call7_call0_v167 : Ref sig .tc := ⟨.hbm, 1647, rfl⟩
abbrev main_while0b_call7_call0_v168 : Ref sig .tc := ⟨.hbm, 1648, rfl⟩
abbrev main_while0b_call7_call0_v169 : Ref sig .tc := ⟨.hbm, 1649, rfl⟩
abbrev main_while0b_call7_call0_v170 : Ref sig .tc := ⟨.hbm, 1650, rfl⟩
abbrev main_while0b_call7_v19_0 : Ref sig .tc := ⟨.hbm, 1651, rfl⟩
abbrev main_while0b_call7_call0_v172 : Ref sig .tc := ⟨.hbm, 1652, rfl⟩
abbrev main_while0b_call7_call0_v173 : Ref sig .tc := ⟨.hbm, 1653, rfl⟩
abbrev main_while0b_call7_call0_c_44 : Ref sig .tc := ⟨.hbm, 1654, rfl⟩
abbrev main_while0b_call7_call0_v174 : Ref sig .tc := ⟨.hbm, 1655, rfl⟩
abbrev main_while0b_call7_v19_1 : Ref sig .tc := ⟨.hbm, 1656, rfl⟩
abbrev main_while0b_call7_v20 : Ref sig .tc := ⟨.hbm, 1657, rfl⟩
abbrev main_while0b_call7_c_2 : Ref sig .tc := ⟨.hbm, 1658, rfl⟩
abbrev main_while0b_call7_v21 : Ref sig .tc := ⟨.hbm, 1659, rfl⟩
abbrev main_while0b_call7_v22 : Ref sig .tc := ⟨.hbm, 1660, rfl⟩
abbrev main_while0b_call7_c_3 : Ref sig .tc := ⟨.hbm, 1661, rfl⟩
abbrev main_while0b_call7_v23 : Ref sig .tc := ⟨.hbm, 1662, rfl⟩
abbrev main_while0b_call7_v24 : Ref sig .tc := ⟨.hbm, 1663, rfl⟩
abbrev main_while0b_call7_v25 : Ref sig .tc := ⟨.hbm, 1664, rfl⟩
abbrev main_while0b_call7_cst : Ref sig .tc := ⟨.hbm, 1665, rfl⟩
abbrev main_while0b_call7_v26 : Ref sig .tc := ⟨.hbm, 1666, rfl⟩
abbrev main_while0b_call7_v27 : Ref sig .tc := ⟨.hbm, 1667, rfl⟩
abbrev main_while0b_call7_v28 : Ref sig .tc := ⟨.hbm, 1668, rfl⟩
abbrev main_while0b_call7_v29 : Ref sig .tc := ⟨.hbm, 1669, rfl⟩
abbrev main_while0b_call7_v30 : Ref sig .tc := ⟨.hbm, 1670, rfl⟩
abbrev main_while0b_call7_v31 : Ref sig .tc := ⟨.hbm, 1671, rfl⟩
abbrev main_while0b_call7_v32 : Ref sig .tc := ⟨.hbm, 1672, rfl⟩
abbrev main_while0b_call7_v33 : Ref sig .tc := ⟨.hbm, 1673, rfl⟩
abbrev main_while0b_v90 : Ref sig .tc := ⟨.hbm, 1674, rfl⟩
abbrev main_while0b_v91 : Ref sig .tc := ⟨.hbm, 1675, rfl⟩
abbrev main_while0b_v92 : Ref sig .tc := ⟨.hbm, 1676, rfl⟩
abbrev main_while0b_v93 : Ref sig .tc := ⟨.hbm, 1677, rfl⟩
abbrev main_while0b_call8_v0 : Ref sig .tc := ⟨.hbm, 1678, rfl⟩
abbrev main_while0b_v94 : Ref sig .tc := ⟨.hbm, 1679, rfl⟩
abbrev main_while0b_v95 : Ref sig .tc := ⟨.hbm, 1680, rfl⟩
abbrev main_while0b_cst_42 : Ref sig .tc := ⟨.hbm, 1681, rfl⟩
abbrev main_while0b_v96 : Ref sig .tc := ⟨.hbm, 1682, rfl⟩
abbrev main_while0b_cst_43 : Ref sig .tc := ⟨.hbm, 1683, rfl⟩
abbrev main_while0b_v97 : Ref sig .tc := ⟨.hbm, 1684, rfl⟩
abbrev main_while0b_v98 : Ref sig .tc := ⟨.hbm, 1685, rfl⟩
abbrev main_while0b_cst_44 : Ref sig .tc := ⟨.hbm, 1686, rfl⟩
abbrev main_while0b_v99 : Ref sig .tc := ⟨.hbm, 1687, rfl⟩
abbrev main_while0b_cst_45 : Ref sig .tc := ⟨.hbm, 1688, rfl⟩
abbrev main_while0b_v100 : Ref sig .tc := ⟨.hbm, 1689, rfl⟩
abbrev main_while0b_v101 : Ref sig .tc := ⟨.hbm, 1690, rfl⟩
abbrev main_while0b_v102 : Ref sig .tc := ⟨.hbm, 1691, rfl⟩
abbrev main_while0b_v103 : Ref sig .tc := ⟨.hbm, 1692, rfl⟩
abbrev main_while0b_v104 : Ref sig .tc := ⟨.hbm, 1693, rfl⟩
abbrev main_while0b_v105 : Ref sig .tc := ⟨.hbm, 1694, rfl⟩
abbrev main_while0b_c_46 : Ref sig .tc := ⟨.hbm, 1695, rfl⟩
abbrev main_while0b_v106 : Ref sig .tc := ⟨.hbm, 1696, rfl⟩

abbrev nD : Nat := 1
abbrev τ : Topo := Topo.v7x

variable {F : FTy → Type} [FloatOps F]

abbrev main_while0_count : Scf.Loop 32 := ⟨0#32, 50#32, 1#32⟩
-- ==== Proof.Own.lean ====
/- Loads from and stores to a memref whose contents are known as an array. -/
module

public import Idealize.ShloMosaic.Lib.Pipeline.FrameBody

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels} [Preorder Lvl]
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at the head of a program. -/
theorem wp_get {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (m := m) (m.view.setOn_subset_set _)) $$ H
  iintro H
  iapply Hk
  iexists f
  isplitr; · ipureintro; rfl
  iexact H

/-- A store at the head of a program. -/
theorem wp_put {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (S := m.view.set) ((View.setOn_subset_set _ _).trans (m.view.set_slice_subset r))) $$ H
  iintro H
  iapply Hk
  iexists _
  isplitr; swap
  · iexact H
  ipureintro
  funext y
  by_cases hy : y ∈ r.set
  · obtain ⟨x, rfl⟩ := r.exists_idx_of_mem hy
    exact (View.read_slice_write_emb r f w (Finset.mem_univ x)).trans (r.overlay_emb _ _ x).symm
  · rw [r.overlay_of_not_mem _ _ hy]
    exact View.read_slice_write_of_not_mem r f w _ (by rwa [Rect.map_emb_univ])

end Cert.Own

end
-- ==== Proof.Core.lean ====
/- The counter-based generator and the uniform draw that the kernels use, as operations on whole arrays of words. -/
module

public import Idealize.ShloMosaic.Lib.Pipeline
public import Idealize.ShloMosaic.Lib.Pointwise

@[expose] public section

noncomputable section

namespace Cert.Core

open Idealize.ShloMosaic

variable {F : FTy → Type} [FloatOps F] {s : Shape}

/-- Rotation left by `r` places, `q` being `32 - r`. -/
def rot (r q : BitVec 32) (x : IVec s 32) : IVec s 32 :=
  ori (shli x (broadcast s r)) (shrui x (broadcast s q))

/-- The first word after one round. -/
def rndL (x y : IVec s 32) : IVec s 32 := addi x y
/-- The second word after one round. -/
def rndR (r q : BitVec 32) (x y : IVec s 32) : IVec s 32 := xori (addi x y) (rot r q y)

/-- One round on a pair of words. -/
def rnd (r q : BitVec 32) (p : IVec s 32 × IVec s 32) : IVec s 32 × IVec s 32 :=
  (rndL p.1 p.2, rndR r q p.1 p.2)

/-- The four rounds of the first kind. -/
def grpA (p : IVec s 32 × IVec s 32) : IVec s 32 × IVec s 32 :=
  rnd 6#32 26#32 (rnd 26#32 6#32 (rnd 15#32 17#32 (rnd 13#32 19#32 p)))

/-- The four rounds of the second kind. -/
def grpB (p : IVec s 32 × IVec s 32) : IVec s 32 × IVec s 32 :=
  rnd 24#32 8#32 (rnd 16#32 16#32 (rnd 29#32 3#32 (rnd 17#32 15#32 p)))

/-- The key injected after four rounds. -/
def inj (a b c : BitVec 32) (p : IVec s 32 × IVec s 32) : IVec s 32 × IVec s 32 :=
  (addi p.1 (broadcast s a), addi (addi p.2 (broadcast s b)) (broadcast s c))

/-- The third key word. -/
def key3 (k0 k1 : BitVec 32) : BitVec 32 := Scalar.xori (Scalar.xori k0 k1) 466688986#32

/-- The generator at the counters `(0, idx)`. -/
def tf (k0 k1 : BitVec 32) (idx : IVec s 32) : IVec s 32 × IVec s 32 :=
  inj (key3 k0 k1) k0 5#32 (grpA (inj k1 (key3 k0 k1) 4#32 (grpB (inj k0 k1 3#32 (grpA
    (inj (key3 k0 k1) k0 2#32 (grpB (inj k1 (key3 k0 k1) 1#32 (grpA
      (addi (broadcast s 0#32) (broadcast s k0), addi idx (broadcast s k1)))))))))))

/-- A uniform draw of `[0, 1)` per counter. -/
def unif (k0 k1 : BitVec 32) (idx : IVec s 32) : FVec F s .f32 :=
  subf (bitcastToFloat .f32 (ori (shrui (xori (tf k0 k1 idx).1 (tf k0 k1 idx).2) (broadcast s 9#32)) (broadcast s 1065353216#32)))
    (broadcast s (Scalar.ofBits .f32 0x3F800000#32))

end Cert.Core

end
-- ==== Proof.KI.Step.lean ====
/- The two kernels' bodies as short programs: their loads and stores in order, around whole-array steps. -/
module

public import proofs.«01_k».proof.Proof.Core
public import proofs.«01_k».proof.Proof.Gen.KernelIdeal
public import Idealize.ShloMosaic.Lib.Tactic

@[expose] public section

set_option maxRecDepth 65536

noncomputable section

namespace Cert.KernelIdeal.Sl

open Idealize.ShloMosaic Idealize.SL.Sem Cert.KernelIdeal Cert.Core Cert.KernelIdeal.Gen

variable {F : FTy → Type} [FloatOps F]

/-- Minus half of each row's sum of squares. -/
def pot (x : FVec F S1024x128 .f32) : FVec F S1024x1 .f32 :=
  mulf (broadcast S1024x1 (Scalar.ofBits .f32 0xBF000000#32))
    (shapeCast S1024x1 (multiReduction .add [1] S1024 (mulf x x) 0x00000000#32 reduces_S1024x128_S1024 (.inl rfl) rfl) shapeCasts_S1024_S1024x1)

/-- The numbers of the rows of block `i`. -/
def rowIds (i : grid0.Coords) : IVec S1024x1 32 :=
  addi (broadcast S1024x1 (Scalar.muli 1024#32 (BitVec.ofNat 32 (i 0).val))) (iota .tc S1024x1 32 [0] iota_S1024x1_d0_w32)

/-- The numbers of the elements of the rows `r`. -/
def flatIds (r : IVec S1024x1 32) : IVec S1024x128 32 :=
  addi (broadcastTo S1024x128 (muli r (broadcast S1024x1 128#32)) broadcasts_S1024x1_S1024x128) (iota .tc S1024x128 32 [1] iota_S1024x128_d1_w32)

/-- The slice level of each row. -/
def lev (k0 k1 : BitVec 32) (r : IVec S1024x1 32) (x : FVec F S1024x128 .f32) : FVec F S1024x1 .f32 :=
  addf (log (subf (broadcast S1024x1 (Scalar.ofBits .f32 0x3F800000#32)) (unif k0 k1 r))) (pot x)

/-- The exponential width of each element's interval. -/
def wid (k0 k1 : BitVec 32) (e : IVec S1024x128 32) : FVec F S1024x128 .f32 :=
  divf (log (subf (broadcast S1024x128 (Scalar.ofBits .f32 0x3F800000#32)) (unif k0 k1 e))) (broadcast S1024x128 (Scalar.ofBits .f32 0xBDCCCCCD#32))

/-- The left end of the first interval. -/
def lo (w x : FVec F S1024x128 .f32) : FVec F S1024x128 .f32 :=
  subf x (divf w (broadcast S1024x128 (Scalar.ofBits .f32 0x40000000#32)))
/-- The right end of the first interval. -/
def hi (w x : FVec F S1024x128 .f32) : FVec F S1024x128 .f32 :=
  addf x (divf w (broadcast S1024x128 (Scalar.ofBits .f32 0x40000000#32)))

/-- A draw `u` scaled to the interval `(a, b)`. -/
def draw (u a b : FVec F S1024x128 .f32) : FVec F S1024x128 .f32 := addf (mulf u (subf b a)) a

/-- A sampler's state: interval ends, proposal and the flag of each row still to be drawn again. -/
structure St (F : FTy → Type) where
  a : FVec F S1024x128 .f32
  b : FVec F S1024x128 .f32
  z : FVec F S1024x128 .f32
  r : FVec F S1024x1 .f32

/-- A row's flag as a number. -/
def flag (c : IVec S1024x1 1) : FVec F S1024x1 .f32 :=
  select c (broadcast S1024x1 (Scalar.ofBits .f32 0x3F800000#32)) (broadcast S1024x1 (Scalar.ofBits .f32 0x00000000#32))

/-- The state before the first trip. -/
def ini (w u x : FVec F S1024x128 .f32) (y : FVec F S1024x1 .f32) : St F where
  a := lo w x
  b := hi w x
  z := draw u (lo w x) (hi w x)
  r := flag (cmpf .olt (pot (draw u (lo w x) (hi w x))) y)

/-- The rows to be drawn again, from their flags. -/
def again (r : FVec F S1024x1 .f32) : IVec S1024x1 1 := cmpf .ogt r (broadcast S1024x1 (Scalar.ofBits .f32 0x00000000#32))

/-- The left end after a trip. -/
def nxA (x : FVec F S1024x128 .f32) (t : St F) : FVec F S1024x128 .f32 :=
  select (andi (broadcastTo S1024x128 (again t.r) broadcasts_S1024x1_S1024x128) (cmpf .olt t.z x)) t.z t.a
/-- The right end after a trip. -/
def nxB (x : FVec F S1024x128 .f32) (t : St F) : FVec F S1024x128 .f32 :=
  select (andi (broadcastTo S1024x128 (again t.r) broadcasts_S1024x1_S1024x128) (xori (cmpf .olt t.z x) (constantI S1024x128 1 1#1))) t.z t.b
/-- The proposal after a trip. -/
def nxZ (u x : FVec F S1024x128 .f32) (t : St F) : FVec F S1024x128 .f32 :=
  select (broadcastTo S1024x128 (shapeCast S1024x1 (again t.r) shapeCasts_S1024x1_S1024x1) broadcasts_S1024x1_S1024x128)
    (draw u (nxA x t) (nxB x t)) t.z

/-- One trip. -/
def nxt (u x : FVec F S1024x128 .f32) (y : FVec F S1024x1 .f32) (t : St F) : St F where
  a := nxA x t
  b := nxB x t
  z := nxZ u x t
  r := flag (andi (again t.r) (cmpf .olt (pot (nxZ u x t)) y))

/-- A load of one word of the key table. -/
def key (arg1 : Memref sig .tc .smem S54x2 .i32) (o : Fin 2 → ℕ) (h : ∀ a, o a + S1x1.size a ≤ S54x2.size a) :
    Prog (TpuEff nD τ sig (Elt F) (Λ₀ F) .tc) (Elt F .i32) :=
  smemLoad arg1 (Rect.unit (s := S54x2) o S1x1.size h) numel1_S1x1 rfl

/-- The loads of one trip's key, and the trip. -/
def trip (arg1 : Memref sig .tc .smem S54x2 .i32) (o o' : Fin 2 → ℕ) (h : ∀ a, o a + S1x1.size a ≤ S54x2.size a)
    (h' : ∀ a, o' a + S1x1.size a ≤ S54x2.size a) (e : IVec S1024x128 32) (x : FVec F S1024x128 .f32) (y : FVec F S1024x1 .f32) (t : St F) :
    Prog (TpuEff nD τ sig (Elt F) (Λ₀ F) .tc) (St F) := do
  let k0 ← key arg1 o h
  let k1 ← key arg1 o' h'
  pure (nxt (unif k0 k1 e) x y t)

/-- The first kernel's stores. -/
def putA (arg3 : Memref sig .tc .vmem S1024x512 .f32) (arg4 : Memref sig .tc .vmem S1024x1 .f32) (x : FVec F S1024x128 .f32) (t : St F) :
    Prog (TpuEff nD τ sig (Elt F) (Λ₀ F) .tc) PUnit := do
  let _ : Vec F S1024x128 .f32 ← Prog.lift (.load arg3 (Rect.unit (s := S1024x512) ![0, 0] S1024x128.size inb_S1024x512_S1024x128_0_0).toLoadRect (View.loadsAt_vmem h_S1024x128))
  Prog.lift (.store arg3 (Rect.unit (s := S1024x512) ![0, 0] S1024x128.size inb_S1024x512_S1024x128_0_0) t.z Finset.univ (View.stores_vmem_bits_univ h_S1024x128 rfl) (.inl rfl))
  let _ : Vec F S1024x128 .f32 ← Prog.lift (.load arg3 (Rect.unit (s := S1024x512) ![0, 128] S1024x128.size inb_S1024x512_S1024x128_0_128).toLoadRect (View.loadsAt_vmem h_S1024x128))
  Prog.lift (.store arg3 (Rect.unit (s := S1024x512) ![0, 128] S1024x128.size inb_S1024x512_S1024x128_0_128) t.a Finset.univ (View.stores_vmem_bits_univ h_S1024x128 rfl) (.inl rfl))
  let _ : Vec F S1024x128 .f32 ← Prog.lift (.load arg3 (Rect.unit (s := S1024x512) ![0, 256] S1024x128.size inb_S1024x512_S1024x128_0_256).toLoadRect (View.loadsAt_vmem h_S1024x128))
  Prog.lift (.store arg3 (Rect.unit (s := S1024x512) ![0, 256] S1024x128.size inb_S1024x512_S1024x128_0_256) t.b Finset.univ (View.stores_vmem_bits_univ h_S1024x128 rfl) (.inl rfl))
  let _ : Vec F S1024x128 .f32 ← Prog.lift (.load arg3 (Rect.unit (s := S1024x512) ![0, 384] S1024x128.size inb_S1024x512_S1024x128_0_384).toLoadRect (View.loadsAt_vmem h_S1024x128))
  Prog.lift (.store arg3 (Rect.unit (s := S1024x512) ![0, 384] S1024x128.size inb_S1024x512_S1024x128_0_384) x Finset.univ (View.stores_vmem_bits_univ h_S1024x128 rfl) (.inl rfl))
  let _ : Vec F S1024x1 .f32 ← Prog.lift (.load arg4 (Rect.unit (s := S1024x1) ![0, 0] S1024x1.size inb_S1024x1_S1024x1_0_0).toLoadRect (View.loadsAt_vmem h_S1024x1))
  Prog.lift (.store arg4 (Rect.unit (s := S1024x1) ![0, 0] S1024x1.size inb_S1024x1_S1024x1_0_0) t.r Finset.univ (View.stores_vmem_bits_univ h_S1024x1 rfl) (.inl rfl))
  pure ⟨⟩

/-- The first kernel's body. -/
def progA (i : grid0.Coords) (arg1 : Memref sig .tc .smem S54x2 .i32) (arg2 : Memref sig .tc .vmem S1024x128 .f32)
    (arg3 : Memref sig .tc .vmem S1024x512 .f32) (arg4 : Memref sig .tc .vmem S1024x1 .f32) :
    Prog (TpuEff nD τ sig (Elt F) (Λ₀ F) .tc) PUnit := do
  let x : Vec F S1024x128 .f32 ← Prog.lift (.load arg2 (Rect.unit (s := S1024x128) ![0, 0] S1024x128.size inb_S1024x128_S1024x128_0_0).toLoadRect (View.loadsAt_vmem h_S1024x128))
  let p0 ← key arg1 ![0, 0] inb_S54x2_S1x1_0_0
  let p1 ← key arg1 ![0, 1] inb_S54x2_S1x1_0_1
  let q0 ← key arg1 ![2, 0] inb_S54x2_S1x1_2_0
  let q1 ← key arg1 ![2, 1] inb_S54x2_S1x1_2_1
  let r0 ← key arg1 ![3, 0] inb_S54x2_S1x1_3_0
  let r1 ← key arg1 ![3, 1] inb_S54x2_S1x1_3_1
  let t ← trip arg1 ![4, 0] ![4, 1] inb_S54x2_S1x1_4_0 inb_S54x2_S1x1_4_1 (flatIds (rowIds i)) x (lev p0 p1 (rowIds i) x)
    (ini (wid q0 q1 (flatIds (rowIds i))) (unif r0 r1 (flatIds (rowIds i))) x (lev p0 p1 (rowIds i) x))
  let t ← trip arg1 ![5, 0] ![5, 1] inb_S54x2_S1x1_5_0 inb_S54x2_S1x1_5_1 (flatIds (rowIds i)) x (lev p0 p1 (rowIds i) x) t
  let t ← trip arg1 ![6, 0] ![6, 1] inb_S54x2_S1x1_6_0 inb_S54x2_S1x1_6_1 (flatIds (rowIds i)) x (lev p0 p1 (rowIds i) x) t
  let t ← trip arg1 ![7, 0] ![7, 1] inb_S54x2_S1x1_7_0 inb_S54x2_S1x1_7_1 (flatIds (rowIds i)) x (lev p0 p1 (rowIds i) x) t
  let t ← trip arg1 ![8, 0] ![8, 1] inb_S54x2_S1x1_8_0 inb_S54x2_S1x1_8_1 (flatIds (rowIds i)) x (lev p0 p1 (rowIds i) x) t
  let t ← trip arg1 ![9, 0] ![9, 1] inb_S54x2_S1x1_9_0 inb_S54x2_S1x1_9_1 (flatIds (rowIds i)) x (lev p0 p1 (rowIds i) x) t
  let t ← trip arg1 ![10, 0] ![10, 1] inb_S54x2_S1x1_10_0 inb_S54x2_S1x1_10_1 (flatIds (rowIds i)) x (lev p0 p1 (rowIds i) x) t
  let t ← trip arg1 ![11, 0] ![11, 1] inb_S54x2_S1x1_11_0 inb_S54x2_S1x1_11_1 (flatIds (rowIds i)) x (lev p0 p1 (rowIds i) x) t
  let t ← trip arg1 ![12, 0] ![12, 1] inb_S54x2_S1x1_12_0 inb_S54x2_S1x1_12_1 (flatIds (rowIds i)) x (lev p0 p1 (rowIds i) x) t
  let t ← trip arg1 ![13, 0] ![13, 1] inb_S54x2_S1x1_13_0 inb_S54x2_S1x1_13_1 (flatIds (rowIds i)) x (lev p0 p1 (rowIds i) x) t
  let t ← trip arg1 ![14, 0] ![14, 1] inb_S54x2_S1x1_14_0 inb_S54x2_S1x1_14_1 (flatIds (rowIds i)) x (lev p0 p1 (rowIds i) x) t
  let t ← trip arg1 ![15, 0] ![15, 1] inb_S54x2_S1x1_15_0 inb_S54x2_S1x1_15_1 (flatIds (rowIds i)) x (lev p0 p1 (rowIds i) x) t
  putA arg3 arg4 x t

/-- The loop's condition. -/
def go (n : BitVec 32) (r : FVec F S1024x1 .f32) : BitVec 1 :=
  Scalar.andi (Scalar.cmpi .slt n 50#32)
    (Scalar.cmpf .ogt (extractAt ![0, 0, 0] (shapeCast S1x1x1 (multiReduction .add [1, 2] S1 (shapeCast S1x1024x1 r shapeCasts_S1024x1_S1x1024x1) 0x00000000#32 reduces_S1x1024x1_S1 (.inl rfl) rfl) shapeCasts_S1_S1x1x1) inpos_S1x1x1_p0_0_0)
      (Scalar.ofBits .f32 0x00000000#32))

/-- The loop of the second kernel. -/
def progW (i : grid1.Coords) (x : FVec F S1024x128 .f32) (arg1 : Memref sig .tc .smem S54x2 .i32) (harg1 : arg1.IsWhole)
    (e : IVec S1024x128 32) (y : FVec F S1024x1 .f32) (n : BitVec 32) (t : St F) :
    Prog (TpuEff nD τ sig (Elt F) (Λ₀ F) .tc) (BitVec 32 × FVec F S1024x128 .f32 × FVec F S1024x128 .f32 × FVec F S1024x128 .f32 × FVec F S1024x1 .f32) :=
  if go n t.r = 1#1 then do
    have h : k1_chk1 n := (← Prog.lift (TpuEff.assume (k1_chk1 n) (k1_chk1.dec n))).down
    let t ← trip arg1 (k1_off1 n) (k1_off2 n) (k1_off1_inb n h) (k1_off2_inb n h) e x y t
    let t ← trip arg1 (k1_off3 n) (k1_off4 n) (k1_off3_inb n h) (k1_off4_inb n h) e x y t
    Prog.lift (.call (2 : (Λ₀ F).Label) ⟨i, x, arg1, harg1, e, y, Scalar.addi n 2#32, t.a, t.b, t.z, t.r⟩)
  else pure (n, t.a, t.b, t.z, t.r)

/-- The second kernel's body. -/
def progB (i : grid1.Coords) (arg1 : Memref sig .tc .smem S54x2 .i32) (harg1 : arg1.IsWhole) (arg2 : Memref sig .tc .vmem S1024x512 .f32)
    (arg3 : Memref sig .tc .vmem S1024x1 .f32) (arg4 : Memref sig .tc .vmem S1024x1 .i32) (arg5 : Memref sig .tc .vmem S1024x128 .f32) :
    Prog (TpuEff nD τ sig (Elt F) (Λ₀ F) .tc) PUnit := do
  let z : Vec F S1024x128 .f32 ← Prog.lift (.load arg2 (Rect.unit (s := S1024x512) ![0, 0] S1024x128.size inb_S1024x512_S1024x128_0_0).toLoadRect (View.loadsAt_vmem h_S1024x128))
  let a : Vec F S1024x128 .f32 ← Prog.lift (.load arg2 (Rect.unit (s := S1024x512) ![0, 128] S1024x128.size inb_S1024x512_S1024x128_0_128).toLoadRect (View.loadsAt_vmem h_S1024x128))
  let b : Vec F S1024x128 .f32 ← Prog.lift (.load arg2 (Rect.unit (s := S1024x512) ![0, 256] S1024x128.size inb_S1024x512_S1024x128_0_256).toLoadRect (View.loadsAt_vmem h_S1024x128))
  let x : Vec F S1024x128 .f32 ← Prog.lift (.load arg2 (Rect.unit (s := S1024x512) ![0, 384] S1024x128.size inb_S1024x512_S1024x128_0_384).toLoadRect (View.loadsAt_vmem h_S1024x128))
  let d : Vec F S1024x1 .i32 ← Prog.lift (.load arg4 (Rect.unit (s := S1024x1) ![0, 0] S1024x1.size inb_S1024x1_S1024x1_0_0).toLoadRect (View.loadsAt_vmem h_S1024x1))
  let p0 ← key arg1 ![0, 0] inb_S54x2_S1x1_0_0
  let p1 ← key arg1 ![0, 1] inb_S54x2_S1x1_0_1
  let r : Vec F S1024x1 .f32 ← Prog.lift (.load arg3 (Rect.unit (s := S1024x1) ![0, 0] S1024x1.size inb_S1024x1_S1024x1_0_0).toLoadRect (View.loadsAt_vmem h_S1024x1))
  let o : BitVec 32 × FVec F S1024x128 .f32 × FVec F S1024x128 .f32 × FVec F S1024x128 .f32 × FVec F S1024x1 .f32 ←
    Prog.lift (.call (2 : (Λ₀ F).Label) ⟨i, shapeCast S1024x128 x shapeCasts_S1024x128_S1024x128, arg1, harg1,
      flatIds (shapeCast S1024x1 d shapeCasts_S1024x1_S1024x1),
      lev p0 p1 (shapeCast S1024x1 d shapeCasts_S1024x1_S1024x1) (shapeCast S1024x128 x shapeCasts_S1024x128_S1024x128), 12#32,
      shapeCast S1024x128 a shapeCasts_S1024x128_S1024x128, shapeCast S1024x128 b shapeCasts_S1024x128_S1024x128,
      shapeCast S1024x128 z shapeCasts_S1024x128_S1024x128, shapeCast S1024x1 r shapeCasts_S1024x1_S1024x1⟩)
  let _ : Vec F S1024x128 .f32 ← Prog.lift (.load arg5 (Rect.unit (s := S1024x128) ![0, 0] S1024x128.size inb_S1024x128_S1024x128_0_0).toLoadRect (View.loadsAt_vmem h_S1024x128))
  Prog.lift (.store arg5 (Rect.unit (s := S1024x128) ![0, 0] S1024x128.size inb_S1024x128_S1024x128_0_0) o.2.2.2.1 Finset.univ (View.stores_vmem_bits_univ h_S1024x128 rfl) (.inl rfl))
  pure ⟨⟩

end Cert.KernelIdeal.Sl

end
-- ==== Proof.KI.Eq.lean ====
/- The printed bodies are the short programs. -/
module

public import proofs.«01_k».proof.Proof.KI.Step

@[expose] public section

set_option maxRecDepth 65536

noncomputable section

namespace Cert.KernelIdeal.Sl

open Idealize.ShloMosaic Idealize.SL.Sem Cert.KernelIdeal Cert.Core Cert.KernelIdeal.Gen

variable {F : FTy → Type} [FloatOps F]

theorem cc1_while1_eq (i : grid1.Coords) (x : FVec F S1024x128 .f32) (arg1 : Memref sig .tc .smem S54x2 .i32) (harg1 : arg1.IsWhole)
    (e : IVec S1024x128 32) (y : FVec F S1024x1 .f32) (n : BitVec 32) (a b z : FVec F S1024x128 .f32) (r : FVec F S1024x1 .f32) :
    cc1_while1 i x arg1 harg1 e y n a b z r = progW i x arg1 harg1 e y n ⟨a, b, z, r⟩ := by
  sl_kernel_rfl

theorem cc1__phase_b_eq (i : grid1.Coords) (arg1 : Memref sig .tc .smem S54x2 .i32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x1 .i32) (harg4 : arg4.IsWhole) (arg5 : Memref sig .tc .vmem S1024x128 .f32) (harg5 : arg5.IsWhole) :
    cc1__phase_b (F := F) i arg1 harg1 arg2 harg2 arg3 harg3 arg4 harg4 arg5 harg5 = progB i arg1 harg1 arg2 arg3 arg4 arg5 := by
  sl_kernel_rfl

theorem cc0__phase_a_eq (i : grid0.Coords) (arg1 : Memref sig .tc .smem S54x2 .i32) (harg1 : arg1.IsWhole) (arg2 : Memref sig .tc .vmem S1024x128 .f32) (harg2 : arg2.IsWhole)
    (arg3 : Memref sig .tc .vmem S1024x512 .f32) (harg3 : arg3.IsWhole) (arg4 : Memref sig .tc .vmem S1024x1 .f32) (harg4 : arg4.IsWhole) :
    cc0__phase_a (F := F) i arg1 harg1 arg2 harg2 arg3 harg3 arg4 harg4 = progA i arg1 arg2 arg3 arg4 := by
  sl_kernel_rfl

end Cert.KernelIdeal.Sl

end
-- ==== Proof.KI.Body.lean ====
/- What the two kernels' bodies compute, and that they do. -/
module

public import proofs.«01_k».proof.Proof.Own
public import proofs.«01_k».proof.Proof.KI.Eq

@[expose] public section

set_option maxRecDepth 65536

noncomputable section

namespace Cert.KernelIdeal.Sl

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Core Cert.KernelIdeal.Gen Cert.Own

variable {F : FTy → Type} [FloatOps F]

/-- Word `j` of key `n` of the table `K`. -/
def wd (K : IVec S54x2 32) (n : ℕ) (j : Fin 2) : BitVec 32 :=
  if h : n < 54 then K (fun a => match a with | ⟨0, _⟩ => ⟨n, h⟩ | ⟨1, _⟩ => j) else 0#32

/-- One trip with the key `n` of the table. -/
def step (K : IVec S54x2 32) (e : IVec S1024x128 32) (x : FVec F S1024x128 .f32) (y : FVec F S1024x1 .f32) (n : ℕ) (t : St F) : St F :=
  nxt (unif (wd K n 0) (wd K n 1) e) x y t

/-- `k` trips with the keys from `n` on. -/
def steps (K : IVec S54x2 32) (e : IVec S1024x128 32) (x : FVec F S1024x128 .f32) (y : FVec F S1024x1 .f32) : ℕ → ℕ → St F → St F
  | _, 0, t => t
  | n, k + 1, t => steps K e x y (n + 1) k (step K e x y n t)

/-- The loop's pairs of trips, at most `k` of them, the counter being `n`. -/
def loop (K : IVec S54x2 32) (e : IVec S1024x128 32) (x : FVec F S1024x128 .f32) (y : FVec F S1024x1 .f32) : ℕ → ℕ → St F → St F
  | 0, _, t => t
  | k + 1, n, t => if go (BitVec.ofNat 32 n) t.r = 1#1 then loop K e x y k (n + 2) (steps K e x y (n + 4) 2 t) else t

/-- The levels of the rows `r`. -/
def levK (K : IVec S54x2 32) (r : IVec S1024x1 32) (x : FVec F S1024x128 .f32) : FVec F S1024x1 .f32 := lev (wd K 0 0) (wd K 0 1) r x

/-- The first kernel's state at its end, the rows being `r`. -/
def stA (K : IVec S54x2 32) (r : IVec S1024x1 32) (x : FVec F S1024x128 .f32) : St F :=
  steps K (flatIds r) x (levK K r x) 4 12
    (ini (wid (wd K 2 0) (wd K 2 1) (flatIds r)) (unif (wd K 3 0) (wd K 3 1) (flatIds r)) x (levK K r x))

/-- Column block of a `1024 x 512` array. -/
abbrev col (o : ℕ) (h : ∀ a, (![0, o] : Fin 2 → ℕ) a + S1024x128.size a ≤ S1024x512.size a) : Rect S1024x512 :=
  Rect.unit (s := S1024x512) ![0, o] S1024x128.size h

/-- The four column blocks of the first kernel's output. -/
def packA (x : FVec F S1024x128 .f32) (t : St F) : FVec F S1024x512 .f32 :=
  View.canon (Val := Elt F) (s := S1024x512) (e := .f32) [⟨col 384 inb_S1024x512_S1024x128_0_384, x⟩, ⟨col 256 inb_S1024x512_S1024x128_0_256, t.b⟩,
    ⟨col 128 inb_S1024x512_S1024x128_0_128, t.a⟩, ⟨col 0 inb_S1024x512_S1024x128_0_0, t.z⟩]

/-- A column block read out. -/
def cut (s : FVec F S1024x512 .f32) (o : ℕ) (h : ∀ a, (![0, o] : Fin 2 → ℕ) a + S1024x128.size a ≤ S1024x512.size a) : FVec F S1024x128 .f32 :=
  View.ld (Val := Elt F) (e' := .f32) s (col o h)

/-- What the second kernel computes. -/
def outB (K : IVec S54x2 32) (s : FVec F S1024x512 .f32) (r : FVec F S1024x1 .f32) (d : IVec S1024x1 32) : FVec F S1024x128 .f32 :=
  (loop K (flatIds d) (cut s 384 inb_S1024x512_S1024x128_0_384) (levK K d (cut s 384 inb_S1024x512_S1024x128_0_384)) 19 12
    ⟨cut s 128 inb_S1024x512_S1024x128_0_128, cut s 256 inb_S1024x512_S1024x128_0_256, cut s 0 inb_S1024x512_S1024x128_0_0, r⟩).z

/-- The load of a key word reads it. -/
theorem ld_key (K : IVec S54x2 32) {o : Fin 2 → ℕ} {h : ∀ a, o a + S1x1.size a ≤ S54x2.size a} (n : ℕ) (j : Fin 2) (h0 : o 0 = n) (h1 : o 1 = j.val) :
    ∀ x, View.ld (Val := Elt F) (e' := .i32) K (Rect.unit (s := S54x2) o S1x1.size h) x = wd K n j := by
  have hn : n < 54 := by
    have := h 0; rw [h0] at this
    have h2 : S1x1.size 0 = 1 := rfl
    have h3 : S54x2.size 0 = 54 := rfl
    omega
  intro x
  unfold wd; rw [dif_pos hn]
  refine congrArg K (funext fun a => Fin.ext ?_)
  have hx : ((Rect.unit (s := S54x2) o S1x1.size h).idx x a).val = o a + (x a).val := by
    show o a + 1 * (x a).val = _
    rw [Nat.one_mul]
  rw [hx]
  have hx0 : (x a).val = 0 := by
    have := (x a).isLt
    have h1 : ∀ a, S1x1.size a = 1 := by decide
    have h2 : (Rect.unit (s := S54x2) o S1x1.size h).shape.size a = 1 := h1 a
    omega
  rw [hx0]
  fin_cases a
  · simpa using h0
  · simpa using h1

section Runs

variable {U : Type} [URA U]
local notation "𝕄" => MT nD τ sig Unit (Elt F) ℕ U ℕ

variable (c : Dev nD)

abbrev 𝒱₀ : Variants := Variants.nat

section Rules

variable (𝒱 : Variants) (bd : Option 𝒱.V) (E : Set ℕ) {α : Type} (M : Memref sig .tc .smem S54x2 .i32) (K : IVec S54x2 32)

/-- The load of a key word. -/
theorem wp_key {o : Fin 2 → ℕ} {h : ∀ a, o a + S1x1.size a ≤ S54x2.size a} (n : ℕ) (j : Fin 2) (h0 : o 0 = n) (h1 : o 1 = j.val)
    {k : BitVec 32 → Prog (TpuEff nD τ sig (Elt F) (Λ₀ F) .tc) α} {Q : α → sProp 𝕄} :
    (owns (c : Thread nD τ) M fullShare K : sProp 𝕄)
      ⊢ iprop((owns (c : Thread nD τ) M fullShare K -∗ wp frame (wpE (defs₀ (F := F)) 𝒱 (c : Thread nD τ) bd) E (k (wd K n j)) Q)
        -∗ wp frame (wpE (defs₀ (F := F)) 𝒱 (c : Thread nD τ) bd) E ((key M o h).bind k) Q) := by
  rw [← ld_key (F := F) K (h := h) n j h0 h1 (Shape.Idx.first (numel1_S1x1.symm ▸ Nat.one_pos))]
  simp only [key, smemLoad, smemLoadElt, Prog.bind_op, Prog.bind_ret, bind]
  iintro H Hk
  iapply (wp_get 𝒱 (c : Thread nD τ) bd E) $$ H
  iintro H
  iapply Hk
  iexact H

/-- One trip's loads and the trip. -/
theorem wp_trip {o o' : Fin 2 → ℕ} {h : ∀ a, o a + S1x1.size a ≤ S54x2.size a} {h' : ∀ a, o' a + S1x1.size a ≤ S54x2.size a}
    (n : ℕ) (h0 : o 0 = n) (h1 : o 1 = 0) (h0' : o' 0 = n) (h1' : o' 1 = 1)
    {e : IVec S1024x128 32} {x : FVec F S1024x128 .f32} {y : FVec F S1024x1 .f32} {t : St F}
    {k : St F → Prog (TpuEff nD τ sig (Elt F) (Λ₀ F) .tc) α} {Q : α → sProp 𝕄} :
    (owns (c : Thread nD τ) M fullShare K : sProp 𝕄)
      ⊢ iprop((owns (c : Thread nD τ) M fullShare K -∗ wp frame (wpE (defs₀ (F := F)) 𝒱 (c : Thread nD τ) bd) E (k (step K e x y n t)) Q)
        -∗ wp frame (wpE (defs₀ (F := F)) 𝒱 (c : Thread nD τ) bd) E ((trip M o o' h h' e x y t).bind k) Q) := by
  have he : (trip M o o' h h' e x y t).bind k = (key M o h).bind fun k0 => (key M o' h').bind fun k1 => k (nxt (unif k0 k1 e) x y t) := by
    show trip M o o' h h' e x y t >>= k = _
    simp only [trip, bind_assoc, pure_bind]
    rfl
  rw [he]
  iintro H Hk
  iapply (wp_key (o := o) c 𝒱 bd E M K n 0 h0 h1) $$ H
  iintro H
  iapply (wp_key (o := o') c 𝒱 bd E M K n 1 h0' h1') $$ H
  iintro H
  iapply Hk
  iexact H

end Rules

/-! ### The first kernel -/

theorem ld_self {s : Shape} {e : EltTy} {o : Fin s.rank → ℕ} (ho : ∀ a, o a = 0) (h : ∀ a, o a + s.size a ≤ s.size a) (X : s.Idx → Elt F e) :
    View.ld (Val := Elt F) (e' := e) X (Rect.unit (s := s) o s.size h) = X :=
  funext fun y => congrArg X (funext fun a => Fin.ext (by
    show o a + 1 * (y a).val = _
    rw [ho, Nat.one_mul, Nat.zero_add]))

theorem overlay_self {s : Shape} {e : EltTy} {o : Fin s.rank → ℕ} (ho : ∀ a, o a = 0) (h : ∀ a, o a + s.size a ≤ s.size a) (X w : s.Idx → Elt F e) :
    (Rect.unit (s := s) o s.size h).overlay X w = w := by
  funext y
  have hy : (Rect.unit (s := s) o s.size h).emb y = y := funext fun a => Fin.ext (by
    show o a + 1 * (y a).val = _
    rw [ho, Nat.one_mul, Nat.zero_add])
  conv_lhs => rw [← hy]
  exact Rect.overlay_emb _ _ _ _

theorem overlay_congr {s : Shape} {e : EltTy} (r : Rect s) (X X' : s.Idx → Elt F e) (w : r.shape.Idx → Elt F e) (y : s.Idx)
    (h : y ∉ r.set → X y = X' y) : r.overlay X w y = r.overlay X' w y := by
  by_cases hy : y ∈ r.set
  · obtain ⟨x, rfl⟩ := r.exists_idx_of_mem hy
    exact (r.overlay_emb _ _ x).trans (r.overlay_emb _ _ x).symm
  · rw [r.overlay_of_not_mem _ _ hy, r.overlay_of_not_mem _ _ hy, h hy]

theorem mem_col (o : ℕ) (h : ∀ a, (![0, o] : Fin 2 → ℕ) a + S1024x128.size a ≤ S1024x512.size a) (y : S1024x512.Idx)
    (h1 : o ≤ (y 1).val) (h2 : (y 1).val < o + 128) : y ∈ (col o h).set := by
  refine Rect.mem_set_unit.mpr fun a => ?_
  fin_cases a
  · exact ⟨Nat.zero_le _, by have := (y 0).isLt; simpa using this⟩
  · exact ⟨h1, h2⟩

theorem packA_eq (s : FVec F S1024x512 .f32) (x : FVec F S1024x128 .f32) (t : St F) :
    (col 384 inb_S1024x512_S1024x128_0_384).overlay (α := Elt F .f32) ((col 256 inb_S1024x512_S1024x128_0_256).overlay (α := Elt F .f32)
      ((col 128 inb_S1024x512_S1024x128_0_128).overlay (α := Elt F .f32) ((col 0 inb_S1024x512_S1024x128_0_0).overlay (α := Elt F .f32) s t.z) t.a) t.b) x = packA x t := by
  funext y
  unfold packA View.canon View.canon View.canon View.canon
  refine overlay_congr _ _ _ _ _ fun h4 => overlay_congr _ _ _ _ _ fun h3 => overlay_congr _ _ _ _ _ fun h2 => overlay_congr _ _ _ _ _ fun h1 => ?_
  have hy : (y 1).val < 512 := (y 1).isLt
  exfalso
  rcases Nat.lt_or_ge (y 1).val 128 with h | h
  · exact h1 (mem_col _ _ y (by omega) (by omega))
  rcases Nat.lt_or_ge (y 1).val 256 with h | h
  · exact h2 (mem_col _ _ y (by omega) (by omega))
  rcases Nat.lt_or_ge (y 1).val 384 with h | h
  · exact h3 (mem_col _ _ y (by omega) (by omega))
  · exact h4 (mem_col _ _ y (by omega) (by omega))

/-- The first kernel's stores. -/
theorem wp_putA (E : Set ℕ) (M3 : Memref sig .tc .vmem S1024x512 .f32) (M4 : Memref sig .tc .vmem S1024x1 .f32) (x : FVec F S1024x128 .f32) (t : St F)
    (s : FVec F S1024x512 .f32) (r : FVec F S1024x1 .f32) (Q : PUnit → sProp 𝕄) :
    iprop(owns (c : Thread nD τ) M3 fullShare s ∗ owns (c : Thread nD τ) M4 fullShare r
      ∗ (iprop(owns (c : Thread nD τ) M3 fullShare (packA x t) ∗ owns (c : Thread nD τ) M4 fullShare t.r) -∗ Q ⟨⟩))
      ⊢ wp frame (wpE (defs₀ (F := F)) 𝒱₀ (c : Thread nD τ) none) E (putA M3 M4 x t) Q := by
  unfold putA
  simp only [Prog.lift, Prog.bind_op, Prog.bind_ret, bind, Pure.pure]
  iintro ⟨H3, H4, Hk⟩
  iapply (wp_get 𝒱₀ (c : Thread nD τ) none E) $$ H3; iintro H3
  iapply (wp_put 𝒱₀ (c : Thread nD τ) none E) $$ H3; iintro H3
  iapply (wp_get 𝒱₀ (c : Thread nD τ) none E) $$ H3; iintro H3
  iapply (wp_put 𝒱₀ (c : Thread nD τ) none E) $$ H3; iintro H3
  iapply (wp_get 𝒱₀ (c : Thread nD τ) none E) $$ H3; iintro H3
  iapply (wp_put 𝒱₀ (c : Thread nD τ) none E) $$ H3; iintro H3
  iapply (wp_get 𝒱₀ (c : Thread nD τ) none E) $$ H3; iintro H3
  iapply (wp_put 𝒱₀ (c : Thread nD τ) none E) $$ H3; iintro H3
  iapply (wp_get 𝒱₀ (c : Thread nD τ) none E) $$ H4; iintro H4
  iapply (wp_put 𝒱₀ (c : Thread nD τ) none E) $$ H4; iintro H4
  ihave H4 := (Entails.of_eq (congrArg (owns (c : Thread nD τ) M4 fullShare) (overlay_self (F := F) (e := .f32) (s := S1024x1) (o := ![0, 0]) (by decide) inb_S1024x1_S1024x1_0_0 r t.r))) $$ H4
  rw [packA_eq, show ∀ f : PUnit → Prog (TpuEff nD τ sig (Elt F) (Λ₀ F) .tc) PUnit, (Prog.ret PUnit.unit).bind f = f ⟨⟩ from fun _ => rfl, wp_ret]
  imodintro
  iapply Hk
  isplitl [H3]; · iexact H3
  iexact H4

set_option backward.isDefEq.respectTransparency.types false in
/-- The first kernel's body, from its four blocks. -/
theorem wp_A (E : Set ℕ) (i : grid0.Coords) (M1 : Memref sig .tc .smem S54x2 .i32) (h1 : M1.IsWhole) (M2 : Memref sig .tc .vmem S1024x128 .f32) (h2 : M2.IsWhole)
    (M3 : Memref sig .tc .vmem S1024x512 .f32) (h3 : M3.IsWhole) (M4 : Memref sig .tc .vmem S1024x1 .f32) (h4 : M4.IsWhole)
    (K : IVec S54x2 32) (x : FVec F S1024x128 .f32) (s : FVec F S1024x512 .f32) (r : FVec F S1024x1 .f32) (Q : PUnit → sProp 𝕄) :
    iprop(owns (c : Thread nD τ) M1 fullShare K ∗ owns (c : Thread nD τ) M2 fullShare x ∗ owns (c : Thread nD τ) M3 fullShare s ∗ owns (c : Thread nD τ) M4 fullShare r
      ∗ (iprop(owns (c : Thread nD τ) M1 fullShare K ∗ owns (c : Thread nD τ) M2 fullShare x ∗ owns (c : Thread nD τ) M3 fullShare (packA x (stA K (rowIds i) x))
          ∗ owns (c : Thread nD τ) M4 fullShare (stA K (rowIds i) x).r) -∗ Q ⟨⟩))
      ⊢ wp frame (wpE (defs₀ (F := F)) 𝒱₀ (c : Thread nD τ) none) E (cc0__phase_a (F := F) i M1 h1 M2 h2 M3 h3 M4 h4) Q := by
  rw [cc0__phase_a_eq]
  unfold progA
  simp only [Prog.lift, Prog.bind_op, Prog.bind_ret, bind]
  iintro ⟨H1, H2, H3, H4, Hk⟩
  iapply (wp_get 𝒱₀ (c : Thread nD τ) none E) $$ H2
  iintro H2
  rw [ld_self (by decide)]
  iapply (wp_key (o := ![0, 0]) c 𝒱₀ none E M1 K 0 0 rfl rfl) $$ H1; iintro H1
  iapply (wp_key (o := ![0, 1]) c 𝒱₀ none E M1 K 0 1 rfl rfl) $$ H1; iintro H1
  iapply (wp_key (o := ![2, 0]) c 𝒱₀ none E M1 K 2 0 rfl rfl) $$ H1; iintro H1
  iapply (wp_key (o := ![2, 1]) c 𝒱₀ none E M1 K 2 1 rfl rfl) $$ H1; iintro H1
  iapply (wp_key (o := ![3, 0]) c 𝒱₀ none E M1 K 3 0 rfl rfl) $$ H1; iintro H1
  iapply (wp_key (o := ![3, 1]) c 𝒱₀ none E M1 K 3 1 rfl rfl) $$ H1; iintro H1
  iapply (wp_trip (o := ![4, 0]) (o' := ![4, 1]) c 𝒱₀ none E M1 K 4 rfl rfl rfl rfl) $$ H1; iintro H1
  iapply (wp_trip (o := ![5, 0]) (o' := ![5, 1]) c 𝒱₀ none E M1 K 5 rfl rfl rfl rfl) $$ H1; iintro H1
  iapply (wp_trip (o := ![6, 0]) (o' := ![6, 1]) c 𝒱₀ none E M1 K 6 rfl rfl rfl rfl) $$ H1; iintro H1
  iapply (wp_trip (o := ![7, 0]) (o' := ![7, 1]) c 𝒱₀ none E M1 K 7 rfl rfl rfl rfl) $$ H1; iintro H1
  iapply (wp_trip (o := ![8, 0]) (o' := ![8, 1]) c 𝒱₀ none E M1 K 8 rfl rfl rfl rfl) $$ H1; iintro H1
  iapply (wp_trip (o := ![9, 0]) (o' := ![9, 1]) c 𝒱₀ none E M1 K 9 rfl rfl rfl rfl) $$ H1; iintro H1
  iapply (wp_trip (o := ![10, 0]) (o' := ![10, 1]) c 𝒱₀ none E M1 K 10 rfl rfl rfl rfl) $$ H1; iintro H1
  iapply (wp_trip (o := ![11, 0]) (o' := ![11, 1]) c 𝒱₀ none E M1 K 11 rfl rfl rfl rfl) $$ H1; iintro H1
  iapply (wp_trip (o := ![12, 0]) (o' := ![12, 1]) c 𝒱₀ none E M1 K 12 rfl rfl rfl rfl) $$ H1; iintro H1
  iapply (wp_trip (o := ![13, 0]) (o' := ![13, 1]) c 𝒱₀ none E M1 K 13 rfl rfl rfl rfl) $$ H1; iintro H1
  iapply (wp_trip (o := ![14, 0]) (o' := ![14, 1]) c 𝒱₀ none E M1 K 14 rfl rfl rfl rfl) $$ H1; iintro H1
  iapply (wp_trip (o := ![15, 0]) (o' := ![15, 1]) c 𝒱₀ none E M1 K 15 rfl rfl rfl rfl) $$ H1; iintro H1
  iapply (wp_putA c E M3 M4 x (stA K (rowIds i) x) s r)
  isplitl [H3]; · iexact H3
  isplitl [H4]; · iexact H4
  iintro ⟨H3, H4⟩
  iapply Hk
  isplitl [H1]; · iexact H1
  isplitl [H2]; · iexact H2
  isplitl [H3]; · iexact H3
  iexact H4

/-! ### The second kernel -/

theorem chk_of (j : Fin 19) : k1_chk1 (BitVec.ofNat 32 (12 + 2 * j.val)) := by
  revert j; decide +kernel

theorem off_of (j : Fin 19) : k1_off1 (BitVec.ofNat 32 (12 + 2 * j.val)) = ![12 + 2 * j.val + 4, 0] ∧ k1_off2 (BitVec.ofNat 32 (12 + 2 * j.val)) = ![12 + 2 * j.val + 4, 1]
    ∧ k1_off3 (BitVec.ofNat 32 (12 + 2 * j.val)) = ![12 + 2 * j.val + 4 + 1, 0] ∧ k1_off4 (BitVec.ofNat 32 (12 + 2 * j.val)) = ![12 + 2 * j.val + 4 + 1, 1] := by
  revert j; decide +kernel

/-- After the last pair of trips the loop stops. -/
theorem not_go (r : FVec F S1024x1 .f32) : ¬go (BitVec.ofNat 32 50) r = 1#1 := by
  unfold go
  rw [show Scalar.cmpi .slt (BitVec.ofNat 32 50) 50#32 = 0#1 by decide]
  show ¬(0#1 &&& _) = 1#1
  rw [BitVec.zero_and]
  decide

/-- What the loop's label does. -/
def spec (M : Memref sig .tc .smem S54x2 .i32) (K : IVec S54x2 32) (z : FVec F S1024x128 .f32) :
    sWPT 𝕄 (BitVec 32 × FVec F S1024x128 .f32 × FVec F S1024x128 .f32 × FVec F S1024x128 .f32 × FVec F S1024x1 .f32) := do
  sWPT.consume (owns (c : Thread nD τ) M fullShare K)
  let r ← sWPT.arbitrary
  sWPT.assume (r.2.2.2.1 = z)
  sWPT.produce (owns (c : Thread nD τ) M fullShare K)
  pure r

theorem spec_apply (M : Memref sig .tc .smem S54x2 .i32) (K : IVec S54x2 32) (z : FVec F S1024x128 .f32)
    (Q : BitVec 32 × FVec F S1024x128 .f32 × FVec F S1024x128 .f32 × FVec F S1024x128 .f32 × FVec F S1024x1 .f32 → sProp 𝕄) :
    spec c M K z Q = iprop(owns (c : Thread nD τ) M fullShare K
      ∗ ∀ r : BitVec 32 × FVec F S1024x128 .f32 × FVec F S1024x128 .f32 × FVec F S1024x128 .f32 × FVec F S1024x1 .f32,
        ⌜r.2.2.2.1 = z⌝ -∗ (owns (c : Thread nD τ) M fullShare K -∗ Q r)) := rfl

set_option backward.isDefEq.respectTransparency.types false in
theorem spec_le (E : Set ℕ) (i : grid1.Coords) (x : FVec F S1024x128 .f32) (M : Memref sig .tc .smem S54x2 .i32) (hM : M.IsWhole) (K : IVec S54x2 32)
    (e : IVec S1024x128 32) (y : FVec F S1024x1 .f32) :
    ∀ k n, n + 2 * k = 50 → 12 ≤ n → ∀ (t : St F) (Q : BitVec 32 × FVec F S1024x128 .f32 × FVec F S1024x128 .f32 × FVec F S1024x128 .f32 × FVec F S1024x1 .f32 → sProp 𝕄), spec c M K (loop K e x y k n t).z Q
      ⊢ wp frame (wpE (defs₀ (F := F)) 𝒱₀ (c : Thread nD τ) (some k)) E
          (defs₀ (F := F) .tc 2 ⟨i, x, M, hM, e, y, BitVec.ofNat 32 n, t.a, t.b, t.z, t.r⟩) Q := by
  intro k
  induction k with
  | zero =>
    intro n hn hn' t Q
    rw [spec_apply]
    show _ ⊢ wp frame (wpE (defs₀ (F := F)) 𝒱₀ (c : Thread nD τ) (some 0)) E (cc1_while1 i x M hM e y (BitVec.ofNat 32 n) t.a t.b t.z t.r) Q
    rw [cc1_while1_eq]
    unfold progW
    obtain rfl : n = 50 := by omega
    rw [if_neg (not_go t.r)]
    iintro ⟨H, Hk⟩
    rw [show ∀ v : BitVec 32 × FVec F S1024x128 .f32 × FVec F S1024x128 .f32 × FVec F S1024x128 .f32 × FVec F S1024x1 .f32,
      (Pure.pure v : Prog (TpuEff nD τ sig (Elt F) (Λ₀ F) .tc) _) = Prog.ret v from fun _ => rfl, wp_ret]
    imodintro
    iapply Hk
    · ipureintro; rfl
    · iexact H
  | succ k ih =>
    intro n hn hn' t Q
    rw [spec_apply]
    show _ ⊢ wp frame (wpE (defs₀ (F := F)) 𝒱₀ (c : Thread nD τ) (some (k + 1))) E (cc1_while1 i x M hM e y (BitVec.ofNat 32 n) t.a t.b t.z t.r) Q
    rw [cc1_while1_eq]
    unfold progW
    obtain ⟨j, rfl⟩ : ∃ j : Fin 19, n = 12 + 2 * j.val := ⟨⟨(n - 12) / 2, by omega⟩, by show n = 12 + 2 * ((n - 12) / 2); omega⟩
    by_cases hg : go (BitVec.ofNat 32 (12 + 2 * j.val)) t.r = 1#1
    · rw [if_pos hg]
      obtain ⟨o1, o2, o3, o4⟩ := off_of j
      simp only [Prog.lift, Prog.bind_op, Prog.bind_ret, bind]
      iintro ⟨H, Hk⟩
      iapply (wp_assume 𝒱₀ (c : Thread nD τ) (some (k + 1)) E (chk_of j))
      iapply (wp_trip (o := k1_off1 (BitVec.ofNat 32 (12 + 2 * j.val))) (o' := k1_off2 (BitVec.ofNat 32 (12 + 2 * j.val))) c 𝒱₀ (some (k + 1)) E M K (12 + 2 * j.val + 4)
        (by rw [o1]; rfl) (by rw [o1]; rfl) (by rw [o2]; rfl) (by rw [o2]; rfl)) $$ H
      iintro H
      iapply (wp_trip (o := k1_off3 (BitVec.ofNat 32 (12 + 2 * j.val))) (o' := k1_off4 (BitVec.ofNat 32 (12 + 2 * j.val))) c 𝒱₀ (some (k + 1)) E M K (12 + 2 * j.val + 4 + 1)
        (by rw [o3]; rfl) (by rw [o3]; rfl) (by rw [o4]; rfl) (by rw [o4]; rfl)) $$ H
      iintro H
      rw [show Scalar.addi (BitVec.ofNat 32 (12 + 2 * j.val)) 2#32 = BitVec.ofNat 32 (12 + 2 * j.val + 2) from by
        show BitVec.ofNat 32 (12 + 2 * j.val) + BitVec.ofNat 32 2 = _; rw [← BitVec.ofNat_add]]
      iapply (wp_call_spec 𝒱₀ (c : Thread nD τ) (some (k + 1)) E (spec c M K _) k
        (fun u hu => by cases hu; exact Nat.lt_succ_self k)
        (ih (12 + 2 * j.val + 2) (by omega) (by omega) (steps K e x y (12 + 2 * j.val + 4) 2 t)))
      rw [spec_apply]
      isplitl [H]; · iexact H
      iintro %r %hr H
      rw [wp_ret]; imodintro
      iapply Hk
      · ipureintro; rw [hr, loop, if_pos hg]
      · iexact H
    · rw [if_neg hg]
      iintro ⟨H, Hk⟩
      rw [show ∀ v : BitVec 32 × FVec F S1024x128 .f32 × FVec F S1024x128 .f32 × FVec F S1024x128 .f32 × FVec F S1024x1 .f32,
        (Pure.pure v : Prog (TpuEff nD τ sig (Elt F) (Λ₀ F) .tc) _) = Prog.ret v from fun _ => rfl, wp_ret]
      imodintro
      iapply Hk
      · ipureintro; rw [loop, if_neg hg]
      · iexact H

set_option backward.isDefEq.respectTransparency.types false in
/-- The second kernel's body, from its five blocks. -/
theorem wp_B (E : Set ℕ) (i : grid1.Coords) (M1 : Memref sig .tc .smem S54x2 .i32) (h1 : M1.IsWhole) (M2 : Memref sig .tc .vmem S1024x512 .f32) (h2 : M2.IsWhole)
    (M3 : Memref sig .tc .vmem S1024x1 .f32) (h3 : M3.IsWhole) (M4 : Memref sig .tc .vmem S1024x1 .i32) (h4 : M4.IsWhole)
    (M5 : Memref sig .tc .vmem S1024x128 .f32) (h5 : M5.IsWhole)
    (K : IVec S54x2 32) (s : FVec F S1024x512 .f32) (r : FVec F S1024x1 .f32) (d : IVec S1024x1 32) (o : FVec F S1024x128 .f32) (Q : PUnit → sProp 𝕄) :
    iprop(owns (c : Thread nD τ) M1 fullShare K ∗ owns (c : Thread nD τ) M2 fullShare s ∗ owns (c : Thread nD τ) M3 fullShare r ∗ owns (c : Thread nD τ) M4 fullShare d
      ∗ owns (c : Thread nD τ) M5 fullShare o
      ∗ (iprop(owns (c : Thread nD τ) M1 fullShare K ∗ owns (c : Thread nD τ) M2 fullShare s ∗ owns (c : Thread nD τ) M3 fullShare r
          ∗ owns (c : Thread nD τ) M4 fullShare d ∗ owns (c : Thread nD τ) M5 fullShare (outB K s r d)) -∗ Q ⟨⟩))
      ⊢ wp frame (wpE (defs₀ (F := F)) 𝒱₀ (c : Thread nD τ) none) E (cc1__phase_b (F := F) i M1 h1 M2 h2 M3 h3 M4 h4 M5 h5) Q := by
  rw [cc1__phase_b_eq]
  unfold progB
  simp only [Prog.lift, Prog.bind_op, Prog.bind_ret, bind]
  iintro ⟨H1, H2, H3, H4, H5, Hk⟩
  iapply (wp_get 𝒱₀ (c : Thread nD τ) none E) $$ H2; iintro H2
  iapply (wp_get 𝒱₀ (c : Thread nD τ) none E) $$ H2; iintro H2
  iapply (wp_get 𝒱₀ (c : Thread nD τ) none E) $$ H2; iintro H2
  iapply (wp_get 𝒱₀ (c : Thread nD τ) none E) $$ H2; iintro H2
  iapply (wp_get 𝒱₀ (c : Thread nD τ) none E) $$ H4; iintro H4
  iapply (wp_key (o := ![0, 0]) c 𝒱₀ none E M1 K 0 0 rfl rfl) $$ H1; iintro H1
  iapply (wp_key (o := ![0, 1]) c 𝒱₀ none E M1 K 0 1 rfl rfl) $$ H1; iintro H1
  iapply (wp_get 𝒱₀ (c : Thread nD τ) none E) $$ H3; iintro H3
  have e1 : ∀ v : FVec F S1024x128 .f32, shapeCast S1024x128 v shapeCasts_S1024x128_S1024x128 = v := fun v => shapeCast_self v _
  have e2 : ∀ v : FVec F S1024x1 .f32, shapeCast S1024x1 v shapeCasts_S1024x1_S1024x1 = v := fun v => shapeCast_self v _
  have e3 : ∀ v : IVec S1024x1 32, shapeCast S1024x1 v shapeCasts_S1024x1_S1024x1 = v := fun v => shapeCast_self v _
  have e4 : View.ld (Val := Elt F) (e' := .i32) d (Rect.unit (s := S1024x1) ![0, 0] S1024x1.size inb_S1024x1_S1024x1_0_0) = d := ld_self (F := F) (e := .i32) (s := S1024x1) (o := ![0, 0]) (by decide) _ d
  have e5 : View.ld (Val := Elt F) (e' := .f32) r (Rect.unit (s := S1024x1) ![0, 0] S1024x1.size inb_S1024x1_S1024x1_0_0) = r := ld_self (F := F) (e := .f32) (s := S1024x1) (o := ![0, 0]) (by decide) _ r
  rw [show ∀ (v : FVec F S1024x1 .f32) (f : FVec F S1024x1 .f32 → Prog (TpuEff nD τ sig (Elt F) (Λ₀ F) .tc) PUnit), (Prog.ret v).bind f = f v from fun _ _ => rfl]
  rw [e1, e1, e1, e1]
  erw [e2, e3, e4, e5]
  iapply (wp_call_spec 𝒱₀ (c : Thread nD τ) none E (spec c M1 K _) 19 (fun u hu => nomatch hu)
    (spec_le c E i (cut s 384 inb_S1024x512_S1024x128_0_384) M1 h1 K (flatIds d) (levK K d (cut s 384 inb_S1024x512_S1024x128_0_384)) 19 12 rfl (by decide)
      ⟨cut s 128 inb_S1024x512_S1024x128_0_128, cut s 256 inb_S1024x512_S1024x128_0_256, cut s 0 inb_S1024x512_S1024x128_0_0, r⟩))
  rw [spec_apply]
  isplitl [H1]; · iexact H1
  iintro %v %hv H1
  iapply (wp_get 𝒱₀ (c : Thread nD τ) none E) $$ H5; iintro H5
  iapply (wp_put 𝒱₀ (c : Thread nD τ) none E) $$ H5; iintro H5
  ihave H5 := (Entails.of_eq (congrArg (owns (c : Thread nD τ) M5 fullShare) ((overlay_self (F := F) (e := .f32) (s := S1024x128) (o := ![0, 0]) (by decide) inb_S1024x128_S1024x128_0_0 o v.2.2.2.1).trans
    (hv.trans (show _ = outB K s r d from rfl))))) $$ H5
  rw [show ∀ f : PUnit → Prog (TpuEff nD τ sig (Elt F) (Λ₀ F) .tc) PUnit, (Prog.ret PUnit.unit).bind f = f ⟨⟩ from fun _ => rfl,
    show (Pure.pure PUnit.unit : Prog (TpuEff nD τ sig (Elt F) (Λ₀ F) .tc) PUnit) = Prog.ret ⟨⟩ from rfl, wp_ret]
  imodintro
  iapply Hk
  isplitl [H1]; · iexact H1
  isplitl [H2]; · iexact H2
  isplitl [H3]; · iexact H3
  isplitl [H4]; · iexact H4
  iexact H5

end Runs

end Cert.KernelIdeal.Sl

end
-- ==== Proof.KI.Run.lean ====
/- The program's run: what each of the two kernels leaves, and that every run ends at it. -/
module

public import proofs.«01_k».proof.Proof.KI.Body
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.FrameBody

@[expose] public section

set_option maxRecDepth 65536

noncomputable section

namespace Cert.KernelIdeal.Sl

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg PLaunchFacts PCfg arrRef afterRegion)
open Cert.KernelIdeal Cert.Core Cert.KernelIdeal.Gen Cert.Own

variable {F : FTy → Type} [FloatOps F]

/-- The ghost state of the run: the transfers' rounds. -/
abbrev UR : Type := URounds (GSem nD τ sig) Unit

local notation "𝕄" => MT nD τ sig Unit (Elt F) ℕ UR ℕ

/-- Where the rounds sit. -/
def EP : Emb UR 𝕄 :=
  (Emb.refl _).trans (uEmb (nD := nD) (sig := sig) (Ix := Unit) (Val := Elt F) (Name := ℕ) (U := UR) (Lvl := ℕ)).toEmb

instance : (EP (F := F)).LandsIn (upEmb : UEmb _ 𝕄) := by unfold EP; infer_instance

/-- Every counter of a TensorCore has the one level. -/
def L : GSem nD τ sig → Finset Unit := fun g => if g.1.2 = .tc then {()} else ∅
def lv : GSem nD τ sig → Unit → ℕ := fun _ _ => 0

/-- The blocks the kernels find at point `t`, the arrays being at `W`. -/
def kdA (W : Valuation τ sig (Elt F)) (t : Fin (cfg0 (F := F)).N) : IVec S54x2 32 :=
  (((cfg0 (F := F)).win 0).blk t).view.read (Elt F) (W (Proc.devRef .tc main_call0_v7))
def xA (W : Valuation τ sig (Elt F)) (t : Fin (cfg0 (F := F)).N) : FVec F S1024x128 .f32 :=
  (((cfg0 (F := F)).win 1).blk t).view.read (Elt F) (W (Proc.devRef .tc main_arg0))
def kdB (W : Valuation τ sig (Elt F)) (t : Fin (cfg1 (F := F)).N) : IVec S54x2 32 :=
  (((cfg1 (F := F)).win 0).blk t).view.read (Elt F) (W (Proc.devRef .tc main_call0_v7))
def stB (W : Valuation τ sig (Elt F)) (t : Fin (cfg1 (F := F)).N) : FVec F S1024x512 .f32 :=
  (((cfg1 (F := F)).win 1).blk t).view.read (Elt F) (W (Proc.devRef .tc main_call0_v19))
def rejB (W : Valuation τ sig (Elt F)) (t : Fin (cfg1 (F := F)).N) : FVec F S1024x1 .f32 :=
  (((cfg1 (F := F)).win 2).blk t).view.read (Elt F) (W (Proc.devRef .tc main_call0_v26))
def ridB (W : Valuation τ sig (Elt F)) (t : Fin (cfg1 (F := F)).N) : IVec S1024x1 32 :=
  (((cfg1 (F := F)).win 3).blk t).view.read (Elt F) (W (Proc.devRef .tc main_call0_v27))

set_option backward.isDefEq.respectTransparency.types false in
/-- The first kernel's data from the contents `W`. -/
def dat0 (W : Valuation τ sig (Elt F)) (c : Dev nD) : Dat τ (Elt F) Unit ℕ UR ℕ (cfg0 (F := F)) c where
  A w := W (Proc.devRef .tc (arrRef spec0 w))
  after w t := match w with
    | ⟨0, _⟩ => kdA W t
    | ⟨1, _⟩ => xA W t
    | ⟨2, _⟩ => packA (xA W t) (stA (kdA W t) (rowIds (grid0.coords t)) (xA W t))
    | ⟨3, _⟩ => (stA (kdA W t) (rowIds (grid0.coords t)) (xA W t)).r
  Φ _ := Pipeline.scopedRest spec0 c
  q _ := fullShare
  owed _ := 0

set_option backward.isDefEq.respectTransparency.types false in
/-- The second kernel's data from the contents `W`. -/
def dat1 (W : Valuation τ sig (Elt F)) (c : Dev nD) : Dat τ (Elt F) Unit ℕ UR ℕ (cfg1 (F := F)) c where
  A w := W (Proc.devRef .tc (arrRef spec1 w))
  after w t := match w with
    | ⟨0, _⟩ => kdB W t
    | ⟨1, _⟩ => stB W t
    | ⟨2, _⟩ => rejB W t
    | ⟨3, _⟩ => ridB W t
    | ⟨4, _⟩ => outB (kdB W t) (stB W t) (rejB W t) (ridB W t)
  Φ _ := Pipeline.scopedRest spec1 c
  q _ := fullShare
  owed _ := 0

section Bodies

variable (W : Valuation τ sig (Elt F)) (c : Dev nD)

set_option backward.isDefEq.respectTransparency.types false in
theorem before0_0 (t : Fin (cfg0 (F := F)).N) (d) : (dat0 W c).before 0 t d = kdA W t :=
  (dat0 W c).before_in_eq_fetched 0 rfl (fun _ => rfl) (fun _ _ _ => rfl) (fun _ => rfl) t d
set_option backward.isDefEq.respectTransparency.types false in
theorem before0_1 (t : Fin (cfg0 (F := F)).N) (d) : (dat0 W c).before 1 t d = xA W t :=
  (dat0 W c).before_in_eq_fetched 1 rfl (fun _ => rfl) (fun _ _ _ => rfl) (fun _ => rfl) t d
set_option backward.isDefEq.respectTransparency.types false in
theorem before1_0 (t : Fin (cfg1 (F := F)).N) (d) : (dat1 W c).before 0 t d = kdB W t :=
  (dat1 W c).before_in_eq_fetched 0 rfl (fun _ => rfl) (fun _ _ _ => rfl) (fun _ => rfl) t d
set_option backward.isDefEq.respectTransparency.types false in
theorem before1_1 (t : Fin (cfg1 (F := F)).N) (d) : (dat1 W c).before 1 t d = stB W t :=
  (dat1 W c).before_in_eq_fetched 1 rfl (fun _ => rfl) (fun _ _ _ => rfl) (fun _ => rfl) t d
set_option backward.isDefEq.respectTransparency.types false in
theorem before1_2 (t : Fin (cfg1 (F := F)).N) (d) : (dat1 W c).before 2 t d = rejB W t :=
  (dat1 W c).before_in_eq_fetched 2 rfl (fun _ => rfl) (fun _ _ _ => rfl) (fun _ => rfl) t d
set_option backward.isDefEq.respectTransparency.types false in
theorem before1_3 (t : Fin (cfg1 (F := F)).N) (d) : (dat1 W c).before 3 t d = ridB W t :=
  (dat1 W c).before_in_eq_fetched 3 rfl (fun _ => rfl) (fun _ _ _ => rfl) (fun _ => rfl) t d

set_option backward.isDefEq.respectTransparency.types false in
theorem body0 : BodyObligation (dat0 W c) (defs₀ (F := F)) 𝒱₀ () Set.univ := fun t => by
  rw [bigSep_W0, bigSep_W0]
  rw [show (dat0 W c).Φ t.succ = (dat0 W c).Φ t.castSucc from rfl,
    show (dat0 W c).owesAt () t.succ = (dat0 W c).owesAt () t.castSucc from rfl]
  iintro ⟨HΦ, Howes, ⟨%d0, H0⟩, ⟨%d1, H1⟩, ⟨%d2, H2⟩, ⟨%d3, H3⟩⟩
  rw [before0_0, before0_1]
  iapply (wp_A c Set.univ (grid0.coords t) (st0_0 t) _ (st0_1 t) _ (st0_2 t) _ (st0_3 t) _ (kdA W t) (xA W t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

set_option backward.isDefEq.respectTransparency.types false in
theorem body1 : BodyObligation (dat1 W c) (defs₀ (F := F)) 𝒱₀ () Set.univ := fun t => by
  rw [bigSep_W1, bigSep_W1]
  rw [show (dat1 W c).Φ t.succ = (dat1 W c).Φ t.castSucc from rfl,
    show (dat1 W c).owesAt () t.succ = (dat1 W c).owesAt () t.castSucc from rfl]
  iintro ⟨HΦ, Howes, ⟨%d0, H0⟩, ⟨%d1, H1⟩, ⟨%d2, H2⟩, ⟨%d3, H3⟩, ⟨%d4, H4⟩⟩
  rw [before1_0, before1_1, before1_2, before1_3]
  iapply (wp_B c Set.univ (grid1.coords t) (st1_0 t) _ (st1_1 t) _ (st1_2 t) _ (st1_3 t) _ (st1_4 t) _ (kdB W t) (stB W t) (rejB W t) (ridB W t) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Bodies

variable (m : (ℓ : Loc nD τ sig) → Buf (Elt F) ℓ)

/-- What the first kernel leaves. -/
def outs0 : Outs (F := F) := fun _ r c => afterRegion (dat0 (V1 m c) c) (V1 m c) (Proc.devRef .tc r)

/-- What the two kernels leave. -/
def outs : Outs (F := F) := fun J r c => match J with
  | 2 => outs0 m 2 r c
  | _ => afterRegion (dat1 (V3 m (outs0 m) c) c) (V3 m (outs0 m) c) (Proc.devRef .tc r)

/-- The proof data of the two regions. -/
def pdats : (p : Fin 2) → (c : Dev nD) → Dat τ (Elt F) Unit ℕ UR ℕ ((cfgs (F := F)) p) c
  | ⟨0, _⟩ => fun c => dat0 (V1 m c) c
  | ⟨1, _⟩ => fun c => dat1 (V3 m (outs m) c) c

/-- Nothing is owed. -/
def E : Fin 3 → Dev nD → sProp 𝕄 := fun _ c => iprop(∃ W, owes (c : Thread nD τ) (0 : CellTallies nD τ sig Unit) W)

theorem cut_ok (p : Fin 2) : Pipeline.LevelCut (pcfgs (F := F)) adm () L lv p (fun _ => 0) (fun _ => 0) where
  hι c w s := by simp [L]
  hιb _ _ _ := le_rfl
  hD _ g i h := absurd h (lt_irrefl _)

theorem sub0 : Pipeline.arrRefs (pcfgs (F := F) 0).spec ⊆ Pipeline.ucRefs τ sig := Pipeline.arrRefs_sub_ucRefs _ fun w => by fin_cases w <;> rfl
theorem sub1 : Pipeline.arrRefs (pcfgs (F := F) 1).spec ⊆ Pipeline.ucRefs τ sig := Pipeline.arrRefs_sub_ucRefs _ fun w => by fin_cases w <;> rfl

/-- A valuation agreeing with another off a region's outputs, and having there what the region leaves. -/
theorem after_eq {cfg : Cfg sig (Λ₀ F)} {c : Dev nD} (dat : Dat τ (Elt F) Unit ℕ UR ℕ cfg c) (V V' : Valuation τ sig (Elt F))
    (hinj : Function.Injective (arrRef cfg.spec)) (hA : ∀ w, dat.A w = V (Proc.devRef .tc (arrRef cfg.spec w)))
    (hout : ∀ w, (cfg.win w).isOut = true → V' (Proc.devRef .tc (arrRef cfg.spec w)) = afterRegion dat V (Proc.devRef .tc (arrRef cfg.spec w)))
    (hne : ∀ r : Ref sig .tc, (∀ w, (cfg.win w).isOut = true → arrRef cfg.spec w ≠ r) → V' (Proc.devRef .tc r) = V (Proc.devRef .tc r)) (r : Ref sig .tc) :
    afterRegion dat V (Proc.devRef .tc r) = V' (Proc.devRef .tc r) := by
  by_cases h : ∃ w, (cfg.win w).isOut = true ∧ arrRef cfg.spec w = r
  · obtain ⟨w, hw, rfl⟩ := h
    exact (hout w hw).symm
  · rw [hne r fun w hw e => h ⟨w, hw, e⟩]
    exact Pipeline.afterRegion_keeps dat V hinj hA r fun w e => by
      by_contra hw
      exact h ⟨w, by simpa using hw, e⟩

/-- The first kernel's region. -/
def R0 : RegionSeg (pcfgs (F := F)) adm (pdats m) () defs₀ 𝒱₀ L lv 0 :=
  RegionSeg.ofHeldIn _ _ _ _ _ _ _ _ 0 (fun _ => 0) (Pipeline.ucRefs τ sig) (fun _ => BI.emp) (fun _ => BI.emp) launch0.toP rfl
    (fun c => (body0 (V1 m c) c).loose) (fun _ _ => rfl) (fun _ => rfl) (fun c => (pdats m 0 c).share_full fun _ => rfl)
    (fun c => by rw [show (pdats m 0 c).Φ 0 = Pipeline.scopedRest spec0 c from rfl]; iintro ⟨H, -⟩; iexact H)
    (fun c => by rw [show (pdats m 0 c).Φ (Fin.last _) = Pipeline.scopedRest spec0 c from rfl]; iintro H; isplitl [H]; (· iexact H); iempintro)
    (fun _ => 0) (cut_ok 0) (fun _ => BI.emp) (V1 m) (fun _ _ => rfl)

/-- The second kernel's region. -/
def R1 : RegionSeg (pcfgs (F := F)) adm (pdats m) () defs₀ 𝒱₀ L lv 1 :=
  RegionSeg.ofHeldIn _ _ _ _ _ _ _ _ 1 (fun _ => 0) (Pipeline.ucRefs τ sig) (fun _ => BI.emp) (fun _ => BI.emp) launch1.toP rfl
    (fun c => (body1 (V3 m (outs m) c) c).loose) (fun _ _ => rfl) (fun _ => rfl) (fun c => (pdats m 1 c).share_full fun _ => rfl)
    (fun c => by rw [show (pdats m 1 c).Φ 0 = Pipeline.scopedRest spec1 c from rfl]; iintro ⟨H, -⟩; iexact H)
    (fun c => by rw [show (pdats m 1 c).Φ (Fin.last _) = Pipeline.scopedRest spec1 c from rfl]; iintro H; isplitl [H]; (· iexact H); iempintro)
    (fun _ => 0) (cut_ok 1) (fun _ => BI.emp) (V3 m (outs m)) (fun _ _ => rfl)

theorem pre0 (c : Dev nD) : iprop(StableHlo.held (c : Thread nD τ) (Pipeline.ucRefs τ sig) (V1 m c) ∗ E 0 c) ⊢ (R0 m).pre c := by
  refine BIBase.Entails.trans ?_ (RegionSeg.ofHeldIn_pre sub0 c)
  unfold E
  iintro ⟨H, HE⟩
  isplitl [H]; · iexact H
  isplitl [HE]; · iexact HE
  isplitr <;> iempintro

theorem pre1 (c : Dev nD) : iprop(StableHlo.held (c : Thread nD τ) (Pipeline.ucRefs τ sig) (V3 m (outs m) c) ∗ E 1 c) ⊢ (R1 m).pre c := by
  refine BIBase.Entails.trans ?_ (RegionSeg.ofHeldIn_pre sub1 c)
  unfold E
  iintro ⟨H, HE⟩
  isplitl [H]; · iexact H
  isplitl [HE]; · iexact HE
  isplitr <;> iempintro

/-- Valuations that agree on the TensorCore's references hold alike. -/
theorem held_eq (c : Dev nD) (V V' : Valuation τ sig (Elt F)) (h : ∀ r : Ref sig .tc, V (Proc.devRef .tc r) = V' (Proc.devRef .tc r)) :
    (StableHlo.held (c : Thread nD τ) (Pipeline.ucRefs τ sig) V : sProp 𝕄) = StableHlo.held (c : Thread nD τ) (Pipeline.ucRefs τ sig) V' := by
  refine StableHlo.held_congr _ fun b hb => ?_
  obtain ⟨r, -, rfl⟩ := Finset.mem_map.mp (Finset.mem_filter.mp hb).1
  exact h r

theorem V2_eq (c : Dev nD) (r : Ref sig .tc) : afterRegion (dat0 (V1 m c) c) (V1 m c) (Proc.devRef .tc r) = V2 m (outs m) c (Proc.devRef .tc r) := by
  refine after_eq _ _ _ winFacts0.arr_inj (fun _ => rfl) (fun w hw => ?_) (fun r h => ?_) r
  · fin_cases w
    · cases hw
    · cases hw
    · exact (Function.update_of_ne (StableHlo.devRef_ne_of_ne (show main_call0_v8_0 ≠ main_call0_v8_1 by decide)) _ _).trans (Function.update_self _ _ _)
    · exact Function.update_self _ _ _
  · refine V2_of m (outs m) c r ?_
    intro hr
    simp only [List.mem_cons, List.not_mem_nil, _root_.or_false] at hr
    rcases hr with rfl | rfl
    · exact h 2 rfl rfl
    · exact h 3 rfl rfl

theorem V4_eq (c : Dev nD) (r : Ref sig .tc) :
    afterRegion (dat1 (V3 m (outs m) c) c) (V3 m (outs m) c) (Proc.devRef .tc r) = V4 m (outs m) c (Proc.devRef .tc r) := by
  refine after_eq _ _ _ winFacts1.arr_inj (fun _ => rfl) (fun w hw => ?_) (fun r h => ?_) r
  · fin_cases w
    · cases hw
    · cases hw
    · cases hw
    · cases hw
    · exact Function.update_self _ _ _
  · refine V4_of m (outs m) c r ?_
    intro hr
    simp only [List.mem_cons, List.not_mem_nil, _root_.or_false] at hr
    subst hr
    exact h 4 rfl rfl

theorem post0 (c : Dev nD) : (R0 m).post c ⊢ iprop(StableHlo.held (c : Thread nD τ) (Pipeline.ucRefs τ sig) (V2 m (outs m) c) ∗ E 1 c) := by
  refine (RegionSeg.ofHeldIn_post sub0 c).trans ?_
  rw [show afterRegion (pdats m 0 c) (V1 m c) = afterRegion (dat0 (V1 m c) c) (V1 m c) from rfl, held_eq c _ (V2 m (outs m) c) (V2_eq m c)]
  unfold E
  iintro ⟨H, HE, -, -⟩
  isplitl [H]; · iexact H
  iexact HE

theorem post1 (c : Dev nD) : (R1 m).post c ⊢ iprop(StableHlo.held (c : Thread nD τ) (Pipeline.ucRefs τ sig) (V4 m (outs m) c) ∗ E 2 c) := by
  refine (RegionSeg.ofHeldIn_post sub1 c).trans ?_
  rw [show afterRegion (pdats m 1 c) (V3 m (outs m) c) = afterRegion (dat1 (V3 m (outs m) c) c) (V3 m (outs m) c) from rfl,
    held_eq c _ (V4 m (outs m) c) (V4_eq m c)]
  unfold E
  iintro ⟨H, HE, -, -⟩
  isplitl [H]; · iexact H
  iexact HE

theorem lvl_none (g : GSem nD τ sig) (h : g.1.2 ≠ .tc) : L g = ∅ := by simp [L, h]

theorem launch_own : (ownU (initOf (Pipeline.cells (cfgs (F := F)) cellOf_inj) (Pipeline.launchToks (cfgs (F := F)) cellOf_inj)) : sProp 𝕄)
    ⊢ |={Set.univ}=> iprop(BI.own (EP (initOf (Pipeline.cells (cfgs (F := F)) cellOf_inj) (Pipeline.launchToks (cfgs (F := F)) cellOf_inj)))
      ∗ bigSep Finset.univ fun _ : Dev nD => (BI.emp : sProp 𝕄)) := by
  rw [BI.bigSep_emp_const, show (BI.own (EP (initOf (Pipeline.cells (cfgs (F := F)) cellOf_inj) (Pipeline.launchToks (cfgs (F := F)) cellOf_inj))) : sProp 𝕄)
    = ownU (initOf (Pipeline.cells (cfgs (F := F)) cellOf_inj) (Pipeline.launchToks (cfgs (F := F)) cellOf_inj)) from rfl]
  iintro H
  imodintro
  isplitl [H]
  · iexact H
  · iempintro

theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ (BI.emp : sProp 𝕄))) ∗ levAts L lv)
      ⊢ (|={Set.univ}=> bigSep Finset.univ (E 0) : sProp 𝕄) := by
  have h : ∀ c : Dev nD, iprop(unscopedSems0 c ∗ owes (c : Thread nD τ) (0 : CellTallies nD τ sig Unit) ∅
        ∗ Pipeline.launchCred (fun _ => 0) c ∗ prngReg c (ρ c) ∗ (BI.emp : sProp 𝕄)) ⊢ E (F := F) 0 c := fun c => by
    unfold E
    iintro ⟨-, H, -, -, -⟩
    iexists ∅
    iexact H
  have h' : (bigSep Finset.univ fun c : Dev nD => iprop(unscopedSems0 c ∗ owes (c : Thread nD τ) (0 : CellTallies nD τ sig Unit) ∅
      ∗ Pipeline.launchCred (fun _ => 0) c ∗ prngReg c (ρ c) ∗ (BI.emp : sProp 𝕄))) ⊢ (bigSep Finset.univ (E 0) : sProp 𝕄) := bigSep_mono fun c _ => h c
  iintro ⟨H, -⟩
  imodintro
  ihave H := h' $$ H
  iexact H

set_option backward.isDefEq.respectTransparency.types false in
/-- Every run from memory `m` ends with the counters at zero, the argument as it was and the result at what the last host stretch makes of
    what the two kernels leave. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = V5 m (outs m) c (Proc.devRef .tc main_v0))
      ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (R0 m) (R1 m))
    (fun c Q => by
      rewrite [main_chain c, Pipeline.Seg.run_eq_chain,
        show (segs m (outs m) 𝒱₀ L lv E () (pdats m) (R0 m) (R1 m) c).map Pipeline.Seg.prog = [
          StableHlo.seq hostOps0, Prog.lift (.customCall (Pipeline.entry 0) ()), StableHlo.seq hostOps1,
          Prog.lift (.customCall (Pipeline.entry 1) ()), StableHlo.seq hostOps2] from rfl]
      exact .rfl)
    (fun c => by simp only [segs, Pipeline.Seg.pipes_host, Pipeline.Seg.pipes_region, Pipeline.Seg.pipes_nil]; decide) (fun _ => 0) lvl_none (fun _ => BI.emp) _ launch_own
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, sep_mono .rfl .rfl⟩)
    (hinit := ?_)
    (QY := fun c s => s.mem ((c.tc : Thread nD τ).loc main_arg0) = m ((c.tc : Thread nD τ).loc main_arg0)
      ∧ s.mem ((c.tc : Thread nD τ).loc main_v0) = V5 m (outs m) c (Proc.devRef .tc main_v0))
    (hfin := fun c s' => ?_) (hQ := fun _ h hz => ⟨h, funext fun g => hz g (.inr (regions_no_unscoped g.2))⟩)
  · iintro ⟨H, Hl⟩
    have hs : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ (BI.emp : sProp 𝕄))) : sProp 𝕄) := by
      rw [← bigSep_sep']
      exact bigSep_mono fun c _ => by
        rw [← Pipeline.unscopedBufs_held (Ix := Unit) (Name := ℕ) (U := UR) (Lvl := ℕ) c (V0 m c)]; exact BI.Entails.refl _
    ihave H := hs $$ H
    icases H with ⟨Hh, Hr⟩
    imod (launch_rest ρ) $$ [Hr Hl] with HE
    · isplitl [Hr]; · iexact Hr
      iexact Hl
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Pipeline.devRef_mem_ucRefs rfl)).trans (V5_main_arg0 m (outs m) c),
        h (Proc.devRef .tc main_v0) (Pipeline.devRef_mem_ucRefs rfl)⟩
    · iexact HSI

end Cert.KernelIdeal.Sl
-- ==== Proof.KB.Eq.lean ====
/- The printed bodies are the short programs. -/
module

public import proofs.«01_k».proof.Proof.KB.Step

@[expose] public section

set_option maxRecDepth 65536

noncomputable section

namespace Cert.Kernel.Sl

open Idealize.ShloMosaic Idealize.SL.Sem Cert.Kernel Cert.Core Cert.Kernel.Gen

variable {F : FTy → Type} [FloatOps F]

theorem cc1_while1_eq (i : grid1.Coords) (x : FVec F S1024x128 .f32) (arg1 : Memref sig .tc .smem S54x2 .i32) (harg1 : arg1.IsWhole)
    (e : IVec S1024x128 32) (y : FVec F S1024x1 .f32) (n : BitVec 32) (a b z : FVec F S1024x128 .f32) (r : FVec F S1024x1 .f32) :
    cc1_while1 i x arg1 harg1 e y n a b z r = progW i x arg1 harg1 e y n ⟨a, b, z, r⟩ := by
  sl_kernel_rfl

theorem cc1__phase_b_eq (i : grid1.Coords) (arg1 : Memref sig .tc .smem S54x2 .i32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x1 .i32) (harg4 : arg4.IsWhole) (arg5 : Memref sig .tc .vmem S1024x128 .f32) (harg5 : arg5.IsWhole) :
    cc1__phase_b (F := F) i arg1 harg1 arg2 harg2 arg3 harg3 arg4 harg4 arg5 harg5 = progB i arg1 harg1 arg2 arg3 arg4 arg5 := by
  sl_kernel_rfl

theorem cc0__phase_a_eq (i : grid0.Coords) (arg1 : Memref sig .tc .smem S54x2 .i32) (harg1 : arg1.IsWhole) (arg2 : Memref sig .tc .vmem S1024x128 .f32) (harg2 : arg2.IsWhole)
    (arg3 : Memref sig .tc .vmem S1024x512 .f32) (harg3 : arg3.IsWhole) (arg4 : Memref sig .tc .vmem S1024x1 .f32) (harg4 : arg4.IsWhole) :
    cc0__phase_a (F := F) i arg1 harg1 arg2 harg2 arg3 harg3 arg4 harg4 = progA i arg1 arg2 arg3 arg4 := by
  sl_kernel_rfl

end Cert.Kernel.Sl

end
-- ==== Proof.RI.Run.lean ====
/- The reference's run, with the counters: every run ends with every buffer at the fold of its operations and every counter at zero. -/
module

public import proofs.«01_k».proof.Proof.Gen.ReferenceIdeal.Run

@[expose] public section

set_option maxRecDepth 100000

noncomputable section

namespace Cert.ReferenceIdeal.Sl

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (segsOf loopSeg held finalContents atTrip afterL launchContents entryContents after)
open Idealize.ShloMosaic.Pipeline (CSeg ucRefs)
open Cert.ReferenceIdeal Cert.ReferenceIdeal.Gen Cert.ReferenceIdeal.Value

variable {F : FTy → Type} [FloatOps F]

local notation "𝕄" => MT nD τ sig Unit (Elt F) ℕ (Option PUnit) ℕ

variable (m : (ℓ : Loc nD τ sig) → Buf (Elt F) ℓ)

/-- No kernel: nothing prefetched, no ticket, no level. -/
def noAdm : (p : Fin 0) → ((pcfgs (F := F)) p).Adm := fun p => p.elim0
def noTk : Fin 0 → Pipeline.Ticket (Ix := Unit) (Name := ℕ) (U := Option PUnit) (Lvl := ℕ) (nD := nD) (τ := τ) (pcfgs (F := F)) noAdm := fun j => j.elim0
def noL : GSem nD τ sig → Finset Unit := fun _ => ∅
def noLv : GSem nD τ sig → Unit → ℕ := fun _ _ => 0

theorem noCell : Function.Injective (Pipeline.cellOf (nD := nD) (τ := τ) (Pipeline.pin (pcfgs (F := F)) noAdm)) := fun k => k.1.elim0

/-- Nothing owed. -/
def Due (c : Dev nD) : sProp 𝕄 := iprop(∃ W, owes (c : Thread nD τ) (0 : CellTallies nD τ sig Unit) W)

/-- The condition hands back what it does not touch. -/
theorem cond_due : StableHlo.LoopCond (pcfgs (F := F)) defs₀ Variants.none loops Due (main_while0_cond (F := F)) condOps bodyI (entryContents preI m) 50 := by
  intro k hk c bd
  have h := (BIClass.sep_mono (cond_spec m k hk c bd) (BI.Entails.refl (Due (F := F) c))).trans (wp_frame_r _ _ _)
  refine BIBase.Entails.trans ?_ (h.trans (wp_mono _ _ _ fun v => ?_))
  · iintro ⟨Hb, Hh, HD⟩
    isplitl [Hb Hh]
    · isplitl [Hb] <;> iassumption
    · iexact HD
  · iintro ⟨⟨%hv, Hb, Hh⟩, HD⟩
    isplitr
    · ipureintro; exact hv
    isplitl [Hb]; · iexact Hb
    isplitl [Hh] <;> iassumption

/-- The stretches before the loop, and the loop. -/
def theSegs : List (CSeg (pcfgs (F := F)) noAdm defs₀ Variants.none noL noLv loops noTk) :=
  segsOf _ _ _ _ _ _ _ _ Due preI hpre (launchContents m)
    ++ [loopSeg _ _ _ _ _ _ _ _ 0 main_while0_cond main_while0_body rfl condOps bodyI hbodyI (by rw [while0_body_chain]; rfl) 50 (entryContents preI m) Due (cond_due m)]

theorem theSegs_prog : (theSegs m).map CSeg.prog = (preI (F := F).map fun ops => (StableHlo.seq ops : Prog _ PUnit)) ++ [HostLoop.enter 0] := by
  unfold theSegs
  rw [List.map_append, StableHlo.segsOf_prog]
  rfl

theorem theSegs_chains : CSeg.Chains (fun c => iprop(held (c : Thread nD τ) (ucRefs τ sig) (launchContents m c) ∗ Due c)) (theSegs m)
    (fun c => iprop(held (c : Thread nD τ) (ucRefs τ sig) (finalContents condOps preI bodyI postI 50 m c) ∗ Due c)) := by
  unfold theSegs
  exact CSeg.Chains.append (StableHlo.segsOf_chains _ _ _ _ _ _ _ _ Due preI hpre _) ⟨fun _ => .rfl, fun _ => .rfl⟩

/-- The TensorCore's counters are all of a kernel's scope: there is none. -/
theorem no_unscoped : ∀ sm : SemLoc sig, sm.isScoped .tc = true := by decide

theorem run (ρ : Dev nD → PrngReg) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 50 m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    pcfgs noAdm noCell defs₀ Variants.none noL noLv loops noTk m ρ main (theSegs m)
    (fun c Q => by
      rw [show main c = Pipeline.chain ((preI (F := F).map fun ops => (StableHlo.seq ops : Prog _ PUnit)) ++ [HostLoop.enter 0]) from by rw [main_chain]; rfl,
        ← theSegs_prog m]
      exact .rfl)
    (CSeg.pairwise_disjoint_of_T_empty _ fun s _ => Finset.eq_empty_of_isEmpty s.T)
    0 (fun _ _ => rfl) (fun _ => BI.emp) 1
    (by
      iintro -
      imodintro
      isplitl []
      · rw [Finset.univ_eq_empty, BI.bigSep_empty]; iempintro
      · rw [BI.bigSep_emp_const]; iempintro)
    (fun c => iprop(held (c : Thread nD τ) (ucRefs τ sig) (launchContents m c) ∗ Due c))
    (fun c => held (c : Thread nD τ) (ucRefs τ sig) (finalContents condOps preI bodyI postI 50 m c))
    (theSegs_chains m)
    (by
      refine Pipeline.initEach noL noLv fun c => ?_
      rw [show (unscopedBufs c (fun b => m ((c : Thread nD τ).loc b)) : sProp 𝕄) = held (c : Thread nD τ) (ucRefs τ sig) (launchContents m c) from
        Pipeline.unscopedBufs_held c (launchContents m c)]
      unfold Due
      iintro ⟨⟨Hh, -, HO, -, -, -⟩, -⟩
      imodintro
      isplitl [Hh]; · iexact Hh
      iexists ∅; iexact HO)
    (fun c s => ∀ b ∈ ucRefs τ sig, s.mem ((c : Dev nD), b) = finalContents condOps preI bodyI postI 50 m c b)
    (fun c s' => by
      unfold held
      iintro ⟨Hh, HSI⟩
      ihave Hr := (pointsTo_read_all (ucRefs τ sig) (fun b => ((c : Dev nD), b)) (fun b => finalContents condOps preI bodyI postI 50 m c b) s') $$ [Hh HSI]
      · isplitl [Hh] <;> iassumption
      icases Hr with ⟨%h, HSI⟩
      imodintro
      isplitr; · ipureintro; exact h
      iexact HSI)
    (fun s h hz => ⟨fun c b hb => h c _ (StableHlo.devRef_mem_ucRefs b hb), funext fun g => hz g (.inr (no_unscoped g.2))⟩)

/-- Each stretch writes within its list. -/
def Within : List (List (HloOp τ sig (Elt F))) → List (List (Ref sig .tc)) → Prop :=
  List.Forall₂ fun ops W => ops.Forall fun op => op.writes ⊆ (W.map (Proc.devRef (τ := τ) .tc)).toFinset

/-- What the stretches' lists leave out is kept. -/
theorem afterL_keep (r : Ref sig .tc) : ∀ (I : List (List (HloOp τ sig (Elt F)))) (Ws : List (List (Ref sig .tc))) (V : Valuation τ sig (Elt F)),
    Within I Ws → (∀ W ∈ Ws, r ∉ W) → afterL I V (Proc.devRef .tc r) = V (Proc.devRef .tc r)
  | _, _, _, .nil, _ => rfl
  | _, _, V, .cons (a := ops) (b := W) h h', hr => by
    rw [StableHlo.afterL_cons, afterL_keep r _ _ _ h' fun W' hW => hr W' (List.mem_cons_of_mem _ hW),
      StableHlo.after_of_writes_sub ops V h (hr W List.mem_cons_self)]

/-- The lists of the stretches before the loop, and of the loop's body. -/
def preW : List (List (Ref sig .tc)) := [hostOps0_W, hostOps0_1_W, hostOps0_2_W, hostOps0_3_W, hostOps0_4_W, hostOps0_5_W, hostOps0_6_W, hostOps0_7_W, hostOps0_8_W, hostOps0_9_W, hostOps0_10_W]
def bodyW : List (List (Ref sig .tc)) := [while0Ops0_W, while0Ops0_1_W, while0Ops0_2_W, while0Ops0_3_W, while0Ops0_4_W, while0Ops0_5_W, while0Ops0_6_W, while0Ops0_7_W, while0Ops0_8_W]

theorem pre_within : Within (F := F) preI preW := .cons hostOps0_writes (.cons hostOps0_1_writes (.cons hostOps0_2_writes (.cons hostOps0_3_writes (.cons hostOps0_4_writes (.cons hostOps0_5_writes (.cons hostOps0_6_writes (.cons hostOps0_7_writes (.cons hostOps0_8_writes (.cons hostOps0_9_writes (.cons hostOps0_10_writes (.nil)))))))))))
theorem body_within : Within (F := F) bodyI bodyW := .cons while0Ops0_writes (.cons while0Ops0_1_writes (.cons while0Ops0_2_writes (.cons while0Ops0_3_writes (.cons while0Ops0_4_writes (.cons while0Ops0_5_writes (.cons while0Ops0_6_writes (.cons while0Ops0_7_writes (.cons while0Ops0_8_writes (.nil)))))))))

/-- What no trip writes is kept through the trips. -/
theorem atK_keep (r : Ref sig .tc) (hr : ∀ W ∈ bodyW, r ∉ W) (hc : r ∉ condOps_W) (c : Dev nD) : ∀ k, atK m k c (Proc.devRef .tc r) = entryContents preI m c (Proc.devRef .tc r)
  | 0 => rfl
  | k + 1 => by
    rw [show atK m (k + 1) c = afterL bodyI (after condOps (atK m k c)) from rfl, afterL_keep r _ _ _ body_within hr,
      StableHlo.after_of_writes_sub condOps _ condOps_writes hc, atK_keep r hr hc c k]

/-- The last condition run writes its own two buffers only. -/
theorem final_eq (r : Ref sig .tc) (hc : r ∉ condOps_W) (c : Dev nD) :
    finalContents condOps preI bodyI postI 50 m c (Proc.devRef .tc r) = atK m 50 c (Proc.devRef .tc r) :=
  StableHlo.after_of_writes_sub condOps _ condOps_writes hc

theorem kept (c : Dev nD) : finalContents condOps preI bodyI postI 50 m c (Proc.devRef .tc main_arg0) = m ((c.tc : Thread nD τ).loc main_arg0) := by
  rw [final_eq m main_arg0 (by decide +kernel) c, atK_keep m main_arg0 (by decide +kernel) (by decide +kernel) c 50]
  exact afterL_keep main_arg0 _ _ _ pre_within (by decide +kernel)

end Cert.ReferenceIdeal.Sl
-- ==== Proof.Val.Host.lean ====
/- The generator as the host's operations spell it, and its agreement with the kernels' spelling. -/
module

public import proofs.«01_k».proof.Proof.Core
public import Idealize.ShloMosaic.Lib.IdealHost
public import Idealize.ShloMosaic.Lib.StableHlo.RunRead

@[expose] public section

set_option maxRecDepth 65536

noncomputable section

namespace Cert.Core

open Idealize.ShloMosaic

/-- The shape of a single word. -/
abbrev T0 : Shape := ⟨0, ![]⟩
/-- A vector of one. -/
abbrev T1 : Shape := ⟨1, ![1]⟩
/-- A vector of two. -/
abbrev T2 : Shape := ⟨1, ![2]⟩

variable {F : FTy → Type} [FloatOps F] {s : Shape} (hb : T0.BroadcastsInDim s (![] : Fin 0 → Fin s.rank))

/-- The word at every index. -/
def bw (k : IVec T0 32) : IVec s 32 := broadcastInDim s ![] hb k
/-- The literal word at every index. -/
def bl (k : BitVec 32) : IVec s 32 := broadcastInDim s ![] hb (constantI T0 32 k)

def hrot (r q : BitVec 32) (x : IVec s 32) : IVec s 32 :=
  ori (Host.shli x (bl hb r)) (Host.shrui x (bl hb q))

def hrnd (r q : BitVec 32) (p : IVec s 32 × IVec s 32) : IVec s 32 × IVec s 32 :=
  (addi p.1 p.2, xori (addi p.1 p.2) (hrot hb r q p.2))

def hgrpA (p : IVec s 32 × IVec s 32) : IVec s 32 × IVec s 32 :=
  hrnd hb 6#32 26#32 (hrnd hb 26#32 6#32 (hrnd hb 15#32 17#32 (hrnd hb 13#32 19#32 p)))

def hgrpB (p : IVec s 32 × IVec s 32) : IVec s 32 × IVec s 32 :=
  hrnd hb 24#32 8#32 (hrnd hb 16#32 16#32 (hrnd hb 29#32 3#32 (hrnd hb 17#32 15#32 p)))

def hinj (a b : IVec T0 32) (c : BitVec 32) (p : IVec s 32 × IVec s 32) : IVec s 32 × IVec s 32 :=
  (addi p.1 (bw hb a), addi (addi p.2 (bw hb b)) (bl hb c))

def hkey3 (k0 k1 : IVec T0 32) : IVec T0 32 := xori (xori k0 k1) (constantI T0 32 466688986#32)

def htf (k0 k1 : IVec T0 32) (hi lo : IVec s 32) : IVec s 32 × IVec s 32 :=
  hinj hb (hkey3 k0 k1) k0 5#32 (hgrpA hb (hinj hb k1 (hkey3 k0 k1) 4#32 (hgrpB hb (hinj hb k0 k1 3#32 (hgrpA hb
    (hinj hb (hkey3 k0 k1) k0 2#32 (hgrpB hb (hinj hb k1 (hkey3 k0 k1) 1#32 (hgrpA hb
      (addi hi (bw hb k0), addi lo (bw hb k1)))))))))))

/-- The draw before it is scaled. -/
def hbits (k0 k1 : IVec T0 32) (hi lo : IVec s 32) : FVec F s .f32 :=
  subf (bitcastToFloat .f32 (ori (Host.shrui (xori (htf hb k0 k1 hi lo).1 (htf hb k0 k1 hi lo).2) (bl hb 9#32)) (bl hb 1065353216#32)))
    (broadcastInDim s ![] hb (constant T0 .f32 0x3F800000#32))

/-- The draw scaled to an interval. -/
def hend {t : Shape} (ht : T0.BroadcastsInDim t (![] : Fin 0 → Fin t.rank)) (d : Fin t.rank → Fin s.rank) (hd : t.BroadcastsInDim s d)
    (x : FVec F s .f32) (a b : FVec F T0 .f32) : FVec F s .f32 :=
  maximumf (broadcastInDim s d hd (broadcastInDim t ![] ht a))
    (addf (mulf x (broadcastInDim s d hd (subf (broadcastInDim t ![] ht b) (broadcastInDim t ![] ht a))))
      (broadcastInDim s d hd (broadcastInDim t ![] ht a)))

/-- One word of a pair. -/
def word0 (h : T2.Slices ![0] T1) (h' : T1.ShapeCasts T0) (k : IVec T2 32) : IVec T0 32 := shapeCast T0 (extractStridedSlice T1 ![0] k h) h'
def word1 (h : T2.Slices ![1] T1) (h' : T1.ShapeCasts T0) (k : IVec T2 32) : IVec T0 32 := shapeCast T0 (extractStridedSlice T1 ![1] k h) h'

/-- The seed's two words. -/
def seed (h : T0.BroadcastsInDim T1 (![] : Fin 0 → Fin T1.rank)) (hc : Shape.Concatenates [T1, T1] T2 0) : IVec T2 32 :=
  concatenate T2 0 [⟨T1, broadcastInDim T1 ![] h (id (Host.shrui (constantI T0 32 1#32) (constantI T0 32 32#32)))⟩,
    ⟨T1, broadcastInDim T1 ![] h (id (andi (constantI T0 32 1#32) (constantI T0 32 4294967295#32)))⟩] hc

abbrev T54 : Shape := ⟨1, ![54]⟩
abbrev T54a : Shape := ⟨2, ![54, 1]⟩
abbrev T54b : Shape := ⟨2, ![54, 2]⟩

/-- The counters of the key table. -/
def ix54 (h : T0.BroadcastsInDim T54 (![] : Fin 0 → Fin T54.rank)) : IVec T54 64 :=
  muli (broadcastInDim T54 ![] h (constantI T0 64 1#64)) (iotaInDim T54 64 0)

/-- The two words of each key. -/
def pair54 (h : T0.BroadcastsInDim T54 (![] : Fin 0 → Fin T54.rank)) (h0 : T2.Slices ![0] T1) (h1 : T2.Slices ![1] T1) (h' : T1.ShapeCasts T0) (k : IVec T2 32) : IVec T54 32 × IVec T54 32 :=
  htf h (word0 h0 h' k) (word1 h1 h' k) (trunci 32 (Host.shrui (ix54 h) (broadcastInDim T54 ![] h (constantI T0 64 32#64)))) (trunci 32 (ix54 h))

/-- The key table. -/
def table (h : T0.BroadcastsInDim T54 (![] : Fin 0 → Fin T54.rank)) (h0 : T2.Slices ![0] T1) (h1 : T2.Slices ![1] T1) (h' : T1.ShapeCasts T0)
    (hp : T54.BroadcastsInDim T54a (![0] : Fin 1 → Fin T54a.rank)) (hc : Shape.Concatenates [T54a, T54a] T54b 1) (k : IVec T2 32) : IVec T54b 32 :=
  concatenate T54b 1 [⟨T54a, broadcastInDim T54a ![0] hp (pair54 h h0 h1 h' k).1⟩, ⟨T54a, broadcastInDim T54a ![0] hp (pair54 h h0 h1 h' k).2⟩] hc

end Cert.Core
end
-- ==== Proof.Val.Word.lean ====
/- The generator on single words: each entry of the generator's arrays is a function of that entry's counter. -/
module

public import proofs.«01_k».proof.Proof.Val.Host
public import Idealize.ShloMosaic.Lib.Pointwise
public import Idealize.ShloMosaic.Lib.IdealHost

@[expose] public section

set_option maxRecDepth 65536

noncomputable section

namespace Cert.Core

open Idealize.ShloMosaic

/-- Rotation of a word. -/
def wrot (r q x : BitVec 32) : BitVec 32 := (x <<< r) ||| (x >>> q)
/-- One round. -/
def wrnd (r q : BitVec 32) (p : BitVec 32 × BitVec 32) : BitVec 32 × BitVec 32 := (p.1 + p.2, (p.1 + p.2) ^^^ wrot r q p.2)
def wgrpA (p : BitVec 32 × BitVec 32) : BitVec 32 × BitVec 32 := wrnd 6#32 26#32 (wrnd 26#32 6#32 (wrnd 15#32 17#32 (wrnd 13#32 19#32 p)))
def wgrpB (p : BitVec 32 × BitVec 32) : BitVec 32 × BitVec 32 := wrnd 24#32 8#32 (wrnd 16#32 16#32 (wrnd 29#32 3#32 (wrnd 17#32 15#32 p)))
def winj (a b c : BitVec 32) (p : BitVec 32 × BitVec 32) : BitVec 32 × BitVec 32 := (p.1 + a, p.2 + b + c)
def wkey (k0 k1 : BitVec 32) : BitVec 32 := (k0 ^^^ k1) ^^^ 466688986#32
/-- The generator on the counter `w`. -/
def wtf (k0 k1 w : BitVec 32) : BitVec 32 × BitVec 32 :=
  winj (wkey k0 k1) k0 5#32 (wgrpA (winj k1 (wkey k0 k1) 4#32 (wgrpB (winj k0 k1 3#32 (wgrpA
    (winj (wkey k0 k1) k0 2#32 (wgrpB (winj k1 (wkey k0 k1) 1#32 (wgrpA (0#32 + k0, w + k1))))))))))
/-- The twenty-three random bits. -/
def wbits (k0 k1 w : BitVec 32) : BitVec 32 := ((wtf k0 k1 w).1 ^^^ (wtf k0 k1 w).2) >>> 9#32

variable {s : Shape}

/-- The pair of arrays holds the pair of words at index `i`. -/
def At (p : IVec s 32 × IVec s 32) (i : s.Idx) (q : BitVec 32 × BitVec 32) : Prop := p.1 i = q.1 ∧ p.2 i = q.2

theorem At.rnd {p : IVec s 32 × IVec s 32} {i : s.Idx} {q : BitVec 32 × BitVec 32} (h : At p i q) {r t : BitVec 32} (hr : r.toNat < 32) (ht : t.toNat < 32) :
    At (rnd r t p) i (wrnd r t q) := by
  obtain ⟨h1, h2⟩ := h
  constructor
  · show p.1 i + p.2 i = q.1 + q.2
    rw [h1, h2]
  · show (p.1 i + p.2 i) ^^^ (IntOp.shli .vector (p.2 i) r ||| IntOp.shrui .vector (p.2 i) t) = _
    unfold IntOp.shli IntOp.shrui
    rw [if_pos hr, if_pos ht, h1, h2]; rfl

theorem At.grpA {p : IVec s 32 × IVec s 32} {i : s.Idx} {q : BitVec 32 × BitVec 32} (h : At p i q) : At (grpA p) i (wgrpA q) :=
  (((h.rnd (by decide) (by decide)).rnd (by decide) (by decide)).rnd (by decide) (by decide)).rnd (by decide) (by decide)
theorem At.grpB {p : IVec s 32 × IVec s 32} {i : s.Idx} {q : BitVec 32 × BitVec 32} (h : At p i q) : At (grpB p) i (wgrpB q) :=
  (((h.rnd (by decide) (by decide)).rnd (by decide) (by decide)).rnd (by decide) (by decide)).rnd (by decide) (by decide)
theorem At.inj {p : IVec s 32 × IVec s 32} {i : s.Idx} {q : BitVec 32 × BitVec 32} (h : At p i q) (a b c : BitVec 32) : At (inj a b c p) i (winj a b c q) := by
  obtain ⟨h1, h2⟩ := h
  constructor
  · show p.1 i + a = q.1 + a
    rw [h1]
  · show p.2 i + b + c = q.2 + b + c
    rw [h2]

theorem tf_at (k0 k1 : BitVec 32) (e : IVec s 32) (i : s.Idx) : At (tf k0 k1 e) i (wtf k0 k1 (e i)) := by
  have h0 : At (addi (broadcast s 0#32) (broadcast s k0), addi e (broadcast s k1)) i (0#32 + k0, e i + k1) := ⟨rfl, rfl⟩
  exact ((((((((((h0.grpA).inj _ _ _).grpB).inj _ _ _).grpA).inj _ _ _).grpB).inj _ _ _).grpA).inj _ _ _)

/-- The real draw of a counter. -/
def u1 (k0 k1 w : BitVec 32) : EReal := Ideal.ofBits .f32 (wbits k0 k1 w ||| 1065353216#32) - Ideal.ofBits .f32 0x3F800000#32

theorem unif_at (k0 k1 : BitVec 32) (e : IVec s 32) (i : s.Idx) : unif (F := Ideal) k0 k1 e i = u1 k0 k1 (e i) := by
  obtain ⟨h1, h2⟩ := tf_at k0 k1 e i
  show Ideal.ofBits .f32 (IntOp.shrui .vector ((tf k0 k1 e).1 i ^^^ (tf k0 k1 e).2 i) 9#32 ||| 1065353216#32) - Ideal.ofBits .f32 0x3F800000#32 = _
  rw [h1, h2]
  unfold IntOp.shrui
  rw [if_pos (by decide)]; rfl

theorem wbits_lt (k0 k1 w : BitVec 32) : (wbits k0 k1 w).toNat < 2 ^ 23 := by
  unfold wbits
  generalize (wtf k0 k1 w).1 ^^^ (wtf k0 k1 w).2 = b
  have hb := b.isLt
  rw [BitVec.ushiftRight_eq', BitVec.toNat_ushiftRight, Nat.shiftRight_eq_div_pow]
  show b.toNat / 2 ^ 9 < 2 ^ 23
  omega

/-- The draw is its bits over two to the twenty-three. -/
theorem u1_eq (k0 k1 w : BitVec 32) : u1 k0 k1 w = (((wbits k0 k1 w).toNat / 2 ^ 23 : ℝ) : EReal) := by
  unfold u1
  have hl := wbits_lt k0 k1 w
  generalize wbits k0 k1 w = b at hl
  rw [Ideal.ofBits_one_f32]
  have hn : (b ||| 1065353216#32).toNat = 127 * 2 ^ 23 + b.toNat := by
    rw [BitVec.toNat_or, Nat.or_comm]
    exact (Nat.shiftLeft_add_eq_or_of_lt hl 127).symm
  generalize b ||| 1065353216#32 = d at hn
  generalize b.toNat = n at hl hn
  have e1 : (d.extractLsb' (8 + 23) 1 == 1#1) = false := by
    have : d.extractLsb' 31 1 = 0#1 := by
      apply BitVec.eq_of_toNat_eq
      rw [BitVec.extractLsb'_toNat, hn, Nat.shiftRight_eq_div_pow]
      show _ % 2 = 0
      omega
    rw [this]; rfl
  have e2 : (d.extractLsb' 23 8).toNat = 127 := by
    rw [BitVec.extractLsb'_toNat, hn, Nat.shiftRight_eq_div_pow]; omega
  have e3 : (d.extractLsb' 0 23).toNat = n := by
    rw [BitVec.extractLsb'_toNat, hn, Nat.shiftRight_eq_div_pow]; omega
  show Ideal.ieee 8 23 d - 1 = _
  unfold Ideal.ieee
  simp only [e1, e2, e3]
  rw [show (1 : EReal) = ((1 : ℝ) : EReal) by norm_cast, if_neg (by norm_num), if_neg (by norm_num), ← EReal.coe_sub]
  congr 1
  push_cast
  norm_num
  ring

theorem u1_nonneg (k0 k1 w : BitVec 32) : 0 ≤ u1 k0 k1 w := by
  rw [u1_eq]
  exact EReal.coe_nonneg.2 (by positivity)

/-- The draw is a real number below one. -/
theorem u1_real (k0 k1 w : BitVec 32) : ∃ r : ℝ, u1 k0 k1 w = (r : EReal) ∧ 0 ≤ r ∧ r < 1 := by
  refine ⟨_, u1_eq k0 k1 w, by positivity, ?_⟩
  rw [div_lt_one (by positivity)]
  exact_mod_cast wbits_lt k0 k1 w

/-! ## The host's spelling -/

variable (hb : T0.BroadcastsInDim s (![] : Fin 0 → Fin s.rank))

theorem bw_eq (k : IVec T0 32) : bw hb k = broadcast s (k ix0) := funext fun j => ValueIdx.broadcastInDim_scalar_apply hb k j
theorem bl_eq (k : BitVec 32) : bl hb k = broadcast s k := funext fun j => ValueIdx.broadcastInDim_scalar_apply hb _ j

theorem hrnd_eq {r q : BitVec 32} (hr : r.toNat < 32) (hq : q.toNat < 32) (p : IVec s 32 × IVec s 32) : hrnd hb r q p = rnd r q p := by
  unfold hrnd rnd rndL rndR hrot rot
  rw [bl_eq, bl_eq]
  refine Prod.ext rfl (funext fun i => ?_)
  show _ ^^^ (IntOp.shli .host _ r ||| IntOp.shrui .host _ q) = _ ^^^ (IntOp.shli .vector _ r ||| IntOp.shrui .vector _ q)
  unfold IntOp.shli IntOp.shrui
  rw [if_pos hr, if_pos hq, if_pos hr, if_pos hq]

theorem hgrpA_eq (p : IVec s 32 × IVec s 32) : hgrpA hb p = grpA p := by
  unfold hgrpA grpA
  rw [hrnd_eq hb (by decide) (by decide), hrnd_eq hb (by decide) (by decide), hrnd_eq hb (by decide) (by decide), hrnd_eq hb (by decide) (by decide)]
theorem hgrpB_eq (p : IVec s 32 × IVec s 32) : hgrpB hb p = grpB p := by
  unfold hgrpB grpB
  rw [hrnd_eq hb (by decide) (by decide), hrnd_eq hb (by decide) (by decide), hrnd_eq hb (by decide) (by decide), hrnd_eq hb (by decide) (by decide)]
theorem hinj_eq (a b : IVec T0 32) (c : BitVec 32) (p : IVec s 32 × IVec s 32) : hinj hb a b c p = inj (a ix0) (b ix0) c p := by
  unfold hinj inj
  rw [bw_eq, bw_eq, bl_eq]

/-- Where the high words are nought, the host's generator is the kernels'. -/
theorem htf_eq (k0 k1 : IVec T0 32) (hi lo : IVec s 32) (h : hi = broadcast s 0#32) : htf hb k0 k1 hi lo = tf (k0 ix0) (k1 ix0) lo := by
  subst h
  unfold htf tf
  simp only [hgrpA_eq, hgrpB_eq, hinj_eq, bw_eq]
  rfl

theorem hbits_at (k0 k1 : IVec T0 32) (hi lo : IVec s 32) (h : hi = broadcast s 0#32) (i : s.Idx) :
    hbits (F := Ideal) hb k0 k1 hi lo i = u1 (k0 ix0) (k1 ix0) (lo i) := by
  rw [← unif_at]
  unfold hbits unif
  rw [htf_eq hb k0 k1 hi lo h, bl_eq, bl_eq]
  show Ideal.ofBits .f32 (IntOp.shrui .host _ 9#32 ||| 1065353216#32) - broadcastInDim s ![] hb (constant (F := Ideal) T0 .f32 0x3F800000#32) i
    = Ideal.ofBits .f32 (IntOp.shrui .vector _ 9#32 ||| 1065353216#32) - Ideal.ofBits .f32 0x3F800000#32
  rw [ValueIdx.broadcastInDim_scalar_apply]
  unfold IntOp.shrui
  rw [if_pos (by decide), if_pos (by decide)]; rfl

/-- Scaled to the unit interval, the draw is itself. -/
theorem hend_at {t : Shape} (ht : T0.BroadcastsInDim t (![] : Fin 0 → Fin t.rank)) (d : Fin t.rank → Fin s.rank) (hd : t.BroadcastsInDim s d)
    (x : FVec Ideal s .f32) (i : s.Idx) (hx : 0 ≤ x i) :
    hend ht d hd x (constant T0 .f32 0x00000000#32) (constant T0 .f32 0x3F800000#32) i = x i := by
  have e (b : BitVec 32) : ∀ i, broadcastInDim s d hd (broadcastInDim t ![] ht (constant (F := Ideal) T0 .f32 b)) i = Ideal.ofBits .f32 b :=
    fun i => by unfold broadcastInDim; rfl
  have e' : ∀ i, broadcastInDim s d hd (subf (broadcastInDim t ![] ht (constant (F := Ideal) T0 .f32 0x3F800000#32)) (broadcastInDim t ![] ht (constant T0 .f32 0x00000000#32))) i
    = Ideal.ofBits .f32 0x3F800000#32 - Ideal.ofBits .f32 0x00000000#32 := fun i => by unfold broadcastInDim; rfl
  show max (broadcastInDim s d hd (broadcastInDim t ![] ht (constant (F := Ideal) T0 .f32 0x00000000#32)) i)
    (x i * broadcastInDim s d hd (subf (broadcastInDim t ![] ht (constant (F := Ideal) T0 .f32 0x3F800000#32)) (broadcastInDim t ![] ht (constant T0 .f32 0x00000000#32))) i
      + broadcastInDim s d hd (broadcastInDim t ![] ht (constant (F := Ideal) T0 .f32 0x00000000#32)) i) = x i
  rw [e, e', Ideal.ofBits_zero_f32, Ideal.ofBits_one_f32, sub_zero, mul_one, add_zero, max_eq_right hx]

end Cert.Core
end
-- ==== Proof.Val.Lanes.lean ====
/- Many counters at once: the generator on the lanes of one natural number, sixty-four bits to a lane. -/
module

public import proofs.«01_k».proof.Proof.Val.Word

@[expose] public section

namespace Cert.Core

/-- The number whose lane `i` is `f i`, for `i` below `L`. -/
def pack : ℕ → (ℕ → ℕ) → ℕ
  | 0, _ => 0
  | L + 1, f => 2 ^ 64 * pack L (fun i => f (i + 1)) + f 0

theorem pack_succ (L : ℕ) (f : ℕ → ℕ) : pack (L + 1) f = 2 ^ 64 * pack L (fun i => f (i + 1)) + f 0 := rfl

theorem pack_congr {L : ℕ} {f g : ℕ → ℕ} (h : ∀ i < L, f i = g i) : pack L f = pack L g := by
  induction L generalizing f g with
  | zero => rfl
  | succ L ih => unfold pack; rw [ih fun i hi => h (i + 1) (by omega), h 0 (by omega)]

theorem pack_add (L : ℕ) (f g : ℕ → ℕ) : pack L f + pack L g = pack L fun i => f i + g i := by
  induction L generalizing f g with
  | zero => rfl
  | succ L ih => unfold pack; rw [← ih]; ring

theorem pack_mul (L : ℕ) (f : ℕ → ℕ) (k : ℕ) : pack L f * k = pack L fun i => f i * k := by
  induction L generalizing f with
  | zero => exact Nat.zero_mul k
  | succ L ih => unfold pack; rw [← ih]; ring

theorem pack_append (a b : ℕ) (f : ℕ → ℕ) : pack (a + b) f = pack a f + 2 ^ (64 * a) * pack b fun i => f (i + a) := by
  induction a generalizing f with
  | zero => simp [pack]
  | succ a ih =>
    rw [show a + 1 + b = (a + b) + 1 by omega, pack_succ, pack_succ, ih, show 64 * (a + 1) = 64 + 64 * a by omega, pow_add]
    have : (fun i => f (i + a + 1)) = fun i => f (i + (a + 1)) := rfl
    rw [this]; ring

/-- Lanes of one number that agree with those of another. -/
theorem pack_inj {L : ℕ} {f g : ℕ → ℕ} (hf : ∀ i < L, f i < 2 ^ 64) (hg : ∀ i < L, g i < 2 ^ 64) (h : pack L f = pack L g) : ∀ i < L, f i = g i := by
  induction L generalizing f g with
  | zero => intro i hi; omega
  | succ L ih =>
    unfold pack at h
    have h0 := hf 0 (by omega)
    have h1 := hg 0 (by omega)
    intro i hi
    rcases i with - | i
    · omega
    · exact ih (f := fun i => f (i + 1)) (g := fun i => g (i + 1)) (fun i hi => hf (i + 1) (by omega)) (fun i hi => hg (i + 1) (by omega)) (by omega) i (by omega)

theorem pack_and {L : ℕ} {f g : ℕ → ℕ} (hf : ∀ i < L, f i < 2 ^ 64) (hg : ∀ i < L, g i < 2 ^ 64) : pack L f &&& pack L g = pack L fun i => f i &&& g i := by
  induction L generalizing f g with
  | zero => exact Nat.and_self 0
  | succ L ih =>
    have h0 := hf 0 (by omega)
    have h1 := hg 0 (by omega)
    unfold pack
    rw [← ih (fun i hi => hf (i + 1) (by omega)) (fun i hi => hg (i + 1) (by omega))]
    refine Nat.eq_of_testBit_eq fun j => ?_
    rw [Nat.testBit_and, Nat.testBit_two_pow_mul_add _ h0, Nat.testBit_two_pow_mul_add _ h1, Nat.testBit_two_pow_mul_add _ (Nat.and_lt_two_pow _ h1), Nat.testBit_and, Nat.testBit_and]
    split <;> rfl

theorem pack_xor {L : ℕ} {f g : ℕ → ℕ} (hf : ∀ i < L, f i < 2 ^ 64) (hg : ∀ i < L, g i < 2 ^ 64) : pack L f ^^^ pack L g = pack L fun i => f i ^^^ g i := by
  induction L generalizing f g with
  | zero => exact Nat.xor_self 0
  | succ L ih =>
    have h0 := hf 0 (by omega)
    have h1 := hg 0 (by omega)
    unfold pack
    rw [← ih (fun i hi => hf (i + 1) (by omega)) (fun i hi => hg (i + 1) (by omega))]
    refine Nat.eq_of_testBit_eq fun j => ?_
    rw [Nat.testBit_xor, Nat.testBit_two_pow_mul_add _ h0, Nat.testBit_two_pow_mul_add _ h1, Nat.testBit_two_pow_mul_add _ (Nat.xor_lt_two_pow h0 h1), Nat.testBit_xor, Nat.testBit_xor]
    split <;> rfl

/-! ## The operations -/

def ladd (o a b : ℕ) : ℕ := (a + b) &&& (o * 4294967295)
def lrot (o r a : ℕ) : ℕ := ((a * 2 ^ r) &&& (o * 4294967295)) + ((a * 2 ^ r) &&& (o * 18446744069414584320)) / 4294967296
def lrnd (o r : ℕ) (p : ℕ × ℕ) : ℕ × ℕ := (ladd o p.1 p.2, ladd o p.1 p.2 ^^^ lrot o r p.2)
def lgrpA (o : ℕ) (p : ℕ × ℕ) : ℕ × ℕ := lrnd o 6 (lrnd o 26 (lrnd o 15 (lrnd o 13 p)))
def lgrpB (o : ℕ) (p : ℕ × ℕ) : ℕ × ℕ := lrnd o 24 (lrnd o 16 (lrnd o 29 (lrnd o 17 p)))
def linj (o : ℕ) (a b c : BitVec 32) (p : ℕ × ℕ) : ℕ × ℕ := (ladd o p.1 (o * a.toNat), ladd o (ladd o p.2 (o * b.toNat)) (o * c.toNat))
def ltf (o : ℕ) (k0 k1 : BitVec 32) (w : ℕ) : ℕ × ℕ :=
  linj o (wkey k0 k1) k0 5#32 (lgrpA o (linj o k1 (wkey k0 k1) 4#32 (lgrpB o (linj o k0 k1 3#32 (lgrpA o
    (linj o (wkey k0 k1) k0 2#32 (lgrpB o (linj o k1 (wkey k0 k1) 1#32 (lgrpA o (o * (0#32 + k0).toNat, ladd o w (o * k1.toNat)))))))))))

/-- The number `a` holds the words `f` in its lanes. -/
def Pk (L a : ℕ) (f : ℕ → BitVec 32) : Prop := a = pack L fun i => (f i).toNat
/-- One in every lane. -/
def Ones (L o : ℕ) : Prop := o = pack L fun _ => 1

section
variable {L o : ℕ} (ho : Ones L o)
include ho

theorem Ones.mul (k : ℕ) : o * k = pack L fun _ => k := by
  rw [ho, pack_mul]; exact pack_congr fun _ _ => Nat.one_mul k

theorem Ones.const (k : BitVec 32) : Pk L (o * k.toNat) fun _ => k := ho.mul _

theorem Pk.add {a b : ℕ} {f g : ℕ → BitVec 32} (hf : Pk L a f) (hg : Pk L b g) : Pk L (ladd o a b) fun i => f i + g i := by
  unfold Pk ladd at *
  rw [hf, hg, pack_add, ho.mul, pack_and (fun i _ => ?_) fun i _ => by norm_num]
  · refine pack_congr fun i _ => ?_
    rw [BitVec.toNat_add]
    exact Nat.and_two_pow_sub_one_eq_mod _ 32
  · have := (f i).isLt; have := (g i).isLt; omega

omit ho in
theorem Pk.xor {a b : ℕ} {f g : ℕ → BitVec 32} (hf : Pk L a f) (hg : Pk L b g) : Pk L (a ^^^ b) fun i => f i ^^^ g i := by
  unfold Pk at *
  rw [hf, hg, pack_xor (fun i _ => by have := (f i).isLt; omega) fun i _ => by have := (g i).isLt; omega]
  exact pack_congr fun i _ => (BitVec.toNat_xor _ _).symm

omit ho in
theorem wrot_toNat (r q : ℕ) (h : r + q = 32) (hr : r < 32) (hq : q < 32) (x : BitVec 32) :
    (wrot (BitVec.ofNat 32 r) (BitVec.ofNat 32 q) x).toNat = (x.toNat * 2 ^ r) % 2 ^ 32 + (x.toNat * 2 ^ r) / 2 ^ 32 := by
  have hx := x.isLt
  have e : (2 : ℕ) ^ 32 = 2 ^ q * 2 ^ r := by rw [← pow_add, Nat.add_comm q r, h]
  have hr' : (BitVec.ofNat 32 r).toNat = r := by rw [BitVec.toNat_ofNat]; omega
  have hq' : (BitVec.ofNat 32 q).toNat = q := by rw [BitVec.toNat_ofNat]; omega
  unfold wrot
  rw [BitVec.toNat_or, BitVec.shiftLeft_eq', BitVec.ushiftRight_eq', BitVec.toNat_shiftLeft, BitVec.toNat_ushiftRight, hr', hq', Nat.shiftLeft_eq, Nat.shiftRight_eq_div_pow]
  rw [e, Nat.mul_mod_mul_right, Nat.mul_div_mul_right _ _ (by positivity), ← Nat.shiftLeft_eq]
  refine (Nat.shiftLeft_add_eq_or_of_lt ?_ _).symm
  rw [Nat.div_lt_iff_lt_mul (by positivity), Nat.mul_comm, ← e]
  exact hx

omit ho in
theorem and_high (y : ℕ) (hy : y < 2 ^ 64) : y &&& 18446744069414584320 = y / 2 ^ 32 * 4294967296 := by
  refine Nat.eq_of_testBit_eq fun j => ?_
  rw [show (18446744069414584320 : ℕ) = 2 ^ 32 * (2 ^ 32 - 1) by norm_num, show y / 2 ^ 32 * 4294967296 = 2 ^ 32 * (y / 2 ^ 32) by ring,
    Nat.testBit_and, Nat.testBit_two_pow_mul, Nat.testBit_two_pow_mul, Nat.testBit_two_pow_sub_one, Nat.testBit_div_two_pow]
  by_cases h : 32 ≤ j
  · by_cases h2 : j < 64
    · simp [h, show j - 32 < 32 by omega, show j - 32 + 32 = j by omega]
    · rw [Nat.testBit_lt_two_pow (lt_of_lt_of_le hy (Nat.pow_le_pow_right (by norm_num) (by omega))), show j - 32 + 32 = j by omega,
        Nat.testBit_lt_two_pow (lt_of_lt_of_le hy (Nat.pow_le_pow_right (by norm_num) (by omega)))]
      simp
  · simp [h]

theorem Pk.rot {a : ℕ} {f : ℕ → BitVec 32} (hf : Pk L a f) (r q : ℕ) (h : r + q = 32) (hr : r < 32) (hq : q < 32) :
    Pk L (lrot o r a) fun i => wrot (BitVec.ofNat 32 r) (BitVec.ofNat 32 q) (f i) := by
  have hb : ∀ i, (f i).toNat * 2 ^ r < 2 ^ 64 := fun i => by
    have h1 := (f i).isLt
    have h2 : (2 : ℕ) ^ r ≤ 2 ^ 32 := Nat.pow_le_pow_right (by norm_num) (by omega)
    calc (f i).toNat * 2 ^ r ≤ (f i).toNat * 2 ^ 32 := Nat.mul_le_mul_left _ h2
      _ < 2 ^ 64 := by omega
  unfold Pk lrot at *
  rw [hf, pack_mul, ho.mul, ho.mul, pack_and (fun i _ => hb i) fun i _ => by norm_num, pack_and (fun i _ => hb i) fun i _ => by norm_num]
  rw [pack_congr (L := L) (fun i _ => and_high _ (hb i)), ← pack_mul, Nat.mul_div_cancel _ (by norm_num), pack_add]
  refine pack_congr fun i _ => ?_
  rw [wrot_toNat r q h hr hq]
  exact congrArg (· + _) (Nat.and_two_pow_sub_one_eq_mod _ 32)

/-- The pair of numbers holds the pairs `f` in its lanes. -/
def PP (L : ℕ) (p : ℕ × ℕ) (f : ℕ → BitVec 32 × BitVec 32) : Prop := Pk L p.1 (fun i => (f i).1) ∧ Pk L p.2 fun i => (f i).2

variable {p : ℕ × ℕ} {f : ℕ → BitVec 32 × BitVec 32}

theorem PP.rnd (h : PP L p f) (r q : ℕ) (hq : r + q = 32) (h1 : r < 32) (h2 : q < 32) : PP L (lrnd o r p) fun i => wrnd (BitVec.ofNat 32 r) (BitVec.ofNat 32 q) (f i) :=
  ⟨h.1.add ho h.2, (h.1.add ho h.2).xor (h.2.rot ho r q hq h1 h2)⟩
theorem PP.grpA (h : PP L p f) : PP L (lgrpA o p) fun i => wgrpA (f i) :=
  (((h.rnd ho 13 19 rfl (by norm_num) (by norm_num)).rnd ho 15 17 rfl (by norm_num) (by norm_num)).rnd ho 26 6 rfl (by norm_num) (by norm_num)).rnd ho 6 26 rfl (by norm_num) (by norm_num)
theorem PP.grpB (h : PP L p f) : PP L (lgrpB o p) fun i => wgrpB (f i) :=
  (((h.rnd ho 17 15 rfl (by norm_num) (by norm_num)).rnd ho 29 3 rfl (by norm_num) (by norm_num)).rnd ho 16 16 rfl (by norm_num) (by norm_num)).rnd ho 24 8 rfl (by norm_num) (by norm_num)
theorem PP.inj (h : PP L p f) (a b c : BitVec 32) : PP L (linj o a b c p) fun i => winj a b c (f i) :=
  ⟨h.1.add ho (ho.const a), (h.2.add ho (ho.const b)).add ho (ho.const c)⟩

theorem ltf_at (k0 k1 : BitVec 32) {w : ℕ} {e : ℕ → BitVec 32} (h : Pk L w e) : PP L (ltf o k0 k1 w) fun i => wtf k0 k1 (e i) := by
  have h0 : PP L (o * (0#32 + k0).toNat, ladd o w (o * k1.toNat)) fun i => (0#32 + k0, e i + k1) := ⟨ho.const _, h.add ho (ho.const k1)⟩
  exact ((((((((((h0.grpA ho).inj ho _ _ _).grpB ho).inj ho _ _ _).grpA ho).inj ho _ _ _).grpB ho).inj ho _ _ _).grpA ho).inj ho _ _ _)

end

/-- One in each of two to the `n` lanes, and the lanes' numbers. -/
def lones : ℕ → ℕ
  | 0 => 1
  | n + 1 => lones n + 2 ^ (64 * 2 ^ n) * lones n
def liota : ℕ → ℕ
  | 0 => 0
  | n + 1 => liota n + 2 ^ (64 * 2 ^ n) * (liota n + lones n * 2 ^ n)

theorem lones_at (n : ℕ) : Ones (2 ^ n) (lones n) := by
  induction n with
  | zero => rfl
  | succ n ih =>
    unfold Ones at *
    rw [show 2 ^ (n + 1) = 2 ^ n + 2 ^ n by omega, pack_append, ← ih]; rfl

theorem liota_at (n : ℕ) : liota n = pack (2 ^ n) fun i => i := by
  induction n with
  | zero => rfl
  | succ n ih =>
    unfold liota
    rw [show 2 ^ (n + 1) = 2 ^ n + 2 ^ n by omega, pack_append, ih, (lones_at n).mul, pack_add]

/-- Whether every counter of block `c` has a bit to draw. -/
def some1 (k0 k1 : BitVec 32) (n c : ℕ) : Bool :=
  let p := ltf (lones n) k0 k1 (ladd (lones n) (liota n) (lones n * (BitVec.ofNat 32 (c * 2 ^ n)).toNat))
  Nat.beq (((p.1 ^^^ p.2) + lones n * 4294966784) &&& (lones n * 4294967296)) (lones n * 4294967296)

theorem some1_at (k0 k1 : BitVec 32) (n c : ℕ) (hn : n ≤ 32) (h : some1 k0 k1 n c = true) (i : ℕ) (hi : i < 2 ^ n) :
    wbits k0 k1 (BitVec.ofNat 32 (c * 2 ^ n + i)) ≠ 0 := by
  have ho := lones_at n
  have hio : Pk (2 ^ n) (liota n) fun i => BitVec.ofNat 32 i := (liota_at n).trans (pack_congr fun i hi => by
    rw [BitVec.toNat_ofNat, Nat.mod_eq_of_lt (lt_of_lt_of_le hi (Nat.pow_le_pow_right (by norm_num) hn))])
  have hp := ltf_at ho k0 k1 (hio.add ho (ho.const (BitVec.ofNat 32 (c * 2 ^ n))))
  have hx := hp.1.xor hp.2
  have e := Nat.eq_of_beq_eq_true h
  unfold Pk at hx
  rw [hx, ho.mul, ho.mul, pack_add, pack_and (fun i _ => ?_) fun i _ => by norm_num] at e
  · have e2 : ((wtf k0 k1 (BitVec.ofNat 32 i + BitVec.ofNat 32 (c * 2 ^ n))).1 ^^^ (wtf k0 k1 (BitVec.ofNat 32 i + BitVec.ofNat 32 (c * 2 ^ n))).2).toNat + 4294966784 &&& 4294967296 = 4294967296 :=
      pack_inj (fun i _ => Nat.and_lt_two_pow _ (by norm_num)) (fun i _ => by norm_num) e i hi
    rw [← BitVec.ofNat_add, Nat.add_comm i] at e2
    unfold wbits
    generalize (wtf k0 k1 (BitVec.ofNat 32 (c * 2 ^ n + i))).1 ^^^ (wtf k0 k1 (BitVec.ofNat 32 (c * 2 ^ n + i))).2 = x at e2
    intro hz
    have h3 := congrArg BitVec.toNat hz
    rw [BitVec.ushiftRight_eq', BitVec.toNat_ushiftRight, Nat.shiftRight_eq_div_pow] at h3
    have h4 : x.toNat / 2 ^ 9 = 0 := h3
    have h5 := Nat.and_le_left (n := x.toNat + 4294966784) (m := 4294967296)
    omega
  · have := ((wtf k0 k1 (BitVec.ofNat 32 i + BitVec.ofNat 32 (c * 2 ^ n))).1 ^^^ (wtf k0 k1 (BitVec.ofNat 32 i + BitVec.ofNat 32 (c * 2 ^ n))).2).isLt
    show _ + _ < _
    omega

/-- Every block of sixteen thousand counters, with the key that the first points are drawn from. -/
theorem blocks_some : ∀ c < 128, some1 3568232559#32 2761185182#32 14 c = true := by decide +kernel

/-- With that key no counter's draw is nought. -/
theorem draws_some (n : ℕ) (h : n < 2 ^ 21) : wbits 3568232559#32 2761185182#32 (BitVec.ofNat 32 n) ≠ 0 := by
  have := some1_at _ _ 14 (n / 2 ^ 14) (by norm_num) (blocks_some _ (by omega)) (n % 2 ^ 14) (Nat.mod_lt _ (by norm_num))
  rwa [Nat.div_add_mod'] at this

end Cert.Core
end
-- ==== Proof.Val.Spec.lean ====
/- One row of the sampler over the extended reals, as both programs compute it. -/
module

public import proofs.«01_k».proof.Proof.Val.Word

@[expose] public section

noncomputable section

namespace Cert.Core

open Idealize.ShloMosaic

/-- A row's state. -/
structure RS where
  a : Fin 128 → EReal
  b : Fin 128 → EReal
  z : Fin 128 → EReal
  r : Bool

/-- Minus half the sum of a row's squares. -/
def rpot (z : Fin 128 → EReal) : EReal := Ideal.ofBits .f32 0xBF000000#32 * ∑ k, z k * z k

/-- The left end after a trip. -/
def advA (x : Fin 128 → EReal) (q : RS) (c : Fin 128) : EReal := if q.r = true ∧ q.z c < x c then q.z c else q.a c
/-- The right end after a trip. -/
def advB (x : Fin 128 → EReal) (q : RS) (c : Fin 128) : EReal := if q.r = true ∧ ¬ q.z c < x c then q.z c else q.b c
/-- The proposal after a trip. -/
def advZ (x u : Fin 128 → EReal) (q : RS) (c : Fin 128) : EReal :=
  if q.r = true then u c * (advB x q c - advA x q c) + advA x q c else q.z c

/-- One trip. -/
def adv (x u : Fin 128 → EReal) (lim : (Fin 128 → EReal) → Bool) (q : RS) : RS where
  a := advA x q
  b := advB x q
  z := advZ x u q
  r := q.r && lim (advZ x u q)

/-- The state after `k` trips. -/
def it (x : Fin 128 → EReal) (u : ℕ → Fin 128 → EReal) (lim : (Fin 128 → EReal) → Bool) (q : RS) : ℕ → RS
  | 0 => q
  | k + 1 => adv x (u k) lim (it x u lim q k)

/-- A row no longer drawn keeps its proposal. -/
theorem it_rest (x : Fin 128 → EReal) (u : ℕ → Fin 128 → EReal) (lim : (Fin 128 → EReal) → Bool) (q : RS) (n : ℕ)
    (h : (it x u lim q n).r = false) (k : ℕ) : (it x u lim q (n + k)).r = false ∧ (it x u lim q (n + k)).z = (it x u lim q n).z := by
  induction k with
  | zero => exact ⟨h, rfl⟩
  | succ k ih =>
    obtain ⟨h1, h2⟩ := ih
    refine ⟨?_, ?_⟩
    · show ((it x u lim q (n + k)).r && _) = false
      rw [h1]; rfl
    · rw [← h2]
      funext c
      show advZ x _ (it x u lim q (n + k)) c = _
      unfold advZ
      rw [if_neg (by rw [h1]; decide)]

/-- The width drawn from `u`. -/
def rwid (u : EReal) : EReal := Ideal.div (Ideal.log (Ideal.ofBits .f32 0x3F800000#32 - u)) (Ideal.ofBits .f32 0xBDCCCCCD#32)
/-- A half. -/
def half (s : EReal) : EReal := Ideal.div s (Ideal.ofBits .f32 0x40000000#32)

/-- The state drawn about the centre `l` with widths `s`. -/
def start (l s u : Fin 128 → EReal) (lim : (Fin 128 → EReal) → Bool) : RS where
  a c := l c - half (s c)
  b c := l c + half (s c)
  z c := u c * ((l c + half (s c)) - (l c - half (s c))) + (l c - half (s c))
  r := lim fun c => u c * ((l c + half (s c)) - (l c - half (s c))) + (l c - half (s c))

/-- The reference's centre. -/
def ctr (u x : EReal) : EReal := u * Ideal.ofBits .f32 0x00000000#32 + (x - half (Ideal.ofBits .f32 0x00000000#32))
/-- The reference's width. -/
def swid (l x w : EReal) : EReal := max (l - x) (-(l - x)) * Ideal.ofBits .f32 0x40000000#32 + w

theorem two_f32 : Ideal.ofBits .f32 0x40000000#32 = ((2 : ℝ) : EReal) := by
  simp [Ideal.ofBits, Ideal.ieee, -EReal.coe_mul]; norm_num
theorem mhalf_f32 : Ideal.ofBits .f32 0xBF000000#32 = ((-(1 / 2) : ℝ) : EReal) := by
  simp [Ideal.ofBits, Ideal.ieee, -EReal.coe_mul, -EReal.coe_neg]; norm_num
theorem mtenth_f32 : ∃ r : ℝ, r ≠ 0 ∧ Ideal.ofBits .f32 0xBDCCCCCD#32 = (r : EReal) := by
  refine ⟨_, ?_, by simp [Ideal.ofBits, Ideal.ieee, -EReal.coe_mul, -EReal.coe_neg]; rfl⟩
  norm_num

theorem half_coe (r : ℝ) : half (r : EReal) = ((r * (1 / 2) : ℝ) : EReal) := by
  unfold half; rw [two_f32, Ideal.div_coe (by norm_num)]; norm_cast
theorem half_top : half ⊤ = ⊤ := by
  unfold half; rw [two_f32, Ideal.div_coe (by norm_num)]
  exact EReal.top_mul_coe_of_pos (by norm_num)
theorem half_zero : half 0 = 0 := by
  have := half_coe 0; simpa using this

/-- The logarithm of a positive real is real. -/
theorem log_real {u r : ℝ} (h : r = u) (h1 : r < 1) : ∃ l : ℝ, Ideal.log (Ideal.ofBits .f32 0x3F800000#32 - (u : EReal)) = (l : EReal) := by
  subst h
  refine ⟨Real.log (1 - r), ?_⟩
  rw [Ideal.ofBits_one_f32, show (1 : EReal) - (r : EReal) = ((1 - r : ℝ) : EReal) by norm_cast]
  show (if 1 - r ≤ 0 then ⊥ else (Real.log (1 - r) : EReal)) = _
  rw [if_neg (by linarith)]

theorem rwid_real {u : ℝ} (h1 : u < 1) : ∃ l : ℝ, rwid (u : EReal) = (l : EReal) := by
  obtain ⟨l, hl⟩ := log_real rfl h1
  obtain ⟨t, ht, he⟩ := mtenth_f32
  refine ⟨l * (1 / t), ?_⟩
  unfold rwid; rw [hl, he, Ideal.div_coe ht]; norm_cast

/-- Off the reals a row's potential is the bottom. -/
theorem rpot_bot (x : Fin 128 → EReal) (c : Fin 128) (h : x c = ⊥ ∨ x c = ⊤) : rpot x = ⊥ := by
  have h0 : ∀ k, 0 ≤ x k * x k := fun k => by
    rcases le_total 0 (x k) with h | h
    · exact mul_nonneg h h
    · have := EReal.neg_nonneg.2 h
      simpa using mul_nonneg this this
  have hc : x c * x c = ⊤ := by rcases h with h | h <;> rw [h] <;> rfl
  have hs : ∑ k, x k * x k = ⊤ := by
    refine top_le_iff.1 ?_
    rw [← hc]
    exact Finset.single_le_sum (f := fun k => x k * x k) (fun k _ => h0 k) (Finset.mem_univ c)
  unfold rpot
  rw [hs, mhalf_f32]
  exact EReal.coe_mul_top_of_neg (by norm_num)

/-- The programs' first states give one proposal, and where they differ no row is drawn again. -/
theorem it_start (x u1 u2 u3 : Fin 128 → EReal) (u : ℕ → Fin 128 → EReal) (lim : (Fin 128 → EReal) → Bool)
    (h1 : ∀ c, ∃ r : ℝ, u1 c = (r : EReal)) (h2 : ∀ c, ∃ r : ℝ, u2 c = (r : EReal) ∧ r < 1) (h3 : ∀ c, ∃ r : ℝ, u3 c = (r : EReal) ∧ 0 < r)
    (hlim : rpot x = ⊥ → ∀ z, lim z = false) (k : ℕ) :
    (it x u lim (start (fun c => ctr (u1 c) (x c)) (fun c => swid (ctr (u1 c) (x c)) (x c) (rwid (u2 c))) u3 lim) k).z
      = (it x u lim (start x (fun c => rwid (u2 c)) u3 lim) k).z := by
  have hctr : ∀ c, ctr (u1 c) (x c) = x c := fun c => by
    obtain ⟨r, hr⟩ := h1 c
    unfold ctr; rw [Ideal.ofBits_zero_f32, half_zero, mul_zero, sub_zero, zero_add]
  simp only [hctr]
  by_cases hx : ∀ c, x c ≠ ⊥ ∧ x c ≠ ⊤
  · have : ∀ c, swid (x c) (x c) (rwid (u2 c)) = rwid (u2 c) := fun c => by
      obtain ⟨t, ht⟩ : ∃ t : ℝ, x c = (t : EReal) := ⟨(x c).toReal, (EReal.coe_toReal (hx c).2 (hx c).1).symm⟩
      unfold swid
      rw [ht, show ((t : EReal) - (t : EReal)) = 0 by norm_cast; simp, neg_zero, max_self, zero_mul, zero_add]
    simp only [this]
  · push Not at hx
    obtain ⟨c0, hc0⟩ := hx
    have hb : rpot x = ⊥ := by
      refine rpot_bot x c0 ?_
      by_cases h : x c0 = ⊥
      · exact .inl h
      · exact .inr (hc0 h)
    have hl := hlim hb
    have e1 := it_rest x u lim (start x (fun c => swid (x c) (x c) (rwid (u2 c))) u3 lim) 0 (hl _) k
    have e2 := it_rest x u lim (start x (fun c => rwid (u2 c)) u3 lim) 0 (hl _) k
    rw [Nat.zero_add] at e1 e2
    rw [e1.2, e2.2]
    funext c
    show u3 c * ((x c + half _) - (x c - half _)) + (x c - half _) = u3 c * ((x c + half _) - (x c - half _)) + (x c - half _)
    obtain ⟨w, hw⟩ := h2 c
    obtain ⟨w', hw'⟩ := rwid_real hw.2
    rw [← hw.1] at hw'
    simp only [hw', half_coe]
    obtain ⟨t, ht, ht0⟩ := h3 c
    have hs : x c = ⊥ ∨ x c = ⊤ → half (swid (x c) (x c) (w' : EReal)) = ⊤ := fun h => by
      have : max (x c - x c) (-(x c - x c)) = ⊤ := by rcases h with h | h <;> rw [h] <;> rfl
      unfold swid
      rw [this, two_f32, EReal.top_mul_coe_of_pos (by norm_num), EReal.top_add_coe, half_top]
    by_cases hbt : x c = ⊥
    · rw [hs (.inl hbt), hbt, EReal.bot_sub, EReal.bot_sub, EReal.add_bot, EReal.add_bot]
    · by_cases htp : x c = ⊤
      · rw [hs (.inr htp), htp, ht, EReal.top_sub_coe, EReal.top_add_coe]
        rw [show (⊤ : EReal) - ⊤ = ⊥ from rfl, EReal.add_bot, EReal.coe_mul_bot_of_pos ht0, EReal.bot_add]
      · obtain ⟨t, ht⟩ : ∃ t : ℝ, x c = (t : EReal) := ⟨(x c).toReal, (EReal.coe_toReal htp hbt).symm⟩
        have : swid (x c) (x c) (w' : EReal) = (w' : EReal) := by
          unfold swid
          rw [ht, show ((t : EReal) - (t : EReal)) = 0 by norm_cast; simp, neg_zero, max_self, zero_mul, zero_add]
        rw [this, half_coe]

/-- Whether a proposal is still to be drawn again: the level less the same real on both sides. -/
theorem lim_eq (p q : EReal) (l C : ℝ) : (p - (C : EReal) < (l : EReal) + (q - (C : EReal))) ↔ p < (l : EReal) + q := by
  induction p with
  | bot =>
    induction q with
    | bot => simp
    | top => simp
    | coe q => exact iff_of_true (by rw [EReal.bot_sub, ← EReal.coe_sub, ← EReal.coe_add]; exact EReal.bot_lt_coe _) (by rw [← EReal.coe_add]; exact EReal.bot_lt_coe _)
  | top =>
    induction q with
    | bot => simp
    | top => simp
    | coe q => norm_cast; simp
  | coe p =>
    induction q with
    | bot => simp
    | top => exact iff_of_true (by rw [EReal.top_sub_coe, EReal.coe_add_top, ← EReal.coe_sub]; exact EReal.coe_lt_top _) (by rw [EReal.coe_add_top]; exact EReal.coe_lt_top _)
    | coe q => norm_cast; constructor <;> intro h <;> linarith

/-- The draw of key `n` at column `c` of row `R`. -/
def U (kw : ℕ → Fin 2 → BitVec 32) (n R : ℕ) (c : Fin 128) : EReal := u1 (kw n 0) (kw n 1) (BitVec.ofNat 32 (128 * R + c.val))
/-- The row's part of the level that is drawn. -/
def rlog (kw : ℕ → Fin 2 → BitVec 32) (R : ℕ) : EReal :=
  Ideal.log (Ideal.ofBits .f32 0x3F800000#32 - u1 (kw 0 0) (kw 0 1) (BitVec.ofNat 32 R))
/-- Whether a proposal of row `R` is below the level. -/
def below (kw : ℕ → Fin 2 → BitVec 32) (R : ℕ) (x z : Fin 128 → EReal) : Bool := decide (rpot z < rlog kw R + rpot x)
/-- Row `R`'s first state. -/
def full0 (kw : ℕ → Fin 2 → BitVec 32) (R : ℕ) (x : Fin 128 → EReal) : RS :=
  start x (fun c => rwid (U kw 2 R c)) (fun c => U kw 3 R c) (below kw R x)
/-- Row `R` after `k` trips. -/
def full (kw : ℕ → Fin 2 → BitVec 32) (R : ℕ) (x : Fin 128 → EReal) (k : ℕ) : RS :=
  it x (fun i c => U kw (i + 4) R c) (below kw R x) (full0 kw R x) k

end Cert.Core
end
-- ==== Proof.KI.Row.lean ====
/- The kernels' steps one row at a time, over the extended reals. -/
module

public import proofs.«01_k».proof.Proof.Val.Spec
public import proofs.«01_k».proof.Proof.KI.Run

@[expose] public section

set_option maxRecDepth 65536

noncomputable section

namespace Cert.KernelIdeal.Sl

open Idealize.ShloMosaic
open Cert.KernelIdeal Cert.KernelIdeal.Gen Cert.Core

/-- Row `j` of the state. -/
structure Rep (t : St Ideal) (j : Fin 1024) (q : RS) : Prop where
  a : ∀ c, t.a (ix2 j c) = q.a c
  b : ∀ c, t.b (ix2 j c) = q.b c
  z : ∀ c, t.z (ix2 j c) = q.z c
  r : t.r (ix2 j 0) = if q.r = true then 1 else 0

theorem pot_at (x : FVec Ideal S1024x128 .f32) (j : Fin 1024) : pot x (ix2 j 0) = rpot fun c => x (ix2 j c) := by
  unfold pot rpot
  pointwise

theorem again_at (r : FVec Ideal S1024x1 .f32) (j : Fin 1024) : again r (ix2 j 0) = BitVec.ofBool (decide (0 < r (ix2 j 0))) := by
  show BitVec.ofBool (decide (Ideal.ofBits .f32 0x00000000#32 < r (ix2 j 0))) = _
  rw [Ideal.ofBits_zero_f32]

theorem flag_at (c : IVec S1024x1 1) (j : Fin 1024) (b : Bool) (h : c (ix2 j 0) = BitVec.ofBool b) :
    flag (F := Ideal) c (ix2 j 0) = if b = true then 1 else 0 := by
  show (if c (ix2 j 0) = 1 then Ideal.ofBits .f32 0x3F800000#32 else Ideal.ofBits .f32 0x00000000#32) = _
  rw [h, Ideal.ofBits_zero_f32, Ideal.ofBits_one_f32]
  cases b <;> rfl

theorem bc_at (c : IVec S1024x1 1) (j : Fin 1024) (k : Fin 128) : broadcastTo S1024x128 c broadcasts_S1024x1_S1024x128 (ix2 j k) = c (ix2 j 0) := by
  pointwise

theorem bcs_at (c : IVec S1024x1 1) (j : Fin 1024) (k : Fin 128) :
    broadcastTo S1024x128 (shapeCast S1024x1 c shapeCasts_S1024x1_S1024x1) broadcasts_S1024x1_S1024x128 (ix2 j k) = c (ix2 j 0) := by
  rw [bc_at]; exact congrFun (shapeCast_self _ _) _

section
variable {t : St Ideal} {j : Fin 1024} {q : RS} (h : Rep t j q)
include h

theorem Rep.again : again t.r (ix2 j 0) = BitVec.ofBool q.r := by
  rw [again_at, h.r]
  cases q.r <;> simp

theorem Rep.nxA (x : FVec Ideal S1024x128 .f32) (c : Fin 128) : nxA x t (ix2 j c) = advA (fun c => x (ix2 j c)) q c := by
  show (if broadcastTo S1024x128 (Sl.again t.r) broadcasts_S1024x1_S1024x128 (ix2 j c) &&& BitVec.ofBool (decide (t.z (ix2 j c) < x (ix2 j c))) = 1 then t.z (ix2 j c) else t.a (ix2 j c)) = _
  rw [bc_at, h.again, h.z, h.a]
  unfold advA
  by_cases h2 : q.z c < x (ix2 j c) <;> cases q.r <;> simp [h2]

theorem Rep.nxB (x : FVec Ideal S1024x128 .f32) (c : Fin 128) : nxB x t (ix2 j c) = advB (fun c => x (ix2 j c)) q c := by
  show (if broadcastTo S1024x128 (Sl.again t.r) broadcasts_S1024x1_S1024x128 (ix2 j c) &&& (BitVec.ofBool (decide (t.z (ix2 j c) < x (ix2 j c))) ^^^ 1#1) = 1 then t.z (ix2 j c) else t.b (ix2 j c)) = _
  rw [bc_at, h.again, h.z, h.b]
  unfold advB
  by_cases h2 : q.z c < x (ix2 j c) <;> cases q.r <;> simp [h2]

theorem Rep.nxZ (u x : FVec Ideal S1024x128 .f32) (c : Fin 128) : nxZ u x t (ix2 j c) = advZ (fun c => x (ix2 j c)) (fun c => u (ix2 j c)) q c := by
  show (if broadcastTo S1024x128 (shapeCast S1024x1 (Sl.again t.r) shapeCasts_S1024x1_S1024x1) broadcasts_S1024x1_S1024x128 (ix2 j c) = 1
    then u (ix2 j c) * (Sl.nxB x t (ix2 j c) - Sl.nxA x t (ix2 j c)) + Sl.nxA x t (ix2 j c) else t.z (ix2 j c)) = _
  rw [bcs_at, h.again, h.z, h.nxA, h.nxB]
  unfold advZ
  cases q.r <;> simp

theorem Rep.nxt (u x : FVec Ideal S1024x128 .f32) (y : FVec Ideal S1024x1 .f32) (lim : (Fin 128 → EReal) → Bool)
    (hl : ∀ z, lim z = decide (rpot z < y (ix2 j 0))) :
    Rep (nxt u x y t) j (adv (fun c => x (ix2 j c)) (fun c => u (ix2 j c)) lim q) where
  a := h.nxA x
  b := h.nxB x
  z := h.nxZ u x
  r := by
    refine flag_at _ j _ ?_
    show Sl.again t.r (ix2 j 0) &&& BitVec.ofBool (decide (pot (Sl.nxZ u x t) (ix2 j 0) < y (ix2 j 0))) = _
    rw [h.again, pot_at, funext (h.nxZ u x)]
    show _ = BitVec.ofBool (q.r && lim _)
    rw [hl]
    cases q.r <;> cases decide (rpot (advZ (fun c => x (ix2 j c)) (fun c => u (ix2 j c)) q) < y (ix2 j 0)) <;> rfl

end

theorem ini_rep (w u x : FVec Ideal S1024x128 .f32) (y : FVec Ideal S1024x1 .f32) (j : Fin 1024) (lim : (Fin 128 → EReal) → Bool)
    (hl : ∀ z, lim z = decide (rpot z < y (ix2 j 0))) :
    Rep (ini w u x y) j (start (fun c => x (ix2 j c)) (fun c => w (ix2 j c)) (fun c => u (ix2 j c)) lim) where
  a _ := rfl
  b _ := rfl
  z _ := rfl
  r := by
    refine flag_at _ j _ ?_
    show BitVec.ofBool (decide (pot (draw u (lo w x) (hi w x)) (ix2 j 0) < y (ix2 j 0))) = _
    rw [pot_at]
    show _ = BitVec.ofBool (lim _)
    rw [hl]; rfl

/-! ## The numbers of the rows -/

theorem flat_at (r : IVec S1024x1 32) (j : Fin 1024) (c : Fin 128) (R : ℕ) (h : r (ix2 j 0) = BitVec.ofNat 32 R) :
    flatIds r (ix2 j c) = BitVec.ofNat 32 (128 * R + c.val) := by
  have e : flatIds r (ix2 j c) = r (ix2 j 0) * 128#32 + BitVec.ofNat 32 c.val := by
    unfold flatIds; pointwise; rfl
  rw [e, h, BitVec.ofNat_add, BitVec.ofNat_mul, BitVec.mul_comm]

theorem lev_at (k0 k1 : BitVec 32) (r : IVec S1024x1 32) (x : FVec Ideal S1024x128 .f32) (j : Fin 1024) (R : ℕ) (h : r (ix2 j 0) = BitVec.ofNat 32 R) :
    lev k0 k1 r x (ix2 j 0) = Ideal.log (Ideal.ofBits .f32 0x3F800000#32 - u1 k0 k1 (BitVec.ofNat 32 R)) + rpot fun c => x (ix2 j c) := by
  show Ideal.log (Ideal.ofBits .f32 0x3F800000#32 - unif (F := Ideal) k0 k1 r (ix2 j 0)) + pot x (ix2 j 0) = _
  rw [unif_at, pot_at, h]

theorem wid_at (k0 k1 : BitVec 32) (e : IVec S1024x128 32) (i : S1024x128.Idx) : wid (F := Ideal) k0 k1 e i = rwid (u1 k0 k1 (e i)) := by
  show Ideal.div (Ideal.log (Ideal.ofBits .f32 0x3F800000#32 - unif (F := Ideal) k0 k1 e i)) _ = _
  rw [unif_at]; rfl

variable (K : IVec S54x2 32) (r : IVec S1024x1 32) (x : FVec Ideal S1024x128 .f32) (j : Fin 1024) (R : ℕ) (h : r (ix2 j 0) = BitVec.ofNat 32 R)
include h

theorem below_at (z : Fin 128 → EReal) : below (wd K) R (fun c => x (ix2 j c)) z = decide (rpot z < levK K r x (ix2 j 0)) := by
  unfold levK; rw [lev_at _ _ r x j R h]; rfl

theorem step_rep (n : ℕ) (t : St Ideal) (ht : Rep t j (full (wd K) R (fun c => x (ix2 j c)) n)) :
    Rep (step K (flatIds r) x (levK K r x) (n + 4) t) j (full (wd K) R (fun c => x (ix2 j c)) (n + 1)) := by
  have := ht.nxt (unif (wd K (n + 4) 0) (wd K (n + 4) 1) (flatIds r)) x (levK K r x) _ (below_at K r x j R h)
  have e : (fun c => unif (F := Ideal) (wd K (n + 4) 0) (wd K (n + 4) 1) (flatIds r) (ix2 j c)) = U (wd K) (n + 4) R := by
    funext c; rw [unif_at, flat_at r j c R h]; rfl
  rw [e] at this
  exact this

theorem steps_rep (k n : ℕ) (t : St Ideal) (ht : Rep t j (full (wd K) R (fun c => x (ix2 j c)) n)) :
    Rep (steps K (flatIds r) x (levK K r x) (n + 4) k t) j (full (wd K) R (fun c => x (ix2 j c)) (n + k)) := by
  induction k generalizing n t with
  | zero => exact ht
  | succ k ih =>
    have := ih (n + 1) _ (step_rep K r x j R h n t ht)
    rw [show n + (k + 1) = n + 1 + k by omega]
    rw [show n + 1 + 4 = n + 4 + 1 by omega] at this
    exact this

theorem stA_rep : Rep (stA K r x) j (full (wd K) R (fun c => x (ix2 j c)) 12) := by
  have h0 := ini_rep (wid (wd K 2 0) (wd K 2 1) (flatIds r)) (unif (wd K 3 0) (wd K 3 1) (flatIds r)) x (levK K r x) j _ (below_at K r x j R h)
  have e3 : (fun c => unif (F := Ideal) (wd K 3 0) (wd K 3 1) (flatIds r) (ix2 j c)) = U (wd K) 3 R := by
    funext c; rw [unif_at, flat_at r j c R h]; rfl
  have e2 : (fun c => wid (F := Ideal) (wd K 2 0) (wd K 2 1) (flatIds r) (ix2 j c)) = fun c => rwid (U (wd K) 2 R c) := by
    funext c; rw [wid_at, flat_at r j c R h]; rfl
  rw [e2, e3] at h0
  have := steps_rep K r x j R h 12 0 _ h0
  exact this

end Cert.KernelIdeal.Sl
end
-- ==== Proof.KI.Loop.lean ====
/- The second kernel's loop one row at a time: it stops when no row is drawn again, and then the trips it leaves out change nothing. -/
module

public import proofs.«01_k».proof.Proof.KI.Row

@[expose] public section

set_option maxRecDepth 65536

noncomputable section

namespace Cert.KernelIdeal.Sl

open Idealize.ShloMosaic
open Cert.KernelIdeal Cert.KernelIdeal.Gen Cert.Core

/-- No flag is negative. -/
def Pos (r : FVec Ideal S1024x1 .f32) : Prop := ∀ i, 0 ≤ r i

theorem flag_pos (c : IVec S1024x1 1) : Pos (flag (F := Ideal) c) := fun i => by
  show 0 ≤ if c i = 1 then Ideal.ofBits .f32 0x3F800000#32 else Ideal.ofBits .f32 0x00000000#32
  rw [Ideal.ofBits_zero_f32, Ideal.ofBits_one_f32]
  split <;> simp

theorem nxt_pos (u x : FVec Ideal S1024x128 .f32) (y : FVec Ideal S1024x1 .f32) (t : St Ideal) : Pos (nxt u x y t).r := flag_pos _

theorem row3 (r : FVec Ideal S1024x1 .f32) (j : Fin 1024) : shapeCast S1x1024x1 r shapeCasts_S1024x1_S1x1024x1 (ix3 0 j 0) = r (ix2 j 0) := by
  pointwise

/-- A positive flag keeps the loop going. -/
theorem go_of (n : ℕ) (hn : n < 50) (r : FVec Ideal S1024x1 .f32) (hr : Pos r) (j : Fin 1024) (hj : 0 < r (ix2 j 0)) : go (BitVec.ofNat 32 n) r = 1#1 := by
  have e : extractAt ![0, 0, 0] (shapeCast S1x1x1 (multiReduction .add [1, 2] S1 (shapeCast S1x1024x1 r shapeCasts_S1024x1_S1x1024x1) 0x00000000#32 reduces_S1x1024x1_S1 (.inl rfl) rfl) shapeCasts_S1_S1x1x1) inpos_S1x1x1_p0_0_0
      = ∑ i : S1x1024x1.Idx, shapeCast S1x1024x1 r shapeCasts_S1024x1_S1x1024x1 i := by
    unfold extractAt
    exact Ideal.multiReduction_add_total _ _ _ (by decide) _ _ _
  unfold go
  rw [e]
  have hs : 0 < ∑ i : S1x1024x1.Idx, shapeCast S1x1024x1 r shapeCasts_S1024x1_S1x1024x1 i := by
    refine lt_of_lt_of_le (b := shapeCast S1x1024x1 r shapeCasts_S1024x1_S1x1024x1 (ix3 0 j 0)) ?_ ?_
    · rw [row3]; exact hj
    · exact Finset.single_le_sum (fun i _ => hr _) (Finset.mem_univ _)
  generalize (∑ i : S1x1024x1.Idx, shapeCast S1x1024x1 r shapeCasts_S1024x1_S1x1024x1 i) = S at hs
  show BitVec.ofBool ((BitVec.ofNat 32 n).slt 50#32) &&& BitVec.ofBool (decide (Ideal.ofBits .f32 0x00000000#32 < S)) = 1#1
  rw [Ideal.ofBits_zero_f32, decide_eq_true hs]
  have : (BitVec.ofNat 32 n).slt 50#32 = true := by
    interval_cases n <;> rfl
  rw [this]; rfl

variable (K : IVec S54x2 32) (r : IVec S1024x1 32) (x : FVec Ideal S1024x128 .f32)

theorem loop_z (j : Fin 1024) (R : ℕ) (h : r (ix2 j 0) = BitVec.ofNat 32 R) (k n : ℕ) (hk : n + 2 * k = 50) (t : St Ideal) (hp : Pos t.r)
    (ht : Rep t j (full (wd K) R (fun c => x (ix2 j c)) n)) (c : Fin 128) :
    (loop K (flatIds r) x (levK K r x) k n t).z (ix2 j c) = (full (wd K) R (fun c => x (ix2 j c)) 50).z c := by
  induction k generalizing n t with
  | zero =>
    obtain rfl : n = 50 := by omega
    exact ht.z c
  | succ k ih =>
    unfold loop
    split
    · exact ih (n + 2) (by omega) _ (nxt_pos _ _ _ _) (steps_rep K r x j R h 2 n t ht)
    · rename_i hg
      have h0 : (full (wd K) R (fun c => x (ix2 j c)) n).r = false := by
        by_contra hne
        refine hg (go_of n (by omega) t.r hp j ?_)
        rw [ht.r, if_pos (by simpa using hne)]
        exact zero_lt_one
      have := (it_rest _ _ _ _ n h0 (50 - n)).2
      rw [show n + (50 - n) = 50 by omega] at this
      unfold full
      rw [this]
      exact ht.z c

end Cert.KernelIdeal.Sl
end
-- ==== Proof.KI.Read.lean ====
/- What the kernel program's stretches of host operations leave in the buffers that later parts read. -/
module

public import proofs.«01_k».proof.Proof.Val.Host
public import proofs.«01_k».proof.Proof.KI.Run
public import Idealize.ShloMosaic.Lib.Tactic

@[expose] public section

set_option maxRecDepth 65536

noncomputable section

namespace Cert.KernelIdeal.Sl

open Idealize.ShloMosaic Idealize.ShloMosaic.TcCoe
open Cert.KernelIdeal Cert.KernelIdeal.Gen Cert.Core

variable {F : FTy → Type} [FloatOps F]

/-- The contents of a buffer. -/
abbrev at' (V : Valuation τ sig (Elt F)) (b : Ref sig .tc) := V (Proc.devRef (τ := τ) .tc b)

/-- The rows, those with the larger flags first. -/
def ord (r : FVec F S16384x1 .f32) : IVec S16384 32 :=
  (Host.sort2 S16384 0 comparator_f32_i32_d0 (Host.negf (shapeCast S16384 r shapeCasts_S16384x1_S16384)) (iotaInDim S16384 32 0)).2
/-- Where each row went. -/
def inv (p : IVec S16384 32) : IVec S16384 32 := (Host.sort2 S16384 0 comparator_i32_i32_d0 p (iotaInDim S16384 32 0)).2
/-- A list of rows as gather indices. -/
def wrap (p : IVec S16384 32) : IVec S16384x1 32 :=
  broadcastInDim S16384x1 ![0] bcast_S16384_S16384x1_0
    (select (cmpi .slt p (broadcastInDim S16384 ![] bcast_S_S16384 (constantI S_ 32 0#32))) (addi p (broadcastInDim S16384 ![] bcast_S_S16384 (constantI S_ 32 16384#32))) p)

variable (V : Valuation τ sig (Elt F))

set_option maxHeartbeats 4000000 in
theorem k0 : at' (StableHlo.after hostOps0 V) main_call0_v7
    = table bcast_S_S54 slices_S2_S1_0 slices_S2_S1_1 shapeCasts_S1_S_ bcast_S54_S54x1_0 concatenates_S54x1_S54x1_S54x2_d1 (seed bcast_S_S1 concatenates_S1_S1_S2_d0) := by
  unfold hostOps0; after_reads_simp; sl_kernel_rfl

theorem k1 : at' (StableHlo.after hostOps1 V) main_call0_v19
      = Host.gather gather_S16384x512_S16384x1_S16384x512_1_0_n_n_0_1_1512 (at' V main_call0_v8_0) (wrap (ord (F := F) (at' V main_call0_v8_1)))
    ∧ at' (StableHlo.after hostOps1 V) main_call0_v26
      = Host.gather gather_S16384x1_S16384x1_S16384x1_1_0_n_n_0_1_11 (at' V main_call0_v8_1) (wrap (ord (F := F) (at' V main_call0_v8_1)))
    ∧ at' (StableHlo.after hostOps1 V) main_call0_v27 = broadcastInDim S16384x1 ![0] bcast_S16384_S16384x1_0 (ord (F := F) (at' V main_call0_v8_1))
    ∧ at' (StableHlo.after hostOps1 V) main_call0_v12 = inv (ord (F := F) (at' V main_call0_v8_1)) := by
  refine ⟨?_, ?_, ?_, ?_⟩ <;> unfold hostOps1 <;> after_reads_simp <;> sl_kernel_rfl

theorem k2 : at' (StableHlo.after hostOps2 V) main_v0
    = Host.gather gather_S16384x128_S16384x1_S16384x128_1_0_n_n_0_1_1128 (at' V main_call0_v28) (wrap (at' V main_call0_v12)) := by
  unfold hostOps2; after_reads_simp; sl_kernel_rfl

end Cert.KernelIdeal.Sl
end
-- ==== Proof.KI.Blocks.lean ====
/- The two kernels' output arrays, over the extended reals: block by block, then whole. -/
module

public import proofs.«01_k».proof.Proof.KI.Loop
public import proofs.«01_k».proof.Proof.KI.Read
public import Idealize.ShloMosaic.Lib.Pipeline.ValueKit

@[expose] public section

set_option maxRecDepth 65536

noncomputable section

namespace Cert.KernelIdeal.Sl

open Idealize.ShloMosaic Idealize.ShloMosaic.TcCoe
open Idealize.ShloMosaic.Pipeline (Dat Cfg Window arrRef afterRegion)
open Cert.KernelIdeal Cert.KernelIdeal.Gen Cert.Core

/-- A row's state and point side by side. -/
def quad (x : Fin 128 → EReal) (q : RS) (k : Fin 512) : EReal :=
  if h : k.val < 128 then q.z ⟨k.val, h⟩
  else if h : k.val < 256 then q.a ⟨k.val - 128, by omega⟩
  else if h : k.val < 384 then q.b ⟨k.val - 256, by omega⟩
  else x ⟨k.val - 384, by omega⟩

theorem quad_z (x : Fin 128 → EReal) (q : RS) (k : Fin 512) (c : Fin 128) (h : k.val = 0 + c.val) : quad x q k = q.z c := by
  unfold quad; rw [dif_pos (by omega)]; exact congrArg _ (Fin.ext (by show k.val = _; omega))
theorem quad_a (x : Fin 128 → EReal) (q : RS) (k : Fin 512) (c : Fin 128) (h : k.val = 128 + c.val) : quad x q k = q.a c := by
  unfold quad; rw [dif_neg (by omega), dif_pos (by omega)]; exact congrArg _ (Fin.ext (by show k.val - 128 = _; omega))
theorem quad_b (x : Fin 128 → EReal) (q : RS) (k : Fin 512) (c : Fin 128) (h : k.val = 256 + c.val) : quad x q k = q.b c := by
  unfold quad; rw [dif_neg (by omega), dif_neg (by omega), dif_pos (by omega)]; exact congrArg _ (Fin.ext (by show k.val - 256 = _; omega))
theorem quad_x (x : Fin 128 → EReal) (q : RS) (k : Fin 512) (c : Fin 128) (h : k.val = 384 + c.val) : quad x q k = x c := by
  unfold quad; rw [dif_neg (by omega), dif_neg (by omega), dif_neg (by omega)]; exact congrArg _ (Fin.ext (by show k.val - 384 = _; omega))

/-- Where the piece at column `o` holds row `j`, column `k`. -/
theorem tile_at (j : Fin 1024) (k : Fin 512) (o : ℕ) (w : FVec Ideal S1024x128 .f32) (v : EReal)
    (h : ∀ c : Fin 128, k.val = o + c.val → w (ix2 j c) = v) :
    View.TileAt (Val := Elt Ideal) (S := S1024x512) (e := .f32) (ix2 j k) ![0, o] S1024x128.size w v := fun x hx => by
  have h0 := hx 0
  have h1 := hx 1
  rw [eq_ix2 x]
  have : (x 0) = j := Fin.ext (by
    have : ((ix2 j k : S1024x512.Idx) 0).val = 0 + (x 0).val := h0
    have e : ((ix2 j k : S1024x512.Idx) 0).val = j.val := rfl
    omega)
  rw [this]
  exact h (x 1) h1

/-- What the first kernel packs, one row at a time. -/
theorem pack_at (x : FVec Ideal S1024x128 .f32) (t : St Ideal) (j : Fin 1024) (q : RS) (h : Rep t j q) (k : Fin 512) :
    packA x t (ix2 j k) = quad (fun c => x (ix2 j c)) q k := by
  unfold packA
  refine View.canon_eq_of_allAt _ _ _ (View.cover_of_tiled_head _ _ _ (by rfl) _) ?_
  refine View.allAt_cons_unit _ _ _ _ _ (tile_at j k 384 _ _ fun c hc => (quad_x (fun c => x (ix2 j c)) q k c hc).symm) ?_
  refine View.allAt_cons_unit _ _ _ _ _ (tile_at j k 256 _ _ fun c hc => (h.b c).trans (quad_b _ _ k c hc).symm) ?_
  refine View.allAt_cons_unit _ _ _ _ _ (tile_at j k 128 _ _ fun c hc => (h.a c).trans (quad_a _ _ k c hc).symm) ?_
  exact View.allAt_cons_unit _ _ _ _ _ (tile_at j k 0 _ _ fun c hc => (h.z c).trans (quad_z _ _ k c hc).symm) (View.allAt_nil _ _)

theorem cut_at (s : FVec Ideal S1024x512 .f32) (o : ℕ) (h) (j : Fin 1024) (c : Fin 128) (k : Fin 512) (hk : k.val = o + c.val) :
    cut s o h (ix2 j c) = s (ix2 j k) := by
  unfold cut
  refine View.ld_unit_apply_of (Val := Elt Ideal) (S := S1024x512) (e := .f32) s _ _ _ _ _ fun a => ?_
  fin_cases a
  · show j.val = 0 + j.val
    omega
  · exact hk

/-- What the second kernel leaves in row `j`, that row of its inputs being row `R` of the first kernel's outputs. -/
theorem out_at (K : IVec S54x2 32) (s : FVec Ideal S1024x512 .f32) (r : FVec Ideal S1024x1 .f32) (d : IVec S1024x1 32) (hp : Pos r)
    (j : Fin 1024) (R : ℕ) (x : Fin 128 → EReal) (hd : d (ix2 j 0) = BitVec.ofNat 32 R)
    (hs : ∀ k, s (ix2 j k) = quad x (full (wd K) R x 12) k) (hr : r (ix2 j 0) = if (full (wd K) R x 12).r = true then 1 else 0) (c : Fin 128) :
    outB K s r d (ix2 j c) = (full (wd K) R x 50).z c := by
  have hx : (fun c => cut s 384 inb_S1024x512_S1024x128_0_384 (ix2 j c)) = x := funext fun c => by
    rw [cut_at s 384 _ j c ⟨384 + c.val, by omega⟩ rfl, hs, quad_x _ _ _ c rfl]
  have := loop_z K d (cut s 384 inb_S1024x512_S1024x128_0_384) j R hd 19 12 (by omega)
    ⟨cut s 128 inb_S1024x512_S1024x128_0_128, cut s 256 inb_S1024x512_S1024x128_0_256, cut s 0 inb_S1024x512_S1024x128_0_0, r⟩ hp (by
      rw [hx]
      exact ⟨fun c => by
          show cut s 128 inb_S1024x512_S1024x128_0_128 (ix2 j c) = _
          rw [cut_at s 128 _ j c ⟨128 + c.val, by omega⟩ rfl, hs, quad_a _ _ _ c rfl],
        fun c => by
          show cut s 256 inb_S1024x512_S1024x128_0_256 (ix2 j c) = _
          rw [cut_at s 256 _ j c ⟨256 + c.val, by omega⟩ rfl, hs, quad_b _ _ _ c rfl],
        fun c => by
          show cut s 0 inb_S1024x512_S1024x128_0_0 (ix2 j c) = _
          rw [cut_at s 0 _ j c ⟨0 + c.val, by omega⟩ rfl, hs, quad_z _ _ _ c rfl], hr⟩) c
  rw [hx] at this
  exact this

/-! ## The whole arrays -/

theorem idx0 : ∀ t, win0_0.index t = ![0, 0] ∧ win0_1.index t = ![t.val, 0] ∧ win0_2.index t = ![t.val, 0] ∧ win0_3.index t = ![t.val, 0] ∧ (grid0.coords t 0).val = t.val := by
  decide +kernel
theorem idx1 : ∀ t, win1_0.index t = ![0, 0] ∧ win1_1.index t = ![t.val, 0] ∧ win1_2.index t = ![t.val, 0] ∧ win1_3.index t = ![t.val, 0] ∧ win1_4.index t = ![t.val, 0] := by
  decide +kernel

/-- Row `R` of an array. -/
def row (X : FVec Ideal S16384x128 .f32) (R : Fin 16384) (c : Fin 128) : EReal := X (ix2 R c)

/-- The row that row `j` of block `t` is. -/
def at1 (t : Fin 16) (j : Fin 1024) : Fin 16384 := ⟨t.val * 1024 + j.val, by have := t.isLt; have := j.isLt; omega⟩

/-- Row `R` of the point `X` after `k` trips with the table `K`. -/
def mid (K : IVec S54x2 32) (X : FVec Ideal S16384x128 .f32) (k : ℕ) (R : Fin 16384) : RS := full (wd K) R.val (row X R) k

variable (W : Valuation τ sig (Elt Ideal)) (c : Dev nD)

theorem kdA_eq (t : Fin 16) : kdA W t = at' W main_call0_v7 := by
  funext i
  unfold kdA
  blk_ext [idx0 t]
theorem kdB_eq (t : Fin 16) : kdB W t = at' W main_call0_v7 := by
  funext i
  unfold kdB
  blk_ext [idx1 t]
theorem xA_at (t : Fin 16) (j : Fin 1024) (k : Fin 128) : xA W t (ix2 j k) = at' W main_arg0 (ix2 (at1 t j) k) := by
  unfold xA at1
  blk_ext [idx0 t]
theorem stB_at (t : Fin 16) (j : Fin 1024) (k : Fin 512) : stB W t (ix2 j k) = at' W main_call0_v19 (ix2 (at1 t j) k) := by
  unfold stB at1
  blk_ext [idx1 t]
theorem rejB_at (t : Fin 16) (j : Fin 1024) (k : Fin 1) : rejB W t (ix2 j k) = at' W main_call0_v26 (ix2 (at1 t j) k) := by
  unfold rejB at1
  blk_ext [idx1 t]
theorem ridB_at (t : Fin 16) (j : Fin 1024) (k : Fin 1) : ridB W t (ix2 j k) = at' W main_call0_v27 (ix2 (at1 t j) k) := by
  unfold ridB at1
  blk_ext [idx1 t]

theorem rowIds_at (t : Fin 16) (j : Fin 1024) : rowIds (grid0.coords t) (ix2 j 0) = BitVec.ofNat 32 (at1 t j).val := by
  have e : rowIds (grid0.coords t) (ix2 j 0) = 1024#32 * BitVec.ofNat 32 (grid0.coords t 0).val + BitVec.ofNat 32 j.val := by
    unfold rowIds; pointwise; rfl
  rw [e, (idx0 t).2.2.2.2]
  unfold at1
  rw [BitVec.ofNat_add, BitVec.ofNat_mul, BitVec.mul_comm]

theorem block_rep (t : Fin 16) (j : Fin 1024) :
    Rep (stA (kdA W t) (rowIds (grid0.coords t)) (xA W t)) j (mid (at' W main_call0_v7) (at' W main_arg0) 12 (at1 t j)) := by
  have := stA_rep (kdA W t) (rowIds (grid0.coords t)) (xA W t) j _ (rowIds_at t j)
  rw [kdA_eq] at this ⊢
  rw [show (fun c => xA W t (ix2 j c)) = row (at' W main_arg0) (at1 t j) from funext fun c => xA_at W t j c] at this
  exact this

/-- The first kernel's packed states. -/
def packed : FVec Ideal S16384x512 .f32 := fun i => quad (row (at' W main_arg0) (i 0)) (mid (at' W main_call0_v7) (at' W main_arg0) 12 (i 0)) (i 1)
/-- The first kernel's flags. -/
def flags : FVec Ideal S16384x1 .f32 := fun i => if (mid (at' W main_call0_v7) (at' W main_arg0) 12 (i 0)).r = true then 1 else 0

set_option maxHeartbeats 4000000 in
set_option backward.isDefEq.respectTransparency.types false in
theorem arr0_2 : (dat0 W c).arrAt 2 (cfg0 (F := Ideal)).N = packed W := by
  refine (dat0 W c).arrAt_eq_of_covers 2 _ (by decide +kernel) fun t hf y => ?_
  blk_simp
  obtain ⟨j, k, rfl⟩ : ∃ (j : Fin 1024) (k : Fin 512), y = ix2 j k := ⟨_, _, eq_ix2 _⟩
  have e : ((win0_2.blk t).view.emb (ix2 j k) : S16384x512.Idx) = ix2 (at1 t j) k := by
    unfold at1; blk_ext [idx0 t]
  show packA (xA W t) (stA (kdA W t) (rowIds (grid0.coords t)) (xA W t)) (ix2 j k) = packed W ((win0_2.blk t).view.emb (ix2 j k))
  rw [e, pack_at _ _ j _ (block_rep W t j)]
  exact congrArg (fun f => quad f _ _) (funext fun c => xA_at W t j c)

set_option backward.isDefEq.respectTransparency.types false in
theorem arr0_3 : (dat0 W c).arrAt 3 (cfg0 (F := Ideal)).N = flags W := by
  refine (dat0 W c).arrAt_eq_of_covers 3 _ (by decide +kernel) fun t hf y => ?_
  blk_simp
  obtain ⟨j, k, rfl⟩ : ∃ (j : Fin 1024) (k : Fin 1), y = ix2 j k := ⟨_, _, eq_ix2 _⟩
  obtain rfl : k = 0 := Subsingleton.elim _ _
  have e : ((win0_3.blk t).view.emb (ix2 j 0) : S16384x1.Idx) = ix2 (at1 t j) 0 := by
    unfold at1; blk_ext [idx0 t]
  show (stA (kdA W t) (rowIds (grid0.coords t)) (xA W t)).r (ix2 j 0) = flags W ((win0_3.blk t).view.emb (ix2 j 0))
  rw [e, (block_rep W t j).r]; rfl

set_option backward.isDefEq.respectTransparency.types false in
/-- The second kernel's rows, its inputs being the rows `σ` of the first kernel's outputs for the point `X`. -/
theorem arr1_4 (X : FVec Ideal S16384x128 .f32) (σ : Fin 16384 → Fin 16384)
    (h19 : ∀ R k, at' W main_call0_v19 (ix2 R k) = quad (row X (σ R)) (mid (at' W main_call0_v7) X 12 (σ R)) k)
    (h26 : ∀ R, at' W main_call0_v26 (ix2 R 0) = if (mid (at' W main_call0_v7) X 12 (σ R)).r = true then (1 : EReal) else 0)
    (h27 : ∀ R, at' W main_call0_v27 (ix2 R 0) = BitVec.ofNat 32 (σ R).val) :
    (dat1 W c).arrAt 4 (cfg1 (F := Ideal)).N = fun i : S16384x128.Idx => (mid (at' W main_call0_v7) X 50 (σ (i 0))).z (i 1) := by
  refine (dat1 W c).arrAt_eq_of_covers 4 _ (by decide +kernel) fun t hf y => ?_
  blk_simp
  obtain ⟨j, k, rfl⟩ : ∃ (j : Fin 1024) (k : Fin 128), y = ix2 j k := ⟨_, _, eq_ix2 _⟩
  have e : ((win1_4.blk t).view.emb (ix2 j k) : S16384x128.Idx) = ix2 (at1 t j) k := by
    unfold at1; blk_ext [idx1 t]
  show outB (kdB W t) (stB W t) (rejB W t) (ridB W t) (ix2 j k) = (fun i : S16384x128.Idx => (mid (at' W main_call0_v7) X 50 (σ (i 0))).z (i 1)) ((win1_4.blk t).view.emb (ix2 j k))
  rw [e, kdB_eq]
  refine out_at _ _ _ _ (fun i => ?_) j (σ (at1 t j)).val (row X (σ (at1 t j))) ?_ (fun k => ?_) ?_ k
  · obtain ⟨j, k, rfl⟩ : ∃ (j : Fin 1024) (k : Fin 1), i = ix2 j k := ⟨_, _, eq_ix2 _⟩
    obtain rfl : k = 0 := Subsingleton.elim _ _
    rw [rejB_at, h26]
    split <;> simp
  · rw [ridB_at, h27]
  · rw [stB_at, h19]; rfl
  · rw [rejB_at, h26]; rfl

end Cert.KernelIdeal.Sl
end
-- ==== Proof.KI.Perm.lean ====
/- The rows' order and its inverse: the second sort undoes the first, whatever the flags. -/
module

public import proofs.«01_k».proof.Proof.KI.Blocks
public import Idealize.ShloMosaic.Lib.SortFacts
public import Idealize.ShloMosaic.Lib.Routing.Ops

@[expose] public section

set_option maxRecDepth 65536

noncomputable section

namespace Cert.KernelIdeal.Sl

open Idealize.ShloMosaic Idealize.ShloMosaic.TcCoe
open Cert.KernelIdeal Cert.KernelIdeal.Gen Cert.Core

/-- Which of two entries of a pair of lists comes first. -/
def bef {n : ℕ} {α β : Type} (cmp : α × β → α × β → BitVec 1) (x : (⟨1, ![n]⟩ : Shape).Idx → α) (y : (⟨1, ![n]⟩ : Shape).Idx → β) (a b : Fin n) : Bool :=
  cmp (x (Shape.Idx.ofFin a), y (Shape.Idx.ofFin a)) (x (Shape.Idx.ofFin b), y (Shape.Idx.ofFin b)) == 1#1

theorem along_eq {n : ℕ} (h : 0 < (⟨1, ![n]⟩ : Shape).rank) (j : (⟨1, ![n]⟩ : Shape).Idx) (k : Fin n) : j.along ⟨0, h⟩ k = Shape.Idx.ofFin k :=
  Shape.Idx.along_rank1 j k

/-- The payload of a sorted pair of lists, at its source position. -/
theorem sort2_at {n : ℕ} {α β : Type} (cmp : α × β → α × β → BitVec 1) (x : (⟨1, ![n]⟩ : Shape).Idx → α) (y : (⟨1, ![n]⟩ : Shape).Idx → β) (k : Fin n) :
    (Host.sort2 ⟨1, ![n]⟩ 0 cmp x y).2 (Shape.Idx.ofFin k) = y (Shape.Idx.ofFin (sortedFrom (bef cmp x y) k)) := by
  unfold Host.sort2
  rw [dif_pos (show 0 < (⟨1, ![n]⟩ : Shape).rank from Nat.one_pos)]
  refine congrArg y ((along_eq _ _ _).trans (congrArg Shape.Idx.ofFin ?_))
  refine congrFun (congrArg sortedFrom ?_) k
  funext a b
  unfold bef
  rw [← along_eq Nat.one_pos (Shape.Idx.ofFin k) a, ← along_eq Nat.one_pos (Shape.Idx.ofFin k) b]

theorem iota_at (k : Fin 16384) : iotaInDim S16384 32 0 (Shape.Idx.ofFin k) = BitVec.ofNat 32 k.val := rfl

/-- The row at each place. -/
theorem ord_at (r : FVec Ideal S16384x1 .f32) : ∃ σ : Fin 16384 → Fin 16384, Function.Injective σ
    ∧ ∀ k, ord r (Shape.Idx.ofFin k) = BitVec.ofNat 32 (σ k).val := by
  refine ⟨sortedFrom (bef (n := 16384) comparator_f32_i32_d0 (Host.negf (shapeCast S16384 r shapeCasts_S16384x1_S16384)) (iotaInDim S16384 32 0)), sortedFrom_injective _, fun k => ?_⟩
  rw [← iota_at]
  exact sort2_at (n := 16384) comparator_f32_i32_d0 _ _ k

theorem slt_nat (a b : ℕ) (ha : a < 16384) (hb : b < 16384) : (BitVec.ofNat 32 a).slt (BitVec.ofNat 32 b) = decide (a < b) := by
  rw [BitVec.slt_eq_decide]
  have e : ∀ n, n < 16384 → (BitVec.ofNat 32 n).toInt = (n : ℤ) := fun n hn => by
    rw [BitVec.toInt_eq_toNat_of_lt (by rw [BitVec.toNat_ofNat]; omega), BitVec.toNat_ofNat, Nat.mod_eq_of_lt (by omega)]
  rw [e a ha, e b hb]
  simp

/-- The second sort undoes the order. -/
theorem inv_at (p : IVec S16384 32) (σ : Fin 16384 → Fin 16384) (hσ : Function.Injective σ) (hp : ∀ k, p (Shape.Idx.ofFin k) = BitVec.ofNat 32 (σ k).val) :
    ∃ τ : Fin 16384 → Fin 16384, (∀ k, inv p (Shape.Idx.ofFin k) = BitVec.ofNat 32 (τ k).val) ∧ ∀ k, σ (τ k) = k := by
  have hR : ∀ a b, bef (n := 16384) comparator_i32_i32_d0 p (iotaInDim S16384 32 0) a b = decide ((σ a).val < (σ b).val) := fun a b => by
    show (BitVec.ofBool ((p (Shape.Idx.ofFin a)).slt (p (Shape.Idx.ofFin b))) == 1#1) = _
    rw [hp, hp, slt_nat _ _ (σ a).isLt (σ b).isLt]
    cases decide ((σ a).val < (σ b).val) <;> rfl
  refine ⟨sortedFrom (bef (n := 16384) comparator_i32_i32_d0 p (iotaInDim S16384 32 0)), fun k => ?_, ?_⟩
  · rw [← iota_at]
    exact sort2_at (n := 16384) comparator_i32_i32_d0 _ _ k
  · generalize bef (n := 16384) comparator_i32_i32_d0 p (iotaInDim S16384 32 0) = R at hR
    have hmono : StrictMono fun k => σ (sortedFrom R k) := by
      refine Monotone.strictMono_of_injective (fun i j hij => ?_) (hσ.comp (sortedFrom_injective R))
      rcases hij.lt_or_eq with h | rfl
      · have := sortedFrom_noInversion R R (fun a b h => by rw [hR] at h ⊢; simp at h ⊢; omega) (fun a b h => h)
          (fun a b c h1 h2 => by rw [hR] at h1 h2 ⊢; simp at h1 h2 ⊢; omega) i j h
        rw [hR] at this
        simpa using this
      · exact le_rfl
    intro k
    have := Set.range_injOn_strictMono hmono strictMono_id (by
      rw [Set.range_id, (Finite.injective_iff_surjective.1 hmono.injective).range_eq])
    exact congrFun this k

/-- As gather indices, row numbers are themselves. -/
theorem wrap_at (p : IVec S16384 32) (k : Fin 16384) (n : ℕ) (hn : n < 16384) (hp : p (Shape.Idx.ofFin k) = BitVec.ofNat 32 n) : wrap p (ix2 k 0) = BitVec.ofNat 32 n := by
  have e : wrap p (ix2 k 0) = if BitVec.ofBool ((p (Shape.Idx.ofFin k)).slt 0#32) = 1 then p (Shape.Idx.ofFin k) + 16384#32 else p (Shape.Idx.ofFin k) := by
    unfold wrap; pointwise; rw [Shape.Idx.eq_ofFin (ix1 k)]; rfl
  rw [e, hp, show (0#32) = BitVec.ofNat 32 0 from rfl, slt_nat n 0 hn (by omega)]
  simp

end Cert.KernelIdeal.Sl
end
-- ==== Proof.KI.Final.lean ====
/- What the kernel program returns, over the extended reals: every row after its fifty trips. -/
module

public import proofs.«01_k».proof.Proof.KI.Perm

@[expose] public section

set_option maxRecDepth 65536

noncomputable section

namespace Cert.KernelIdeal.Sl

open Idealize.ShloMosaic Idealize.ShloMosaic.TcCoe
open Idealize.ShloMosaic.Pipeline (Dat Cfg Window arrRef afterRegion)
open Idealize.ShloMosaic.Routing (gather_row)
open Cert.KernelIdeal Cert.KernelIdeal.Gen Cert.Core

/-- The program's key table. -/
def tab : IVec S54x2 32 :=
  table bcast_S_S54 slices_S2_S1_0 slices_S2_S1_1 shapeCasts_S1_S_ bcast_S54_S54x1_0 concatenates_S54x1_S54x1_S54x2_d1 (seed bcast_S_S1 concatenates_S1_S1_S2_d0)

variable (m : (ℓ : Loc nD τ sig) → Buf (Elt Ideal) ℓ) (c : Dev nD)

theorem keys1 : at' (V1 m c) main_call0_v7 = tab := k0 (V0 m c)
theorem point1 : at' (V1 m c) main_arg0 = at' (V0 m c) main_arg0 := V1_of m c main_arg0 (by decide +kernel)
theorem keys3 : at' (V3 m (outs m) c) main_call0_v7 = tab :=
  (V3_of m (outs m) c main_call0_v7 (by decide +kernel)).trans ((V2_of m (outs m) c main_call0_v7 (by decide +kernel)).trans (keys1 m c))

theorem states2 : at' (V2 m (outs m) c) main_call0_v8_0 = packed (V1 m c) :=
  (V2_eq m c main_call0_v8_0).symm.trans ((Pipeline.afterRegion_arr (dat0 (V1 m c) c) (V1 m c) winFacts0.arr_inj 2).trans (arr0_2 (V1 m c) c))
theorem flags2 : at' (V2 m (outs m) c) main_call0_v8_1 = flags (V1 m c) :=
  (V2_eq m c main_call0_v8_1).symm.trans ((Pipeline.afterRegion_arr (dat0 (V1 m c) c) (V1 m c) winFacts0.arr_inj 3).trans (arr0_3 (V1 m c) c))

/-- Row `R` of the point at the launch, after `k` trips. -/
abbrev rowAt (k : ℕ) (R : Fin 16384) : RS := mid tab (at' (V0 m c) main_arg0) k R

theorem final_at : at' (V5 m (outs m) c) main_v0 = fun i : S16384x128.Idx => (rowAt m c 50 (i 0)).z (i 1) := by
  obtain ⟨h19, h26, h27, h12⟩ := k1 (V2 m (outs m) c)
  rw [flags2, states2] at h19
  rw [flags2] at h26 h27 h12
  obtain ⟨σ, hσ, hord⟩ := ord_at (flags (V1 m c))
  obtain ⟨τ, hτ, hστ⟩ := inv_at (ord (flags (V1 m c))) σ hσ hord
  have hw : ∀ R, wrap (ord (flags (V1 m c))) (ix2 R 0) = BitVec.ofNat 32 (σ R).val := fun R => wrap_at _ R _ (σ R).isLt (hord R)
  have hf : (fun b : Fin 16384 => mid (at' (V1 m c) main_call0_v7) (at' (V1 m c) main_arg0) 12 b) = rowAt m c 12 := by rw [keys1, point1]
  have h28 : at' (V4 m (outs m) c) main_call0_v28 = fun i : S16384x128.Idx => (rowAt m c 50 (σ (i 0))).z (i 1) := by
    refine (V4_eq m c main_call0_v28).symm.trans ((Pipeline.afterRegion_arr (dat1 (V3 m (outs m) c) c) (V3 m (outs m) c) winFacts1.arr_inj 4).trans ?_)
    refine (arr1_4 (V3 m (outs m) c) c (at' (V0 m c) main_arg0) σ (fun R k => ?_) (fun R => ?_) fun R => ?_).trans ?_
    · rw [keys3]
      refine (congrFun h19 (ix2 R k)).trans ((gather_row _ rfl rfl rfl rfl rfl _ _ R k (σ R) (hw R) (by norm_num)).trans ?_)
      show quad (row (at' (V1 m c) main_arg0) (σ R)) (mid (at' (V1 m c) main_call0_v7) (at' (V1 m c) main_arg0) 12 (σ R)) k = _
      rw [keys1, point1]
    · rw [keys3]
      refine (congrFun h26 (ix2 R 0)).trans ((gather_row _ rfl rfl rfl rfl rfl _ _ R 0 (σ R) (hw R) (by norm_num)).trans ?_)
      show (if (mid (at' (V1 m c) main_call0_v7) (at' (V1 m c) main_arg0) 12 (σ R)).r = true then (1 : EReal) else 0) = _
      rw [keys1, point1]
    · refine (congrFun h27 (ix2 R 0)).trans (Eq.trans ?_ (hord R))
      pointwise
      exact congrArg _ (Shape.Idx.eq_ofFin (ix1 R))
    · rw [keys3]
  have h12' : at' (V4 m (outs m) c) main_call0_v12 = inv (ord (flags (V1 m c))) := (V4_of m (outs m) c main_call0_v12 (by decide +kernel)).trans h12
  have := k2 (V4 m (outs m) c)
  rw [h28, h12'] at this
  refine this.trans (funext fun i => ?_)
  obtain ⟨R, k, rfl⟩ : ∃ (R : Fin 16384) (k : Fin 128), i = ix2 R k := ⟨_, _, eq_ix2 _⟩
  refine (gather_row _ rfl rfl rfl rfl rfl _ _ R k (τ R) (wrap_at _ R _ (τ R).isLt (hτ R)) (by norm_num)).trans ?_
  show (rowAt m c 50 (σ (τ R))).z k = (rowAt m c 50 R).z k
  rw [hστ]

end Cert.KernelIdeal.Sl
end
-- ==== Proof.RI.Read.lean ====
/- What the reference's stretches of operations leave in the buffers that later stretches read. -/
module

public import proofs.«01_k».proof.Proof.Val.Host
public import proofs.«01_k».proof.Proof.RI.Run
public import Idealize.ShloMosaic.Lib.Tactic

@[expose] public section

set_option maxRecDepth 65536

noncomputable section

namespace Cert.ReferenceIdeal.Sl

open Idealize.ShloMosaic Idealize.ShloMosaic.TcCoe
open Cert.ReferenceIdeal.Gen Cert.Core

variable {F : FTy → Type} [FloatOps F]

/-- The contents of a buffer. -/
abbrev at' (V : Valuation τ sig (Elt F)) (b : Ref sig .tc) := V (Proc.devRef (τ := τ) .tc b)

/-- The flat index of every element of the array. -/
def cnt2 : IVec S16384x128 64 :=
  addi (muli (broadcastInDim S16384x128 ![] bcast_S_S16384x128 (constantI S_ 64 128#64)) (iotaInDim S16384x128 64 0))
    (muli (broadcastInDim S16384x128 ![] bcast_S_S16384x128 (constantI S_ 64 1#64)) (iotaInDim S16384x128 64 1))

/-- The index of every row. -/
def cnt1 : IVec S16384 64 := muli (broadcastInDim S16384 ![] bcast_S_S16384 (constantI S_ 64 1#64)) (iotaInDim S16384 64 0)

/-- A draw for every element. -/
def uni2 (k : IVec S2 32) (a b : FVec F S_ .f32) : FVec F S16384x128 .f32 :=
  hend (s := S16384x128) (t := S1x1) bcast_S_S1x1 ![0, 1] bcast_S1x1_S16384x128_0_1
    (hbits bcast_S_S16384x128 (word0 slices_S2_S1_0 shapeCasts_S1_S_ k) (word1 slices_S2_S1_1 shapeCasts_S1_S_ k)
      (trunci 32 (Host.shrui cnt2 (broadcastInDim S16384x128 ![] bcast_S_S16384x128 (constantI S_ 64 32#64)))) (trunci 32 cnt2)) a b

/-- A draw for every row. -/
def uni1 (k : IVec S2 32) (a b : FVec F S_ .f32) : FVec F S16384 .f32 :=
  hend (s := S16384) (t := S1) bcast_S_S1 ![0] bcast_S1_S16384_0
    (hbits bcast_S_S16384 (word0 slices_S2_S1_0 shapeCasts_S1_S_ k) (word1 slices_S2_S1_1 shapeCasts_S1_S_ k)
      (trunci 32 (Host.shrui cnt1 (broadcastInDim S16384 ![] bcast_S_S16384 (constantI S_ 64 32#64)))) (trunci 32 cnt1)) a b

/-- A literal at every element. -/
def c2 (b : BitVec 32) : FVec F S16384x128 .f32 := broadcastInDim S16384x128 ![] bcast_S_S16384x128 (constant S_ .f32 b)
/-- A literal at every row. -/
def c1 (b : BitVec 32) : FVec F S16384 .f32 := broadcastInDim S16384 ![] bcast_S_S16384 (constant S_ .f32 b)

/-- The constant taken off each row's potential. -/
def off : FVec F S_ .f32 := mulf (constant S_ .f32 0x42800000#32) (Host.log (constant S_ .f32 0x40C90FDB#32))

/-- Each row's potential. -/
def hpot (x : FVec F S16384x128 .f32) : FVec F S16384 .f32 :=
  subf (mulf (c1 0xBF000000#32) (Host.reduceAdd (mulf x x) (constant S_ .f32 0x00000000#32) reducesTo_S16384x128_S16384_d1 h_S_))
    (broadcastInDim S16384 ![] bcast_S_S16384 (id (off (F := F))))

/-- A key of the table. -/
def row0 (T : IVec S54x2 32) : IVec S2 32 := shapeCast S2 (extractStridedSlice S1x2 ![0, 0] T slices_S54x2_S1x2_0_0) shapeCasts_S1x2_S2
def row1 (T : IVec S54x2 32) : IVec S2 32 := shapeCast S2 (extractStridedSlice S1x2 ![1, 0] T slices_S54x2_S1x2_1_0) shapeCasts_S1x2_S2
def row2 (T : IVec S54x2 32) : IVec S2 32 := shapeCast S2 (extractStridedSlice S1x2 ![2, 0] T slices_S54x2_S1x2_2_0) shapeCasts_S1x2_S2
def row3 (T : IVec S54x2 32) : IVec S2 32 := shapeCast S2 (extractStridedSlice S1x2 ![3, 0] T slices_S54x2_S1x2_3_0) shapeCasts_S1x2_S2

/-- The slice level of each row, from its draw and its potential. -/
def hlev (u p : FVec F S16384 .f32) : FVec F S16384 .f32 := addf (Host.log (subf (c1 0x3F800000#32) u)) p

/-- The vector of one that holds nought. -/
def nil1 : FVec F S1 .f32 := broadcastInDim S1 ![] bcast_S_S1 (constant S_ .f32 0x00000000#32)
/-- A vector of one at every element. -/
def of1 (x : FVec F S1 .f32) : FVec F S16384x128 .f32 :=
  broadcastInDim S16384x128 ![0, 1] bcast_S1x1_S16384x128_0_1 (broadcastInDim S1x1 ![1] bcast_S1_S1x1_1 x)

/-- The left end of the first slice. -/
def hl (u x : FVec F S16384x128 .f32) (z : FVec F S1 .f32) : FVec F S16384x128 .f32 :=
  addf (mulf u (of1 z)) (subf x (of1 (Host.divf z (broadcastInDim S1 ![] bcast_S_S1 (constant S_ .f32 0x40000000#32)))))
/-- Twice its distance from the point. -/
def hdiff (l x : FVec F S16384x128 .f32) : FVec F S16384x128 .f32 := mulf (Host.absf (subf l x)) (c2 0x40000000#32)
/-- The width of the interval. -/
def hwid (d u : FVec F S16384x128 .f32) : FVec F S16384x128 .f32 :=
  addf d (Host.divf (Host.log (subf (c2 0x3F800000#32) u)) (c2 0xBDCCCCCD#32))
def hlo (l s : FVec F S16384x128 .f32) : FVec F S16384x128 .f32 := subf l (Host.divf s (c2 0x40000000#32))
def hhi (l s : FVec F S16384x128 .f32) : FVec F S16384x128 .f32 := addf l (Host.divf s (c2 0x40000000#32))
def hdraw (u a b : FVec F S16384x128 .f32) : FVec F S16384x128 .f32 := addf (mulf u (subf b a)) a

/-- The rows' flags at every element. -/
def hbc (r : IVec S16384 1) : IVec S16384x128 1 :=
  broadcastInDim S16384x128 ![0, 1] bcast_S16384x1_S16384x128_0_1 (broadcastInDim S16384x1 ![0] bcast_S16384_S16384x1_0 r)
def hA (x z a : FVec F S16384x128 .f32) (r : IVec S16384 1) : FVec F S16384x128 .f32 := select (andi (hbc r) (cmpf .olt z x)) z a
def hB (x z b : FVec F S16384x128 .f32) (r : IVec S16384 1) : FVec F S16384x128 .f32 := select (andi (hbc r) (noti (cmpf .olt z x))) z b
def hZ (u a b z : FVec F S16384x128 .f32) (r : IVec S16384 1) : FVec F S16384x128 .f32 := select (hbc r) (hdraw u a b) z
def hR (z : FVec F S16384x128 .f32) (y : FVec F S16384 .f32) (r : IVec S16384 1) : IVec S16384 1 := andi r (cmpf .olt (hpot z) y)

/-- The key of trip `i`. -/
def hkey (T : IVec S54x2 32) (i : IVec S_ 32) : IVec S2 32 :=
  shapeCast S2 (Host.dynamicSlice S1x2 T (fun k => ((![select (cmpi .slt (addi (constantI S_ 32 4#32) i) (constantI S_ 32 0#32))
    (addi (id (addi (constantI S_ 32 4#32) i)) (constantI S_ 32 54#32)) (addi (constantI S_ 32 4#32) i), constantI S_ 32 0#32] : Fin 2 → IVec S_ 32) k (Shape.Idx.first h_S_)).toInt)
    sliceFits_S54x2_S1x2) shapeCasts_S1x2_S2

variable (V : Valuation τ sig (Elt F))

theorem r0 : at' (StableHlo.after hostOps0 V) main_v6 = seed bcast_S_S1 concatenates_S1_S1_S2_d0 := by
  unfold hostOps0; after_reads_simp; sl_kernel_rfl

set_option maxHeartbeats 4000000 in
theorem r1 : at' (StableHlo.after hostOps0_1 V) main_v7
    = table bcast_S_S54 slices_S2_S1_0 slices_S2_S1_1 shapeCasts_S1_S_ bcast_S54_S54x1_0 concatenates_S54x1_S54x1_S54x2_d1 (at' V main_v6) := by
  unfold hostOps0_1; after_reads_simp; sl_kernel_rfl

theorem r2 : at' (StableHlo.after hostOps0_2 V) main_v16 = hpot (F := F) (at' V main_arg0)
    ∧ at' (StableHlo.after hostOps0_2 V) main_v18 = row0 (at' V main_v7)
    ∧ at' (StableHlo.after hostOps0_2 V) main_cst_5 = (constant S_ .f32 0x00000000#32 : FVec F S_ .f32)
    ∧ at' (StableHlo.after hostOps0_2 V) main_cst_6 = (constant S_ .f32 0x3F800000#32 : FVec F S_ .f32) := by
  refine ⟨?_, ?_, ?_, ?_⟩ <;> unfold hostOps0_2 <;> after_reads_simp <;> sl_kernel_rfl

set_option maxHeartbeats 4000000 in
theorem r3 : at' (StableHlo.after hostOps0_3 V) main_v19 = uni1 (F := F) (at' V main_v18) (at' V main_cst_5) (at' V main_cst_6) := by
  unfold hostOps0_3; after_reads_simp; sl_kernel_rfl

theorem r4 : at' (StableHlo.after hostOps0_4 V) main_v23 = hlev (F := F) (at' V main_v19) (at' V main_v16)
    ∧ at' (StableHlo.after hostOps0_4 V) main_v26 = row1 (at' V main_v7)
    ∧ at' (StableHlo.after hostOps0_4 V) main_v24 = nil1 (F := F)
    ∧ at' (StableHlo.after hostOps0_4 V) main_cst_9 = (constant S_ .f32 0x00000000#32 : FVec F S_ .f32)
    ∧ at' (StableHlo.after hostOps0_4 V) main_cst_10 = (constant S_ .f32 0x3F800000#32 : FVec F S_ .f32) := by
  refine ⟨?_, ?_, ?_, ?_, ?_⟩ <;> unfold hostOps0_4 <;> after_reads_simp <;> sl_kernel_rfl

set_option maxHeartbeats 4000000 in
theorem r5 : at' (StableHlo.after hostOps0_5 V) main_v27 = uni2 (F := F) (at' V main_v26) (at' V main_cst_9) (at' V main_cst_10) := by
  unfold hostOps0_5; after_reads_simp; sl_kernel_rfl

theorem r6 : at' (StableHlo.after hostOps0_6 V) main_v36 = hl (F := F) (at' V main_v27) (at' V main_arg0) (at' V main_v24)
    ∧ at' (StableHlo.after hostOps0_6 V) main_v40 = hdiff (hl (F := F) (at' V main_v27) (at' V main_arg0) (at' V main_v24)) (at' V main_arg0)
    ∧ at' (StableHlo.after hostOps0_6 V) main_v42 = row2 (at' V main_v7)
    ∧ at' (StableHlo.after hostOps0_6 V) main_cst_13 = (constant S_ .f32 0x00000000#32 : FVec F S_ .f32)
    ∧ at' (StableHlo.after hostOps0_6 V) main_cst_14 = (constant S_ .f32 0x3F800000#32 : FVec F S_ .f32) := by
  refine ⟨?_, ?_, ?_, ?_, ?_⟩ <;> unfold hostOps0_6 <;> after_reads_simp <;> sl_kernel_rfl

set_option maxHeartbeats 4000000 in
theorem r7 : at' (StableHlo.after hostOps0_7 V) main_v43 = uni2 (F := F) (at' V main_v42) (at' V main_cst_13) (at' V main_cst_14) := by
  unfold hostOps0_7; after_reads_simp; sl_kernel_rfl

theorem r8 : at' (StableHlo.after hostOps0_8 V) main_v52 = hlo (F := F) (at' V main_v36) (hwid (at' V main_v40) (at' V main_v43))
    ∧ at' (StableHlo.after hostOps0_8 V) main_v55 = hhi (F := F) (at' V main_v36) (hwid (at' V main_v40) (at' V main_v43))
    ∧ at' (StableHlo.after hostOps0_8 V) main_v57 = row3 (at' V main_v7)
    ∧ at' (StableHlo.after hostOps0_8 V) main_cst_19 = (constant S_ .f32 0x00000000#32 : FVec F S_ .f32)
    ∧ at' (StableHlo.after hostOps0_8 V) main_cst_20 = (constant S_ .f32 0x3F800000#32 : FVec F S_ .f32) := by
  refine ⟨?_, ?_, ?_, ?_, ?_⟩ <;> unfold hostOps0_8 <;> after_reads_simp <;> sl_kernel_rfl

set_option maxHeartbeats 4000000 in
theorem r9 : at' (StableHlo.after hostOps0_9 V) main_v58 = uni2 (F := F) (at' V main_v57) (at' V main_cst_19) (at' V main_cst_20) := by
  unfold hostOps0_9; after_reads_simp; sl_kernel_rfl

theorem r10 : at' (StableHlo.after hostOps0_10 V) main_v72_0 = at' V main_arg0
    ∧ at' (StableHlo.after hostOps0_10 V) main_v72_1 = at' V main_v7
    ∧ at' (StableHlo.after hostOps0_10 V) main_v72_2 = at' V main_v23
    ∧ at' (StableHlo.after hostOps0_10 V) main_v72_4 = constantI S_ 32 0#32
    ∧ at' (StableHlo.after hostOps0_10 V) main_v72_5 = at' V main_v52
    ∧ at' (StableHlo.after hostOps0_10 V) main_v72_6 = at' V main_v55
    ∧ at' (StableHlo.after hostOps0_10 V) main_v72_7 = hdraw (F := F) (at' V main_v58) (at' V main_v52) (at' V main_v55)
    ∧ at' (StableHlo.after hostOps0_10 V) main_v72_8 = cmpf .olt (hpot (hdraw (F := F) (at' V main_v58) (at' V main_v52) (at' V main_v55))) (at' V main_v23) := by
  refine ⟨?_, ?_, ?_, ?_, ?_, ?_, ?_, ?_⟩ <;> unfold hostOps0_10 <;> after_reads_simp <;> sl_kernel_rfl

theorem w0 : at' (StableHlo.after while0Ops0 V) main_while0b_v73 = addi (at' V main_v72_4) (constantI S_ 32 1#32)
    ∧ at' (StableHlo.after while0Ops0 V) main_while0b_v74 = cmpf .olt (F := F) (φ := .f32) (s := S16384x128) (at' V main_v72_7) (at' V main_v72_0)
    ∧ at' (StableHlo.after while0Ops0 V) main_while0b_v75 = broadcastInDim S16384x1 ![0] bcast_S16384_S16384x1_0 (at' V main_v72_8)
    ∧ at' (StableHlo.after while0Ops0 V) main_while0b_v77 = andi (hbc (at' V main_v72_8)) (cmpf .olt (F := F) (φ := .f32) (s := S16384x128) (at' V main_v72_7) (at' V main_v72_0)) := by
  refine ⟨?_, ?_, ?_, ?_⟩ <;> unfold while0Ops0 <;> after_reads_simp <;> sl_kernel_rfl

set_option maxHeartbeats 4000000 in
theorem w5 : at' (StableHlo.after while0Ops0_5 V) main_while0b_v90 = uni2 (F := F) (at' V main_while0b_v89) (at' V main_while0b_cst_40) (at' V main_while0b_cst_41) := by
  unfold while0Ops0_5; after_reads_simp; sl_kernel_rfl

theorem w4 : at' (StableHlo.after while0Ops0_4 V) main_while0b_v89 = hkey (at' V main_v72_1) (at' V main_v72_4)
    ∧ at' (StableHlo.after while0Ops0_4 V) main_while0b_cst_40 = (constant S_ .f32 0x00000000#32 : FVec F S_ .f32)
    ∧ at' (StableHlo.after while0Ops0_4 V) main_while0b_cst_41 = (constant S_ .f32 0x3F800000#32 : FVec F S_ .f32) := by
  refine ⟨?_, by unfold while0Ops0_4; after_reads_simp, by unfold while0Ops0_4; after_reads_simp⟩
  unfold while0Ops0_4; after_reads_simp
  refine congrArg (fun f => shapeCast S2 (Host.dynamicSlice S1x2 (at' V main_v72_1) f sliceFits_S54x2_S1x2) shapeCasts_S1x2_S2) (funext fun k => ?_)
  refine congrArg (fun w : IVec S_ 32 => (w (Shape.Idx.first h_S_)).toInt) ?_
  fin_cases k
  · change StableHlo.upto _ V 9 (Proc.devRef (τ := τ) .tc main_while0b_v87) = select (cmpi .slt (addi (constantI S_ 32 4#32) (at' V main_v72_4)) (constantI S_ 32 0#32))
      (addi (id (addi (constantI S_ 32 4#32) (at' V main_v72_4))) (constantI S_ 32 54#32)) (addi (constantI S_ 32 4#32) (at' V main_v72_4))
    after_reads_simp
  · change StableHlo.upto _ V 9 (Proc.devRef (τ := τ) .tc main_while0b_c_39) = constantI S_ 32 0#32
    after_reads_simp

theorem w1 : at' (StableHlo.after while0Ops0_1 V) main_while0b_v78
    = select (s := S16384x128) (at' V main_while0b_v77) (at' V main_v72_7) (at' V main_v72_5) := by
  unfold while0Ops0_1; after_reads_simp; sl_kernel_rfl
theorem w2 : at' (StableHlo.after while0Ops0_2 V) main_while0b_v81
    = andi (broadcastInDim S16384x128 ![0, 1] bcast_S16384x1_S16384x128_0_1 (at' V main_while0b_v75)) (noti (at' V main_while0b_v74)) := by
  unfold while0Ops0_2; after_reads_simp
theorem w3 : at' (StableHlo.after while0Ops0_3 V) main_while0b_v82
    = select (s := S16384x128) (at' V main_while0b_v81) (at' V main_v72_7) (at' V main_v72_6) := by
  unfold while0Ops0_3; after_reads_simp; sl_kernel_rfl
theorem w6 : at' (StableHlo.after while0Ops0_6 V) main_while0b_v93
    = hdraw (F := F) (at' V main_while0b_v90) (at' V main_while0b_v78) (at' V main_while0b_v82) := by
  unfold while0Ops0_6; after_reads_simp; sl_kernel_rfl
theorem w7 : at' (StableHlo.after while0Ops0_7 V) main_while0b_v94
    = select (s := S16384x128) (broadcastInDim S16384x128 ![0, 1] bcast_S16384x1_S16384x128_0_1 (at' V main_while0b_v75)) (at' V main_while0b_v93) (at' V main_v72_7) := by
  unfold while0Ops0_7; after_reads_simp; sl_kernel_rfl
theorem w8 : at' (StableHlo.after while0Ops0_8 V) main_v72_4 = at' V main_while0b_v73
    ∧ at' (StableHlo.after while0Ops0_8 V) main_v72_5 = at' V main_while0b_v78
    ∧ at' (StableHlo.after while0Ops0_8 V) main_v72_6 = at' V main_while0b_v82
    ∧ at' (StableHlo.after while0Ops0_8 V) main_v72_7 = at' V main_while0b_v94
    ∧ at' (StableHlo.after while0Ops0_8 V) main_v72_8 = hR (F := F) (at' V main_while0b_v94) (at' V main_v72_2) (at' V main_v72_8) := by
  refine ⟨?_, ?_, ?_, ?_, ?_⟩ <;> unfold while0Ops0_8 <;> after_reads_simp <;> sl_kernel_rfl

end Cert.ReferenceIdeal.Sl
end
-- ==== Proof.RI.Row.lean ====
/- The reference's steps one row at a time, over the extended reals. -/
module

public import proofs.«01_k».proof.Proof.Val.Spec
public import proofs.«01_k».proof.Proof.RI.Read

@[expose] public section

set_option maxRecDepth 65536

noncomputable section

namespace Cert.ReferenceIdeal.Sl

open Idealize.ShloMosaic Idealize.ShloMosaic.TcCoe
open Cert.ReferenceIdeal.Gen Cert.Core

/-- Word `j` of key `n` of a table. -/
def word (T : IVec S54x2 32) (n : ℕ) (j : Fin 2) : BitVec 32 := if h : n < 54 then T (ix2 ⟨n, h⟩ j) else 0#32

/-! ## The counters -/

theorem cnt2_at (R : Fin 16384) (c : Fin 128) : cnt2 (ix2 R c) = BitVec.ofNat 64 (128 * R.val + c.val) := by
  have e : cnt2 (ix2 R c) = 128#64 * BitVec.ofNat 64 R.val + 1#64 * BitVec.ofNat 64 c.val := by
    unfold cnt2; pointwise; rfl
  rw [e, BitVec.one_mul, BitVec.ofNat_add, BitVec.ofNat_mul]

theorem cnt1_at (R : Fin 16384) : cnt1 (ix1 R) = BitVec.ofNat 64 R.val := by
  have e : cnt1 (ix1 R) = 1#64 * BitVec.ofNat 64 R.val := by
    unfold cnt1; pointwise; rfl
  rw [e, BitVec.one_mul]

theorem low (n : ℕ) : (BitVec.ofNat 64 n).truncate 32 = BitVec.ofNat 32 n := by
  apply BitVec.eq_of_toNat_eq
  simp

theorem high (n : ℕ) (h : n < 2 ^ 32) : (IntOp.shrui .host (BitVec.ofNat 64 n) 32#64).truncate 32 = 0#32 := by
  unfold IntOp.shrui
  rw [if_pos (by decide)]
  apply BitVec.eq_of_toNat_eq
  have : n / 4294967296 = 0 := Nat.div_eq_of_lt h
  simp [Nat.shiftRight_eq_div_pow, Nat.mod_eq_of_lt (show n < 18446744073709551616 by omega), this]

theorem word0_at (k : IVec S2 32) : word0 slices_S2_S1_0 shapeCasts_S1_S_ k ix0 = k (ix1 0) := by
  unfold word0; pointwise
theorem word1_at (k : IVec S2 32) : word1 slices_S2_S1_1 shapeCasts_S1_S_ k ix0 = k (ix1 1) := by
  unfold word1; pointwise

theorem uni2_at (k : IVec S2 32) (R : Fin 16384) (c : Fin 128) :
    uni2 (F := Ideal) k (constant S_ .f32 0x00000000#32) (constant S_ .f32 0x3F800000#32) (ix2 R c)
      = u1 (k (ix1 0)) (k (ix1 1)) (BitVec.ofNat 32 (128 * R.val + c.val)) := by
  have hh : trunci 32 (Host.shrui cnt2 (broadcastInDim S16384x128 ![] bcast_S_S16384x128 (constantI S_ 64 32#64))) = broadcast S16384x128 0#32 := by
    funext i
    obtain ⟨R, c, rfl⟩ : ∃ (R : Fin 16384) (c : Fin 128), i = ix2 R c := ⟨_, _, eq_ix2 _⟩
    show (IntOp.shrui .host (cnt2 (ix2 R c)) 32#64).truncate 32 = 0#32
    rw [cnt2_at]
    exact high _ (by omega)
  have hb := hbits_at bcast_S_S16384x128 (word0 slices_S2_S1_0 shapeCasts_S1_S_ k) (word1 slices_S2_S1_1 shapeCasts_S1_S_ k) _ (trunci 32 cnt2) hh (ix2 R c)
  rw [word0_at, word1_at, show (trunci 32 cnt2) (ix2 R c) = (cnt2 (ix2 R c)).truncate 32 from rfl, cnt2_at, low] at hb
  unfold uni2
  rw [hend_at _ _ _ _ _ (by rw [hb]; exact u1_nonneg _ _ _), hb]

theorem uni1_at (k : IVec S2 32) (R : Fin 16384) :
    uni1 (F := Ideal) k (constant S_ .f32 0x00000000#32) (constant S_ .f32 0x3F800000#32) (ix1 R) = u1 (k (ix1 0)) (k (ix1 1)) (BitVec.ofNat 32 R.val) := by
  have hh : trunci 32 (Host.shrui cnt1 (broadcastInDim S16384 ![] bcast_S_S16384 (constantI S_ 64 32#64))) = broadcast S16384 0#32 := by
    funext i
    obtain ⟨R, rfl⟩ : ∃ R : Fin 16384, i = ix1 R := ⟨_, eq_ix1 _⟩
    show (IntOp.shrui .host (cnt1 (ix1 R)) 32#64).truncate 32 = 0#32
    rw [cnt1_at]
    exact high _ (by omega)
  have hb := hbits_at bcast_S_S16384 (word0 slices_S2_S1_0 shapeCasts_S1_S_ k) (word1 slices_S2_S1_1 shapeCasts_S1_S_ k) _ (trunci 32 cnt1) hh (ix1 R)
  rw [word0_at, word1_at, show (trunci 32 cnt1) (ix1 R) = (cnt1 (ix1 R)).truncate 32 from rfl, cnt1_at, low] at hb
  unfold uni1
  rw [hend_at _ _ _ _ _ (by rw [hb]; exact u1_nonneg _ _ _), hb]

/-! ## The keys -/

theorem row0_at (T : IVec S54x2 32) (j : Fin 2) : row0 T (ix1 j) = word T 0 j := by
  unfold row0 word; pointwise
theorem row1_at (T : IVec S54x2 32) (j : Fin 2) : row1 T (ix1 j) = word T 1 j := by
  unfold row1 word; pointwise
theorem row2_at (T : IVec S54x2 32) (j : Fin 2) : row2 T (ix1 j) = word T 2 j := by
  unfold row2 word; pointwise
theorem row3_at (T : IVec S54x2 32) (j : Fin 2) : row3 T (ix1 j) = word T 3 j := by
  unfold row3 word; pointwise

theorem trip_row : ∀ i < 50, (if BitVec.ofBool ((4#32 + BitVec.ofNat 32 i).slt 0#32) = 1 then 4#32 + BitVec.ofNat 32 i + 54#32 else 4#32 + BitVec.ofNat 32 i).toInt = ((i + 4 : ℕ) : ℤ) := by
  decide +kernel

theorem slice_row (T : IVec S54x2 32) (f : Fin S54x2.rank → ℤ) (n : ℕ) (hn : n < 54) (h0 : f 0 = n) (h1 : f 1 = 0) (j : Fin 2) :
    shapeCast S2 (Host.dynamicSlice S1x2 T f sliceFits_S54x2_S1x2) shapeCasts_S1x2_S2 (ix1 j) = T (ix2 ⟨n, hn⟩ j) := by
  have e0 : Host.clampedStart S54x2 S1x2 rfl f 0 = n := Host.clampedStart_of_le _ f 0 n h0 (show n + 1 ≤ 54 by omega)
  have e1 : Host.clampedStart S54x2 S1x2 rfl f 1 = 0 := Host.clampedStart_of_le _ f 1 0 h1 (show 0 + 2 ≤ 2 by omega)
  pointwise
  simp only [e0, e1, Nat.zero_add]

theorem hkey_at (T : IVec S54x2 32) (i : ℕ) (hi : i < 50) (j : Fin 2) : hkey T (constantI S_ 32 (BitVec.ofNat 32 i)) (ix1 j) = word T (i + 4) j := by
  unfold hkey word
  rw [dif_pos (by omega)]
  exact slice_row T _ (i + 4) (by omega) (trip_row i hi) rfl j

/-! ## The values -/

theorem tau_f32 : ∃ r : ℝ, 0 < r ∧ Ideal.ofBits .f32 0x40C90FDB#32 = (r : EReal) := by
  refine ⟨_, ?_, by simp [Ideal.ofBits, Ideal.ieee, -EReal.coe_mul]; rfl⟩
  norm_num
theorem dim_f32 : ∃ r : ℝ, Ideal.ofBits .f32 0x42800000#32 = (r : EReal) :=
  ⟨_, by simp [Ideal.ofBits, Ideal.ieee, -EReal.coe_mul]; rfl⟩

theorem off_real : ∃ C : ℝ, off (F := Ideal) ix0 = (C : EReal) := by
  obtain ⟨r, hr, h⟩ := tau_f32
  obtain ⟨d, hd⟩ := dim_f32
  refine ⟨d * Real.log r, ?_⟩
  show Ideal.ofBits .f32 0x42800000#32 * Ideal.log (Ideal.ofBits .f32 0x40C90FDB#32) = _
  rw [h, hd]
  show (d : EReal) * (if r ≤ 0 then ⊥ else (Real.log r : EReal)) = _
  rw [if_neg (by linarith), EReal.coe_mul]

theorem c1_at (b : BitVec 32) (R : Fin 16384) : c1 (F := Ideal) b (ix1 R) = Ideal.ofBits .f32 b := rfl
theorem c2_at (b : BitVec 32) (i : S16384x128.Idx) : c2 (F := Ideal) b i = Ideal.ofBits .f32 b := rfl

theorem hpot_at (x : FVec Ideal S16384x128 .f32) (R : Fin 16384) : hpot x (ix1 R) = rpot (fun c => x (ix2 R c)) - off (F := Ideal) ix0 := by
  unfold hpot rpot
  pointwise
  rfl

theorem bc_at (r : IVec S16384 1) (R : Fin 16384) (c : Fin 128) : hbc r (ix2 R c) = r (ix1 R) := by
  unfold hbc; pointwise

/-- Row `R` of the reference's state. -/
structure RRep (a b z : FVec Ideal S16384x128 .f32) (r : IVec S16384 1) (R : Fin 16384) (q : RS) : Prop where
  a : ∀ c, a (ix2 R c) = q.a c
  b : ∀ c, b (ix2 R c) = q.b c
  z : ∀ c, z (ix2 R c) = q.z c
  r : r (ix1 R) = BitVec.ofBool q.r

/-- Row `R`'s limit in the reference: the level there and the proposal's potential both less the same constant. -/
def RLim (y : FVec Ideal S16384 .f32) (R : Fin 16384) (lim : (Fin 128 → EReal) → Bool) : Prop :=
  ∀ z, lim z = decide (rpot z - off (F := Ideal) ix0 < y (ix1 R))

section
variable {a b z : FVec Ideal S16384x128 .f32} {r : IVec S16384 1} {R : Fin 16384} {q : RS} (h : RRep a b z r R q)
include h

theorem RRep.hA (x : FVec Ideal S16384x128 .f32) (c : Fin 128) : hA x z a r (ix2 R c) = advA (fun c => x (ix2 R c)) q c := by
  show (if hbc r (ix2 R c) &&& BitVec.ofBool (decide (z (ix2 R c) < x (ix2 R c))) = 1 then z (ix2 R c) else a (ix2 R c)) = _
  rw [bc_at, h.r, h.z, h.a]
  unfold advA
  by_cases h2 : q.z c < x (ix2 R c) <;> cases q.r <;> simp [h2]

theorem RRep.hB (x : FVec Ideal S16384x128 .f32) (c : Fin 128) : hB x z b r (ix2 R c) = advB (fun c => x (ix2 R c)) q c := by
  show (if hbc r (ix2 R c) &&& ~~~(BitVec.ofBool (decide (z (ix2 R c) < x (ix2 R c)))) = 1 then z (ix2 R c) else b (ix2 R c)) = _
  rw [bc_at, h.r, h.z, h.b]
  unfold advB
  by_cases h2 : q.z c < x (ix2 R c) <;> cases q.r <;> simp [h2]

theorem RRep.hZ (u x : FVec Ideal S16384x128 .f32) (c : Fin 128) :
    hZ u (Sl.hA x z a r) (Sl.hB x z b r) z r (ix2 R c) = advZ (fun c => x (ix2 R c)) (fun c => u (ix2 R c)) q c := by
  show (if hbc r (ix2 R c) = 1 then u (ix2 R c) * (Sl.hB x z b r (ix2 R c) - Sl.hA x z a r (ix2 R c)) + Sl.hA x z a r (ix2 R c) else z (ix2 R c)) = _
  rw [bc_at, h.r, h.z, h.hA, h.hB]
  unfold advZ
  cases q.r <;> simp

theorem RRep.next (u x : FVec Ideal S16384x128 .f32) (y : FVec Ideal S16384 .f32) (lim : (Fin 128 → EReal) → Bool) (hl : RLim y R lim) :
    RRep (Sl.hA x z a r) (Sl.hB x z b r) (Sl.hZ u (Sl.hA x z a r) (Sl.hB x z b r) z r) (hR (Sl.hZ u (Sl.hA x z a r) (Sl.hB x z b r) z r) y r) R
      (adv (fun c => x (ix2 R c)) (fun c => u (ix2 R c)) lim q) where
  a := h.hA x
  b := h.hB x
  z := h.hZ u x
  r := by
    show r (ix1 R) &&& BitVec.ofBool (decide (hpot (Sl.hZ u (Sl.hA x z a r) (Sl.hB x z b r) z r) (ix1 R) < y (ix1 R))) = _
    rw [h.r, hpot_at, funext (h.hZ u x)]
    show _ = BitVec.ofBool (q.r && lim _)
    rw [hl]
    cases q.r <;> cases decide (rpot (advZ (fun c => x (ix2 R c)) (fun c => u (ix2 R c)) q) - off (F := Ideal) ix0 < y (ix1 R)) <;> rfl

end

theorem start_rep (l s u : FVec Ideal S16384x128 .f32) (y : FVec Ideal S16384 .f32) (R : Fin 16384) (lim : (Fin 128 → EReal) → Bool) (hl : RLim y R lim) :
    RRep (hlo l s) (hhi l s) (hdraw u (hlo l s) (hhi l s)) (cmpf .olt (hpot (hdraw u (hlo l s) (hhi l s))) y) R
      (start (fun c => l (ix2 R c)) (fun c => s (ix2 R c)) (fun c => u (ix2 R c)) lim) where
  a _ := rfl
  b _ := rfl
  z _ := rfl
  r := by
    show BitVec.ofBool (decide (hpot (hdraw u (hlo l s) (hhi l s)) (ix1 R) < y (ix1 R))) = BitVec.ofBool (lim _)
    rw [hpot_at, hl]; rfl

theorem of1_at (x : FVec Ideal S1 .f32) (i : S16384x128.Idx) : of1 x i = x (ix1 0) := by
  obtain ⟨R, c, rfl⟩ : ∃ (R : Fin 16384) (c : Fin 128), i = ix2 R c := ⟨_, _, eq_ix2 _⟩
  unfold of1; pointwise

theorem hl_at (u x : FVec Ideal S16384x128 .f32) (i : S16384x128.Idx) : hl u x nil1 i = ctr (u i) (x i) := by
  show u i * of1 nil1 i + (x i - of1 (Host.divf (nil1 (F := Ideal)) (broadcastInDim S1 ![] bcast_S_S1 (constant S_ .f32 0x40000000#32))) i) = _
  rw [of1_at, of1_at]; rfl

theorem hwid_at (l x u : FVec Ideal S16384x128 .f32) (i : S16384x128.Idx) : hwid (hdiff l x) u i = swid (l i) (x i) (rwid (u i)) := rfl

/-- The level of a row, less the constant that its potential is less. -/
theorem lim_at (T : IVec S54x2 32) (k : IVec S2 32) (hk : ∀ j, k (ix1 j) = word T 0 j) (x : FVec Ideal S16384x128 .f32) (R : Fin 16384) :
    RLim (hlev (uni1 (F := Ideal) k (constant S_ .f32 0x00000000#32) (constant S_ .f32 0x3F800000#32)) (hpot x)) R (below (word T) R.val fun c => x (ix2 R c)) := by
  intro z
  obtain ⟨C, hC⟩ := off_real
  obtain ⟨t, ht, -, ht1⟩ := u1_real (word T 0 0) (word T 0 1) (BitVec.ofNat 32 R.val)
  obtain ⟨l, hl⟩ := log_real rfl ht1
  have e : hlev (uni1 (F := Ideal) k (constant S_ .f32 0x00000000#32) (constant S_ .f32 0x3F800000#32)) (hpot x) (ix1 R)
      = Ideal.log (Ideal.ofBits .f32 0x3F800000#32 - uni1 (F := Ideal) k (constant S_ .f32 0x00000000#32) (constant S_ .f32 0x3F800000#32) (ix1 R)) + hpot x (ix1 R) := rfl
  rw [e, uni1_at, hk, hk, hpot_at, hC]
  unfold below rlog
  rw [ht, hl]
  exact decide_eq_decide.2 (lim_eq _ _ l C).symm

theorem low_bot (T : IVec S54x2 32) (R : ℕ) (x : Fin 128 → EReal) (h : rpot x = ⊥) (z : Fin 128 → EReal) : below (word T) R x z = false := by
  unfold below
  rw [h, EReal.add_bot]
  simp

end Cert.ReferenceIdeal.Sl
end
-- ==== Proof.RI.Final.lean ====
/- What the reference's last point holds: every row's fifty trips from its first state. -/
module

public import proofs.«01_k».proof.Proof.RI.Row
public import proofs.«01_k».proof.Proof.RI.Run

@[expose] public section

set_option maxRecDepth 65536

noncomputable section

namespace Cert.ReferenceIdeal.Sl

open Idealize.ShloMosaic Idealize.ShloMosaic.TcCoe
open Idealize.ShloMosaic.StableHlo (after afterL entryContents launchContents after_of_writes_sub)
open Cert.ReferenceIdeal Cert.ReferenceIdeal.Gen Cert.ReferenceIdeal.Value Cert.Core

/-- The program's key table. -/
def tab : IVec S54x2 32 :=
  table bcast_S_S54 slices_S2_S1_0 slices_S2_S1_1 shapeCasts_S1_S_ bcast_S54_S54x1_0 concatenates_S54x1_S54x1_S54x2_d1 (seed bcast_S_S1 concatenates_S1_S1_S2_d0)

/-- The ends of the draws' range. -/
abbrev nought : FVec Ideal S_ .f32 := constant S_ .f32 0x00000000#32
abbrev one : FVec Ideal S_ .f32 := constant S_ .f32 0x3F800000#32

/-- Every row's level. -/
def lev (x : FVec Ideal S16384x128 .f32) : FVec Ideal S16384 .f32 := hlev (uni1 (row0 tab) nought one) (hpot x)
/-- The centres. -/
def mids (x : FVec Ideal S16384x128 .f32) : FVec Ideal S16384x128 .f32 := hl (uni2 (row1 tab) nought one) x nil1
/-- The widths. -/
def wids (x : FVec Ideal S16384x128 .f32) : FVec Ideal S16384x128 .f32 := hwid (hdiff (mids x) x) (uni2 (row2 tab) nought one)
/-- The first points. -/
def firsts (x : FVec Ideal S16384x128 .f32) : FVec Ideal S16384x128 .f32 :=
  hdraw (uni2 (row3 tab) nought one) (hlo (mids x) (wids x)) (hhi (mids x) (wids x))

section
variable (V : Valuation τ sig (Elt Ideal))

/-- The contents after each stretch. -/
abbrev E1 := after (hostOps0 (F := Ideal)) V
abbrev E2 := after (hostOps0_1 (F := Ideal)) (E1 V)
abbrev E3 := after (hostOps0_2 (F := Ideal)) (E2 V)
abbrev E4 := after (hostOps0_3 (F := Ideal)) (E3 V)
abbrev E5 := after (hostOps0_4 (F := Ideal)) (E4 V)
abbrev E6 := after (hostOps0_5 (F := Ideal)) (E5 V)
abbrev E7 := after (hostOps0_6 (F := Ideal)) (E6 V)
abbrev E8 := after (hostOps0_7 (F := Ideal)) (E7 V)
abbrev E9 := after (hostOps0_8 (F := Ideal)) (E8 V)
abbrev E10 := after (hostOps0_9 (F := Ideal)) (E9 V)
abbrev E11 := after (hostOps0_10 (F := Ideal)) (E10 V)

theorem p1 (r : Ref sig .tc) (h : r ∉ hostOps0_W) : at' (E1 V) r = at' V r := after_of_writes_sub _ _ hostOps0_writes h
theorem p2 (r : Ref sig .tc) (h : r ∉ hostOps0_1_W) : at' (E2 V) r = at' (E1 V) r := after_of_writes_sub _ _ hostOps0_1_writes h
theorem p3 (r : Ref sig .tc) (h : r ∉ hostOps0_2_W) : at' (E3 V) r = at' (E2 V) r := after_of_writes_sub _ _ hostOps0_2_writes h
theorem p4 (r : Ref sig .tc) (h : r ∉ hostOps0_3_W) : at' (E4 V) r = at' (E3 V) r := after_of_writes_sub _ _ hostOps0_3_writes h
theorem p5 (r : Ref sig .tc) (h : r ∉ hostOps0_4_W) : at' (E5 V) r = at' (E4 V) r := after_of_writes_sub _ _ hostOps0_4_writes h
theorem p6 (r : Ref sig .tc) (h : r ∉ hostOps0_5_W) : at' (E6 V) r = at' (E5 V) r := after_of_writes_sub _ _ hostOps0_5_writes h
theorem p7 (r : Ref sig .tc) (h : r ∉ hostOps0_6_W) : at' (E7 V) r = at' (E6 V) r := after_of_writes_sub _ _ hostOps0_6_writes h
theorem p8 (r : Ref sig .tc) (h : r ∉ hostOps0_7_W) : at' (E8 V) r = at' (E7 V) r := after_of_writes_sub _ _ hostOps0_7_writes h
theorem p9 (r : Ref sig .tc) (h : r ∉ hostOps0_8_W) : at' (E9 V) r = at' (E8 V) r := after_of_writes_sub _ _ hostOps0_8_writes h
theorem p10 (r : Ref sig .tc) (h : r ∉ hostOps0_9_W) : at' (E10 V) r = at' (E9 V) r := after_of_writes_sub _ _ hostOps0_9_writes h

theorem t2 : at' (E2 V) main_v7 = tab := (r1 (E1 V)).trans (by rw [r0]; rfl)
theorem t4 : at' (E4 V) main_v7 = tab := by rw [p4 _ _ (by decide +kernel), p3 _ _ (by decide +kernel), t2]
theorem t6 : at' (E6 V) main_v7 = tab := by rw [p6 _ _ (by decide +kernel), p5 _ _ (by decide +kernel), t4]
theorem t8 : at' (E8 V) main_v7 = tab := by rw [p8 _ _ (by decide +kernel), p7 _ _ (by decide +kernel), t6]
theorem t10 : at' (E10 V) main_v7 = tab := by rw [p10 _ _ (by decide +kernel), p9 _ _ (by decide +kernel), t8]

theorem x2 : at' (E2 V) main_arg0 = at' V main_arg0 := by rw [p2 _ _ (by decide +kernel), p1 _ _ (by decide +kernel)]
theorem x6 : at' (E6 V) main_arg0 = at' V main_arg0 := by
  rw [p6 _ _ (by decide +kernel), p5 _ _ (by decide +kernel), p4 _ _ (by decide +kernel), p3 _ _ (by decide +kernel), x2]
theorem x10 : at' (E10 V) main_arg0 = at' V main_arg0 := by
  rw [p10 _ _ (by decide +kernel), p9 _ _ (by decide +kernel), p8 _ _ (by decide +kernel), p7 _ _ (by decide +kernel), x6]

theorem lev5 : at' (E5 V) main_v23 = lev (at' V main_arg0) := by
  obtain ⟨h16, h18, h5, h6⟩ := r2 (E2 V)
  have h := (r4 (E4 V)).1
  rw [r3, p4 _ main_v16 (by decide +kernel), h16, h18, h5, h6, t2, x2] at h
  exact h
theorem lev10 : at' (E10 V) main_v23 = lev (at' V main_arg0) := by
  rw [p10 _ _ (by decide +kernel), p9 _ _ (by decide +kernel), p8 _ _ (by decide +kernel), p7 _ _ (by decide +kernel), p6 _ _ (by decide +kernel), lev5]

theorem mids7 : at' (E7 V) main_v36 = mids (at' V main_arg0) ∧ at' (E7 V) main_v40 = hdiff (mids (at' V main_arg0)) (at' V main_arg0) := by
  obtain ⟨-, h26, h24, h9, h10⟩ := r4 (E4 V)
  obtain ⟨h36, h40, -⟩ := r6 (E6 V)
  rw [r5, p6 _ main_v24 (by decide +kernel), h26, h24, h9, h10, t4, x6] at h36 h40
  exact ⟨h36, h40⟩

theorem ends9 : at' (E9 V) main_v52 = hlo (mids (at' V main_arg0)) (wids (at' V main_arg0)) ∧ at' (E9 V) main_v55 = hhi (mids (at' V main_arg0)) (wids (at' V main_arg0)) := by
  obtain ⟨-, -, h42, h13, h14⟩ := r6 (E6 V)
  obtain ⟨h52, h55, -⟩ := r8 (E8 V)
  rw [r7, p8 _ main_v36 (by decide +kernel), p8 _ main_v40 (by decide +kernel), (mids7 V).1, (mids7 V).2, h42, h13, h14, t6] at h52 h55
  exact ⟨h52, h55⟩

theorem draw10 : at' (E10 V) main_v58 = uni2 (row3 tab) nought one := by
  obtain ⟨-, -, h57, h19, h20⟩ := r8 (E8 V)
  rw [r9, h57, h19, h20, t8]

theorem entry : at' (E11 V) main_v72_0 = at' V main_arg0 ∧ at' (E11 V) main_v72_1 = tab ∧ at' (E11 V) main_v72_2 = lev (at' V main_arg0)
    ∧ at' (E11 V) main_v72_4 = constantI S_ 32 0#32
    ∧ at' (E11 V) main_v72_5 = hlo (mids (at' V main_arg0)) (wids (at' V main_arg0)) ∧ at' (E11 V) main_v72_6 = hhi (mids (at' V main_arg0)) (wids (at' V main_arg0))
    ∧ at' (E11 V) main_v72_7 = firsts (at' V main_arg0)
    ∧ at' (E11 V) main_v72_8 = cmpf .olt (hpot (firsts (at' V main_arg0))) (lev (at' V main_arg0)) := by
  obtain ⟨h0, h1, h2, h4, h5, h6, h7, h8⟩ := r10 (E10 V)
  rw [x10] at h0
  rw [t10] at h1
  rw [lev10] at h2
  rw [p10 _ _ (by decide +kernel), (ends9 V).1] at h5
  rw [p10 _ _ (by decide +kernel), (ends9 V).2] at h6
  rw [p10 _ main_v52 (by decide +kernel), p10 _ main_v55 (by decide +kernel), (ends9 V).1, (ends9 V).2, draw10] at h7 h8
  rw [lev10] at h8
  exact ⟨h0, h1, h2, h4, h5, h6, h7, h8⟩

/-- The contents after each stretch of a trip. -/
abbrev B1 := after (while0Ops0 (F := Ideal)) V
abbrev B2 := after (while0Ops0_1 (F := Ideal)) (B1 V)
abbrev B3 := after (while0Ops0_2 (F := Ideal)) (B2 V)
abbrev B4 := after (while0Ops0_3 (F := Ideal)) (B3 V)
abbrev B5 := after (while0Ops0_4 (F := Ideal)) (B4 V)
abbrev B6 := after (while0Ops0_5 (F := Ideal)) (B5 V)
abbrev B7 := after (while0Ops0_6 (F := Ideal)) (B6 V)
abbrev B8 := after (while0Ops0_7 (F := Ideal)) (B7 V)
abbrev B9 := after (while0Ops0_8 (F := Ideal)) (B8 V)

theorem q1 (r : Ref sig .tc) (h : r ∉ while0Ops0_W) : at' (B1 V) r = at' V r := after_of_writes_sub _ _ while0Ops0_writes h
theorem q2 (r : Ref sig .tc) (h : r ∉ while0Ops0_1_W) : at' (B2 V) r = at' (B1 V) r := after_of_writes_sub _ _ while0Ops0_1_writes h
theorem q3 (r : Ref sig .tc) (h : r ∉ while0Ops0_2_W) : at' (B3 V) r = at' (B2 V) r := after_of_writes_sub _ _ while0Ops0_2_writes h
theorem q4 (r : Ref sig .tc) (h : r ∉ while0Ops0_3_W) : at' (B4 V) r = at' (B3 V) r := after_of_writes_sub _ _ while0Ops0_3_writes h
theorem q5 (r : Ref sig .tc) (h : r ∉ while0Ops0_4_W) : at' (B5 V) r = at' (B4 V) r := after_of_writes_sub _ _ while0Ops0_4_writes h
theorem q6 (r : Ref sig .tc) (h : r ∉ while0Ops0_5_W) : at' (B6 V) r = at' (B5 V) r := after_of_writes_sub _ _ while0Ops0_5_writes h
theorem q7 (r : Ref sig .tc) (h : r ∉ while0Ops0_6_W) : at' (B7 V) r = at' (B6 V) r := after_of_writes_sub _ _ while0Ops0_6_writes h
theorem q8 (r : Ref sig .tc) (h : r ∉ while0Ops0_7_W) : at' (B8 V) r = at' (B7 V) r := after_of_writes_sub _ _ while0Ops0_7_writes h

/-- The point, the table, the levels, the counter and the state at a trip's start. -/
structure Held (p : FVec Ideal S16384x128 .f32) (i : IVec S_ 32) (a b z : FVec Ideal S16384x128 .f32) (r : IVec S16384 1) : Prop where
  x : at' V main_v72_0 = p
  T : at' V main_v72_1 = tab
  y : at' V main_v72_2 = lev p
  i : at' V main_v72_4 = i
  a : at' V main_v72_5 = a
  b : at' V main_v72_6 = b
  z : at' V main_v72_7 = z
  r : at' V main_v72_8 = r

/-- What no stretch of the trip writes but its last. -/
theorem early (r : Ref sig .tc) (h : ∀ W ∈ [while0Ops0_W, while0Ops0_1_W, while0Ops0_2_W, while0Ops0_3_W, while0Ops0_4_W, while0Ops0_5_W, while0Ops0_6_W, while0Ops0_7_W], r ∉ W) :
    at' (B8 V) r = at' V r ∧ at' (B7 V) r = at' V r ∧ at' (B4 V) r = at' V r ∧ at' (B3 V) r = at' V r ∧ at' (B1 V) r = at' V r := by
  rw [q8 _ _ (h _ (.tail _ (.tail _ (.tail _ (.tail _ (.tail _ (.tail _ (.tail _ (.head _))))))))), q7 _ _ (h _ (.tail _ (.tail _ (.tail _ (.tail _ (.tail _ (.tail _ (.head _)))))))),
    q6 _ _ (h _ (.tail _ (.tail _ (.tail _ (.tail _ (.tail _ (.head _))))))), q5 _ _ (h _ (.tail _ (.tail _ (.tail _ (.tail _ (.head _)))))),
    q4 _ _ (h _ (.tail _ (.tail _ (.tail _ (.head _))))), q3 _ _ (h _ (.tail _ (.tail _ (.head _)))), q2 _ _ (h _ (.tail _ (.head _))), q1 _ _ (h _ (.head _))]
  exact ⟨rfl, rfl, rfl, rfl, rfl⟩

variable {V}

theorem Held.trip {x : FVec Ideal S16384x128 .f32} {i : IVec S_ 32} {a b z : FVec Ideal S16384x128 .f32} {r : IVec S16384 1} (h : Held V x i a b z r) :
    Held (B9 V) x (addi i (constantI S_ 32 1#32)) (hA x z a r) (hB x z b r) (hZ (uni2 (hkey tab i) nought one) (hA x z a r) (hB x z b r) z r)
      (hR (hZ (uni2 (hkey tab i) nought one) (hA x z a r) (hB x z b r) z r) (lev x) r) := by
  obtain ⟨h73, h74, h75, h77⟩ := w0 V
  obtain ⟨h89, hc0, hc1⟩ := w4 (B4 V)
  obtain ⟨g4, g5, g6, g7, g8⟩ := w8 (B8 V)
  have e0 := early V main_v72_0 (by decide +kernel)
  have e1 := early V main_v72_1 (by decide +kernel)
  have e2 := early V main_v72_2 (by decide +kernel)
  have e4 := early V main_v72_4 (by decide +kernel)
  have e5 := early V main_v72_5 (by decide +kernel)
  have e6 := early V main_v72_6 (by decide +kernel)
  have e7 := early V main_v72_7 (by decide +kernel)
  have e8 := early V main_v72_8 (by decide +kernel)
  have s78 : at' (B2 V) main_while0b_v78 = hA x z a r := by
    rw [w1, h77, e7.2.2.2.2, e5.2.2.2.2, h.r, h.z, h.x, h.a]; rfl
  have s81 : at' (B3 V) main_while0b_v81 = andi (hbc r) (noti (cmpf .olt z x)) := by
    rw [w2, q2 _ _ (by decide +kernel), q2 _ _ (by decide +kernel), h75, h74, h.r, h.z, h.x]; rfl
  have s82 : at' (B4 V) main_while0b_v82 = hB x z b r := by
    rw [w3, s81, e7.2.2.2.1, e6.2.2.2.1, h.z, h.b]; rfl
  have s90 : at' (B6 V) main_while0b_v90 = uni2 (hkey tab i) nought one := by
    rw [w5, h89, hc0, hc1, e1.2.2.1, e4.2.2.1, h.T, h.i]
  have s78' : at' (B6 V) main_while0b_v78 = hA x z a r := by
    rw [q6 _ _ (by decide +kernel), q5 _ _ (by decide +kernel), q4 _ _ (by decide +kernel), q3 _ _ (by decide +kernel), s78]
  have s82' : at' (B6 V) main_while0b_v82 = hB x z b r := by rw [q6 _ _ (by decide +kernel), q5 _ _ (by decide +kernel), s82]
  have s75' : at' (B7 V) main_while0b_v75 = broadcastInDim S16384x1 ![0] bcast_S16384_S16384x1_0 r := by
    rw [q7 _ _ (by decide +kernel), q6 _ _ (by decide +kernel), q5 _ _ (by decide +kernel), q4 _ _ (by decide +kernel), q3 _ _ (by decide +kernel),
      q2 _ _ (by decide +kernel), h75, h.r]
  have s94 : at' (B8 V) main_while0b_v94 = hZ (uni2 (hkey tab i) nought one) (hA x z a r) (hB x z b r) z r := by
    rw [w7, w6, s90, s78', s82', s75', e7.2.1, h.z]; rfl
  refine ⟨?_, ?_, ?_, ?_, ?_, ?_, ?_, ?_⟩
  · exact (after_of_writes_sub _ _ while0Ops0_8_writes (by decide +kernel)).trans (e0.1.trans h.x)
  · exact (after_of_writes_sub _ _ while0Ops0_8_writes (by decide +kernel)).trans (e1.1.trans h.T)
  · exact (after_of_writes_sub _ _ while0Ops0_8_writes (by decide +kernel)).trans (e2.1.trans h.y)
  · rw [g4, q8 _ _ (by decide +kernel), q7 _ _ (by decide +kernel), q6 _ _ (by decide +kernel), q5 _ _ (by decide +kernel), q4 _ _ (by decide +kernel),
      q3 _ _ (by decide +kernel), q2 _ _ (by decide +kernel), h73, h.i]
  · rw [g5, q8 _ _ (by decide +kernel), q7 _ _ (by decide +kernel), s78']
  · rw [g6, q8 _ _ (by decide +kernel), q7 _ _ (by decide +kernel), s82']
  · rw [g7, s94]
  · rw [g8, s94, e2.1, e8.1, h.y, h.r]

end

variable (m : (ℓ : Loc nD τ sig) → Buf (Elt Ideal) ℓ) (c : Dev nD)

/-- The point at the launch. -/
abbrev point : FVec Ideal S16384x128 .f32 := at' (launchContents m c) main_arg0

/-- Row `R` before the trip `k`, with the reference's own centres and widths. -/
def rowAt (k : ℕ) (R : Fin 16384) : RS :=
  it (fun d => point m c (ix2 R d)) (fun i d => U (word tab) (i + 4) R.val d) (below (word tab) R.val fun d => point m c (ix2 R d))
    (start (fun d => mids (point m c) (ix2 R d)) (fun d => wids (point m c) (ix2 R d)) (fun d => U (word tab) 3 R.val d) (below (word tab) R.val fun d => point m c (ix2 R d))) k

theorem lev_lim (x : FVec Ideal S16384x128 .f32) (R : Fin 16384) : RLim (lev x) R (below (word tab) R.val fun d => x (ix2 R d)) :=
  lim_at tab (row0 tab) (row0_at tab) x R

theorem uni_row (k : IVec S2 32) (n : ℕ) (hk : ∀ j, k (ix1 j) = word tab n j) (R : Fin 16384) (d : Fin 128) :
    uni2 k nought one (ix2 R d) = U (word tab) n R.val d := by
  rw [uni2_at, hk, hk]; rfl

theorem trips (k : ℕ) (hk : k ≤ 50) : ∃ a b z r, Held (atK m k c) (point m c) (constantI S_ 32 (BitVec.ofNat 32 k)) a b z r
    ∧ ∀ R, RRep a b z r R (rowAt m c k R) := by
  induction k with
  | zero =>
    obtain ⟨h0, h1, h2, h4, h5, h6, h7, h8⟩ := entry (launchContents m c)
    refine ⟨_, _, _, _, ⟨h0, h1, h2, h4, h5, h6, h7, h8⟩, fun R => ?_⟩
    have := start_rep (mids (point m c)) (wids (point m c)) (uni2 (row3 tab) nought one) (lev (point m c)) R _ (lev_lim (point m c) R)
    rw [funext fun d => uni_row (row3 tab) 3 (row3_at tab) R d] at this
    exact this
  | succ k ih =>
    obtain ⟨a, b, z, r, h, hr⟩ := ih (by omega)
    have h' : Held (after condOps (atK m k c)) (point m c) (constantI S_ 32 (BitVec.ofNat 32 k)) a b z r := by
      constructor
      · exact (after_of_writes_sub _ _ condOps_writes (by decide +kernel)).trans h.x
      · exact (after_of_writes_sub _ _ condOps_writes (by decide +kernel)).trans h.T
      · exact (after_of_writes_sub _ _ condOps_writes (by decide +kernel)).trans h.y
      · exact (after_of_writes_sub _ _ condOps_writes (by decide +kernel)).trans h.i
      · exact (after_of_writes_sub _ _ condOps_writes (by decide +kernel)).trans h.a
      · exact (after_of_writes_sub _ _ condOps_writes (by decide +kernel)).trans h.b
      · exact (after_of_writes_sub _ _ condOps_writes (by decide +kernel)).trans h.z
      · exact (after_of_writes_sub _ _ condOps_writes (by decide +kernel)).trans h.r
    have hi : addi (constantI S_ 32 (BitVec.ofNat 32 k)) (constantI S_ 32 1#32) = constantI S_ 32 (BitVec.ofNat 32 (k + 1)) :=
      funext fun _ => (BitVec.ofNat_add k 1).symm
    have ht := h'.trip
    rw [hi] at ht
    refine ⟨_, _, _, _, ht, fun R => ?_⟩
    have := (hr R).next (uni2 (hkey tab (constantI S_ 32 (BitVec.ofNat 32 k))) nought one) (point m c) (lev (point m c)) _ (lev_lim (point m c) R)
    rw [funext fun d => uni_row _ (k + 4) (hkey_at tab k (by omega)) R d] at this
    exact this

/-- No draw of the first points is nought. -/
def Pos : Prop := ∀ n < 2 ^ 21, wbits (word tab 3 0) (word tab 3 1) (BitVec.ofNat 32 n) ≠ 0

theorem final_at (hp : Pos) : at' (atK m 50 c) main_v72_7 = fun i : S16384x128.Idx => (full (word tab) (i 0).val (fun d => point m c (ix2 (i 0) d)) 50).z (i 1) := by
  obtain ⟨a, b, z, r, h, hr⟩ := trips m c 50 le_rfl
  refine h.z.trans (funext fun i => ?_)
  obtain ⟨R, d, rfl⟩ : ∃ (R : Fin 16384) (d : Fin 128), i = ix2 R d := ⟨_, _, eq_ix2 _⟩
  rw [(hr R).z]
  have hm : ∀ d, mids (point m c) (ix2 R d) = ctr (U (word tab) 1 R.val d) (point m c (ix2 R d)) := fun d => by
    unfold mids; rw [hl_at, uni_row _ 1 (row1_at tab)]
  have hw : ∀ d, wids (point m c) (ix2 R d) = swid (mids (point m c) (ix2 R d)) (point m c (ix2 R d)) (rwid (U (word tab) 2 R.val d)) := fun d => by
    unfold wids; rw [hwid_at, uni_row _ 2 (row2_at tab)]
  have e := it_start (fun d => point m c (ix2 R d)) (fun d => U (word tab) 1 R.val d) (fun d => U (word tab) 2 R.val d) (fun d => U (word tab) 3 R.val d)
    (fun i d => U (word tab) (i + 4) R.val d) (below (word tab) R.val fun d => point m c (ix2 R d))
    (fun d => by obtain ⟨r, hr, -⟩ := u1_real (word tab 1 0) (word tab 1 1) (BitVec.ofNat 32 (128 * R.val + d.val)); exact ⟨r, hr⟩)
    (fun d => by obtain ⟨r, hr, -, h1⟩ := u1_real (word tab 2 0) (word tab 2 1) (BitVec.ofNat 32 (128 * R.val + d.val)); exact ⟨r, hr, h1⟩)
    (fun d => by
      refine ⟨_, u1_eq _ _ _, div_pos ?_ (by norm_num)⟩
      have h0 : wbits (word tab 3 0) (word tab 3 1) (BitVec.ofNat 32 (128 * R.val + d.val)) ≠ 0 := hp _ (by omega)
      exact_mod_cast Nat.pos_of_ne_zero fun h => h0 (BitVec.eq_of_toNat_eq h))
    (fun hb z => low_bot tab R.val _ hb z) 50
  have e2 : rowAt m c 50 R = it (fun d => point m c (ix2 R d)) (fun i d => U (word tab) (i + 4) R.val d) (below (word tab) R.val fun d => point m c (ix2 R d))
      (start (fun d => ctr (U (word tab) 1 R.val d) (point m c (ix2 R d))) (fun d => swid (ctr (U (word tab) 1 R.val d) (point m c (ix2 R d))) (point m c (ix2 R d)) (rwid (U (word tab) 2 R.val d)))
        (fun d => U (word tab) 3 R.val d) (below (word tab) R.val fun d => point m c (ix2 R d))) 50 := by
    unfold rowAt
    rw [funext hw, funext hm]
    simp only [hm]
  rw [e2, e]
  rfl

end Cert.ReferenceIdeal.Sl
end
-- ==== Proof.Val.Equal.lean ====
/- The two programs' last points are one array. -/
module

public import proofs.«01_k».proof.Proof.Val.Lanes
public import proofs.«01_k».proof.Proof.KI.Final
public import proofs.«01_k».proof.Proof.RI.Final

@[expose] public section

set_option maxRecDepth 65536

noncomputable section

namespace Cert.Core

open Idealize.ShloMosaic Idealize.ShloMosaic.TcCoe

theorem firstKey : ReferenceIdeal.Sl.word ReferenceIdeal.Sl.tab 3 0 = 3568232559#32 ∧ ReferenceIdeal.Sl.word ReferenceIdeal.Sl.tab 3 1 = 2761185182#32 := by
  decide +kernel

theorem pos : ReferenceIdeal.Sl.Pos := fun n hn => by
  rw [firstKey.1, firstKey.2]
  exact draws_some n hn

/-- The programs' key tables are one. -/
theorem word_wd : ReferenceIdeal.Sl.word ReferenceIdeal.Sl.tab = KernelIdeal.Sl.wd KernelIdeal.Sl.tab := by
  funext n j
  unfold ReferenceIdeal.Sl.word KernelIdeal.Sl.wd
  split
  · exact congrArg KernelIdeal.Sl.tab (funext fun a => by match a with | ⟨0, _⟩ => rfl | ⟨1, _⟩ => rfl)
  · rfl

theorem same (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h : ReferenceIdeal.Sl.point m' c = (KernelIdeal.Sl.at' (KernelIdeal.Gen.V0 m c) KernelIdeal.main_arg0 : FVec Ideal KernelIdeal.S16384x128 .f32)) :
    ReferenceIdeal.Sl.at' (ReferenceIdeal.Value.atK m' 50 c) ReferenceIdeal.main_v72_7
      = (KernelIdeal.Sl.at' (KernelIdeal.Gen.V5 m (KernelIdeal.Sl.outs m) c) KernelIdeal.main_v0 : FVec Ideal KernelIdeal.S16384x128 .f32) := by
  refine (ReferenceIdeal.Sl.final_at m' c pos).trans (Eq.trans ?_ (KernelIdeal.Sl.final_at m c).symm)
  rw [word_wd, h]
  rfl

end Cert.Core
end
-- ==== Proof.lean ====
/- The certificate: the frames of the three programs, from their runs, and the values' equality. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KI.Run
public import proofs.«01_k».proof.Proof.KB.Run
public import proofs.«01_k».proof.Proof.RI.Run
public import proofs.«01_k».proof.Proof.Val.Equal
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m g _ =>
  (θ_run _ _ _).mono (fun _ h => ⟨fun c => (h.1 c).1, h.2⟩) (Cert.Kernel.Sl.run m g)

theorem frame_KernelIdeal : Cert.quiescent_KernelIdeal := fun m g _ =>
  (θ_run _ _ _).mono (fun _ h => ⟨fun c => (h.1 c).1, h.2⟩) (Cert.KernelIdeal.Sl.run m g)

theorem frame_ReferenceIdeal : Cert.quiescent_ReferenceIdeal := fun m g _ =>
  (θ_run _ _ _).mono (fun _ h => ⟨fun c => (h.1 c Cert.ReferenceIdeal.main_arg0 rfl).trans (Cert.ReferenceIdeal.Sl.kept m c), h.2⟩)
    (Cert.ReferenceIdeal.Sl.run m g)

theorem equal : Cert.algebraic_KernelIdeal_ReferenceIdeal := fun m g m' g' _ hin => by
  refine ⟨fun c => Cert.KernelIdeal.Gen.V5 m (Cert.KernelIdeal.Sl.outs m) c (Proc.devRef .tc Cert.KernelIdeal.main_v0), ?_, ?_⟩
  · exact (θ_run _ _ _).mono (fun _ h c => ⟨(h.1 c).2, (h.1 c).1⟩) (Cert.KernelIdeal.Sl.run m g)
  · refine (θ_run _ _ _).mono (fun _ h c => ⟨?_, (h.1 c Cert.ReferenceIdeal.main_arg0 rfl).trans (Cert.ReferenceIdeal.Sl.kept m' c)⟩) (Cert.ReferenceIdeal.Sl.run m' g')
    refine (h.1 c Cert.ReferenceIdeal.main_v72_7 rfl).trans ((Cert.ReferenceIdeal.Sl.final_eq m' Cert.ReferenceIdeal.main_v72_7 (by decide +kernel) c).trans ?_)
    exact Cert.Core.same m m' c (hin c)

theorem claim : Cert.Claim := ⟨Cert.Kernel.Gen.facts, Cert.KernelIdeal.Gen.facts, Cert.ReferenceIdeal.Gen.facts,
  frame_Kernel, frame_KernelIdeal, frame_ReferenceIdeal, trivial, equal⟩

end Cert.Proof

end
